-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8192x256 : Shape := ⟨2, ![8192, 256]⟩
abbrev S2x256x256 : Shape := ⟨3, ![2, 256, 256]⟩
abbrev S2 : Shape := ⟨1, ![2]⟩
abbrev S_ : Shape := ⟨0, ![]⟩
abbrev S1 : Shape := ⟨1, ![1]⟩
abbrev S1x256x256 : Shape := ⟨3, ![1, 256, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S8192x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S8192x256, .f32⟩
  | .local _ .vmem, ⟨8, _⟩ => ⟨S8192x256, .f32⟩
  | .local _ .vmem, ⟨9, _⟩ => ⟨S8192x256, .f32⟩
  | .local _ .vmem, ⟨10, _⟩ => ⟨S2x256x256, .f32⟩
  | .local _ .vmem, ⟨11, _⟩ => ⟨S2x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 3 → Bool
  | ⟨0, _⟩ => true
  | ⟨1, _⟩ => true
  | ⟨2, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 3 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v32 : BitVec 32 := Scalar.muli v2 c256_i32
  let v33 : Index := Scalar.indexCast v32
  let c0_20 : Index := 0#32
  ![v33.toNat, 0]
def k0_off2 (d0 : Dev nD) (c0_i32_33 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v53 : BitVec 32 := Scalar.subi v2 c0_i32_33
  let c32_i32_34 : BitVec 32 := 32#32
  let c0_i32_35 : BitVec 32 := 0#32
  let v54 : BitVec 1 := Scalar.cmpi .eq c32_i32_34 c0_i32_35
  let c1_i32_36 : BitVec 32 := 1#32
  let v55 : BitVec 32 := Scalar.select v54 c1_i32_36 c32_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c256_i32_40 : BitVec 32 := 256#32
  let v64 : BitVec 32 := Scalar.muli v63 c256_i32_40
  let c0_i32_45 : BitVec 32 := 0#32
  ![v64.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_43 : BitVec 32 := 1#32
  let v65 : BitVec 32 := Scalar.muli v24 c1_i32_43
  let v66 : BitVec 32 := Scalar.addi c0_i32_44 v65
  v66.toNat
def k0_off3 (d0 : Dev nD) (c0_i32_55 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v85 : BitVec 32 := Scalar.addi v2 c0_i32_55
  let c32_i32_56 : BitVec 32 := 32#32
  let c0_i32_57 : BitVec 32 := 0#32
  let v86 : BitVec 1 := Scalar.cmpi .eq c32_i32_56 c0_i32_57
  let c1_i32_58 : BitVec 32 := 1#32
  let v87 : BitVec 32 := Scalar.select v86 c1_i32_58 c32_i32_56
  let v88 : BitVec 32 := Scalar.remsi v85 v87
  let c0_i32_60 : BitVec 32 := 0#32
  let v90 : BitVec 1 := Scalar.cmpi .slt v88 c0_i32_60
  let c0_i32_61 : BitVec 32 := 0#32
  let v91 : BitVec 1 := Scalar.cmpi .slt v87 c0_i32_61
  let v92 : BitVec 1 := Scalar.xori v90 v91
  let c0_i32_59 : BitVec 32 := 0#32
  let v89 : BitVec 1 := Scalar.cmpi .ne v88 c0_i32_59
  let v93 : BitVec 1 := Scalar.andi v92 v89
  let v94 : BitVec 32 := Scalar.addi v88 v87
  let v95 : BitVec 32 := Scalar.select v93 v94 v88
  let c256_i32_62 : BitVec 32 := 256#32
  let v96 : BitVec 32 := Scalar.muli v95 c256_i32_62
  let c0_i32_67 : BitVec 32 := 0#32
  ![v96.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_65 : BitVec 32 := 1#32
  let v97 : BitVec 32 := Scalar.muli v13 c1_i32_65
  let v98 : BitVec 32 := Scalar.addi c0_i32_66 v97
  v98.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_69 : BitVec 32 := 32#32
  let c0_i32_70 : BitVec 32 := 0#32
  let v105 : BitVec 1 := Scalar.cmpi .eq c32_i32_69 c0_i32_70
  let c1_i32_71 : BitVec 32 := 1#32
  let v106 : BitVec 32 := Scalar.select v105 c1_i32_71 c32_i32_69
  let v107 : BitVec 32 := Scalar.remsi v2 v106
  let c0_i32_73 : BitVec 32 := 0#32
  let v109 : BitVec 1 := Scalar.cmpi .slt v107 c0_i32_73
  let c0_i32_74 : BitVec 32 := 0#32
  let v110 : BitVec 1 := Scalar.cmpi .slt v106 c0_i32_74
  let v111 : BitVec 1 := Scalar.xori v109 v110
  let c0_i32_72 : BitVec 32 := 0#32
  let v108 : BitVec 1 := Scalar.cmpi .ne v107 c0_i32_72
  let v112 : BitVec 1 := Scalar.andi v111 v108
  let v113 : BitVec 32 := Scalar.addi v107 v106
  let v114 : BitVec 32 := Scalar.select v112 v113 v107
  let c256_i32_75 : BitVec 32 := 256#32
  let v115 : BitVec 32 := Scalar.muli v114 c256_i32_75
  let v116 : Index := Scalar.indexCast v115
  let c0_76 : Index := 0#32
  ![v116.toNat, 0]
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_110 : BitVec 32 := 1#32
  let v157 : BitVec 32 := Scalar.muli v13 c1_i32_110
  let v158 : BitVec 32 := Scalar.addi c0_i32_111 v157
  v158.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v159 : BitVec 32 := Scalar.muli v24 c1_i32_113
  let v160 : BitVec 32 := Scalar.addi c0_i32_114 v159
  v160.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_133 : BitVec 32 := 1#32
  let v185 : BitVec 32 := Scalar.muli v24 c1_i32_133
  let v186 : BitVec 32 := Scalar.addi c0_i32_134 v185
  v186.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_155 : BitVec 32 := 1#32
  let v217 : BitVec 32 := Scalar.muli v13 c1_i32_155
  let v218 : BitVec 32 := Scalar.addi c0_i32_156 v217
  v218.toNat
def k0_off5 (d0 : Dev nD) (c0_i32_160 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_159 : BitVec 32 := 1#32
  let v225 : BitVec 32 := Scalar.subi v2 c1_i32_159
  let v226 : BitVec 32 := Scalar.subi v225 c0_i32_160
  let c32_i32_161 : BitVec 32 := 32#32
  let c0_i32_162 : BitVec 32 := 0#32
  let v227 : BitVec 1 := Scalar.cmpi .eq c32_i32_161 c0_i32_162
  let c1_i32_163 : BitVec 32 := 1#32
  let v228 : BitVec 32 := Scalar.select v227 c1_i32_163 c32_i32_161
  let v229 : BitVec 32 := Scalar.remsi v226 v228
  let c0_i32_165 : BitVec 32 := 0#32
  let v231 : BitVec 1 := Scalar.cmpi .slt v229 c0_i32_165
  let c0_i32_166 : BitVec 32 := 0#32
  let v232 : BitVec 1 := Scalar.cmpi .slt v228 c0_i32_166
  let v233 : BitVec 1 := Scalar.xori v231 v232
  let c0_i32_164 : BitVec 32 := 0#32
  let v230 : BitVec 1 := Scalar.cmpi .ne v229 c0_i32_164
  let v234 : BitVec 1 := Scalar.andi v233 v230
  let v235 : BitVec 32 := Scalar.addi v229 v228
  let v236 : BitVec 32 := Scalar.select v234 v235 v229
  let c256_i32_167 : BitVec 32 := 256#32
  let v237 : BitVec 32 := Scalar.muli v236 c256_i32_167
  let v238 : Index := Scalar.indexCast v237
  let c0_168 : Index := 0#32
  ![v238.toNat, 0]
def k0_off6 (d0 : Dev nD) (c0_i32_181 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_180 : BitVec 32 := 1#32
  let v259 : BitVec 32 := Scalar.addi v2 c1_i32_180
  let v260 : BitVec 32 := Scalar.addi v259 c0_i32_181
  let c32_i32_182 : BitVec 32 := 32#32
  let c0_i32_183 : BitVec 32 := 0#32
  let v261 : BitVec 1 := Scalar.cmpi .eq c32_i32_182 c0_i32_183
  let c1_i32_184 : BitVec 32 := 1#32
  let v262 : BitVec 32 := Scalar.select v261 c1_i32_184 c32_i32_182
  let v263 : BitVec 32 := Scalar.remsi v260 v262
  let c0_i32_186 : BitVec 32 := 0#32
  let v265 : BitVec 1 := Scalar.cmpi .slt v263 c0_i32_186
  let c0_i32_187 : BitVec 32 := 0#32
  let v266 : BitVec 1 := Scalar.cmpi .slt v262 c0_i32_187
  let v267 : BitVec 1 := Scalar.xori v265 v266
  let c0_i32_185 : BitVec 32 := 0#32
  let v264 : BitVec 1 := Scalar.cmpi .ne v263 c0_i32_185
  let v268 : BitVec 1 := Scalar.andi v267 v264
  let v269 : BitVec 32 := Scalar.addi v263 v262
  let v270 : BitVec 32 := Scalar.select v268 v269 v263
  let c256_i32_188 : BitVec 32 := 256#32
  let v271 : BitVec 32 := Scalar.muli v270 c256_i32_188
  let v272 : Index := Scalar.indexCast v271
  let c0_189 : Index := 0#32
  ![v272.toNat, 0]
def k0_dev9 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_224 : BitVec 32 := 1#32
  let v313 : BitVec 32 := Scalar.muli v13 c1_i32_224
  let v314 : BitVec 32 := Scalar.addi c0_i32_225 v313
  v314.toNat
def k0_dev10 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_227 : BitVec 32 := 1#32
  let v315 : BitVec 32 := Scalar.muli v24 c1_i32_227
  let v316 : BitVec 32 := Scalar.addi c0_i32_228 v315
  v316.toNat
def k0_dev11 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_251 : BitVec 32 := 1#32
  let v341 : BitVec 32 := Scalar.muli v24 c1_i32_251
  let v342 : BitVec 32 := Scalar.addi c0_i32_252 v341
  v342.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_273 : BitVec 32 := 1#32
  let v373 : BitVec 32 := Scalar.muli v13 c1_i32_273
  let v374 : BitVec 32 := Scalar.addi c0_i32_274 v373
  v374.toNat
def k0_dev13 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_342 : BitVec 32 := 1#32
  let v469 : BitVec 32 := Scalar.muli v13 c1_i32_342
  let v470 : BitVec 32 := Scalar.addi c0_i32_343 v469
  v470.toNat
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_345 : BitVec 32 := 1#32
  let v471 : BitVec 32 := Scalar.muli v24 c1_i32_345
  let v472 : BitVec 32 := Scalar.addi c0_i32_346 v471
  v472.toNat
def k0_dev15 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_368 : BitVec 32 := 1#32
  let v497 : BitVec 32 := Scalar.muli v24 c1_i32_368
  let v498 : BitVec 32 := Scalar.addi c0_i32_369 v497
  v498.toNat
def k0_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_390 : BitVec 32 := 1#32
  let v529 : BitVec 32 := Scalar.muli v13 c1_i32_390
  let v530 : BitVec 32 := Scalar.addi c0_i32_391 v529
  v530.toNat
def k0_dev17 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_459 : BitVec 32 := 1#32
  let v625 : BitVec 32 := Scalar.muli v13 c1_i32_459
  let v626 : BitVec 32 := Scalar.addi c0_i32_460 v625
  v626.toNat
def k0_dev18 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_462 : BitVec 32 := 1#32
  let v627 : BitVec 32 := Scalar.muli v24 c1_i32_462
  let v628 : BitVec 32 := Scalar.addi c0_i32_463 v627
  v628.toNat
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_485 : BitVec 32 := 1#32
  let v653 : BitVec 32 := Scalar.muli v24 c1_i32_485
  let v654 : BitVec 32 := Scalar.addi c0_i32_486 v653
  v654.toNat
def k0_dev20 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_507 : BitVec 32 := 1#32
  let v685 : BitVec 32 := Scalar.muli v13 c1_i32_507
  let v686 : BitVec 32 := Scalar.addi c0_i32_508 v685
  v686.toNat
def k0_dev21 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_576 : BitVec 32 := 1#32
  let v781 : BitVec 32 := Scalar.muli v13 c1_i32_576
  let v782 : BitVec 32 := Scalar.addi c0_i32_577 v781
  v782.toNat
def k0_dev22 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_579 : BitVec 32 := 1#32
  let v783 : BitVec 32 := Scalar.muli v24 c1_i32_579
  let v784 : BitVec 32 := Scalar.addi c0_i32_580 v783
  v784.toNat
def k0_dev23 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_602 : BitVec 32 := 1#32
  let v809 : BitVec 32 := Scalar.muli v24 c1_i32_602
  let v810 : BitVec 32 := Scalar.addi c0_i32_603 v809
  v810.toNat
def k0_dev24 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_624 : BitVec 32 := 1#32
  let v841 : BitVec 32 := Scalar.muli v13 c1_i32_624
  let v842 : BitVec 32 := Scalar.addi c0_i32_625 v841
  v842.toNat
def k0_dev25 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_693 : BitVec 32 := 1#32
  let v937 : BitVec 32 := Scalar.muli v13 c1_i32_693
  let v938 : BitVec 32 := Scalar.addi c0_i32_694 v937
  v938.toNat
def k0_dev26 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_696 : BitVec 32 := 1#32
  let v939 : BitVec 32 := Scalar.muli v24 c1_i32_696
  let v940 : BitVec 32 := Scalar.addi c0_i32_697 v939
  v940.toNat
def k0_dev27 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_719 : BitVec 32 := 1#32
  let v965 : BitVec 32 := Scalar.muli v24 c1_i32_719
  let v966 : BitVec 32 := Scalar.addi c0_i32_720 v965
  v966.toNat
def k0_dev28 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_741 : BitVec 32 := 1#32
  let v997 : BitVec 32 := Scalar.muli v13 c1_i32_741
  let v998 : BitVec 32 := Scalar.addi c0_i32_742 v997
  v998.toNat
def k0_dev29 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_810 : BitVec 32 := 1#32
  let v1093 : BitVec 32 := Scalar.muli v13 c1_i32_810
  let v1094 : BitVec 32 := Scalar.addi c0_i32_811 v1093
  v1094.toNat
def k0_dev30 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_813 : BitVec 32 := 1#32
  let v1095 : BitVec 32 := Scalar.muli v24 c1_i32_813
  let v1096 : BitVec 32 := Scalar.addi c0_i32_814 v1095
  v1096.toNat
def k0_dev31 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_836 : BitVec 32 := 1#32
  let v1121 : BitVec 32 := Scalar.muli v24 c1_i32_836
  let v1122 : BitVec 32 := Scalar.addi c0_i32_837 v1121
  v1122.toNat
def k0_dev32 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_858 : BitVec 32 := 1#32
  let v1153 : BitVec 32 := Scalar.muli v13 c1_i32_858
  let v1154 : BitVec 32 := Scalar.addi c0_i32_859 v1153
  v1154.toNat
def k0_dev33 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_927 : BitVec 32 := 1#32
  let v1249 : BitVec 32 := Scalar.muli v13 c1_i32_927
  let v1250 : BitVec 32 := Scalar.addi c0_i32_928 v1249
  v1250.toNat
def k0_dev34 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_930 : BitVec 32 := 1#32
  let v1251 : BitVec 32 := Scalar.muli v24 c1_i32_930
  let v1252 : BitVec 32 := Scalar.addi c0_i32_931 v1251
  v1252.toNat
def k0_dev35 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_953 : BitVec 32 := 1#32
  let v1277 : BitVec 32 := Scalar.muli v24 c1_i32_953
  let v1278 : BitVec 32 := Scalar.addi c0_i32_954 v1277
  v1278.toNat
def k0_dev36 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_975 : BitVec 32 := 1#32
  let v1309 : BitVec 32 := Scalar.muli v13 c1_i32_975
  let v1310 : BitVec 32 := Scalar.addi c0_i32_976 v1309
  v1310.toNat
def k0_dev37 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1044 : BitVec 32 := 1#32
  let v1405 : BitVec 32 := Scalar.muli v13 c1_i32_1044
  let v1406 : BitVec 32 := Scalar.addi c0_i32_1045 v1405
  v1406.toNat
def k0_dev38 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1047 : BitVec 32 := 1#32
  let v1407 : BitVec 32 := Scalar.muli v24 c1_i32_1047
  let v1408 : BitVec 32 := Scalar.addi c0_i32_1048 v1407
  v1408.toNat
def k0_dev39 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1070 : BitVec 32 := 1#32
  let v1433 : BitVec 32 := Scalar.muli v24 c1_i32_1070
  let v1434 : BitVec 32 := Scalar.addi c0_i32_1071 v1433
  v1434.toNat
def k0_dev40 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1092 : BitVec 32 := 1#32
  let v1465 : BitVec 32 := Scalar.muli v13 c1_i32_1092
  let v1466 : BitVec 32 := Scalar.addi c0_i32_1093 v1465
  v1466.toNat
def k0_dev41 (d0 : Dev nD) : Nat :=
  let c0_i32_1162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1161 : BitVec 32 := 1#32
  let v1561 : BitVec 32 := Scalar.muli v13 c1_i32_1161
  let v1562 : BitVec 32 := Scalar.addi c0_i32_1162 v1561
  v1562.toNat
def k0_dev42 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1164 : BitVec 32 := 1#32
  let v1563 : BitVec 32 := Scalar.muli v24 c1_i32_1164
  let v1564 : BitVec 32 := Scalar.addi c0_i32_1165 v1563
  v1564.toNat
def k0_dev43 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1589 : BitVec 32 := Scalar.muli v24 c1_i32_1187
  let v1590 : BitVec 32 := Scalar.addi c0_i32_1188 v1589
  v1590.toNat
def k0_dev44 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1209 : BitVec 32 := 1#32
  let v1621 : BitVec 32 := Scalar.muli v13 c1_i32_1209
  let v1622 : BitVec 32 := Scalar.addi c0_i32_1210 v1621
  v1622.toNat
def k0_dev45 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1278 : BitVec 32 := 1#32
  let v1717 : BitVec 32 := Scalar.muli v13 c1_i32_1278
  let v1718 : BitVec 32 := Scalar.addi c0_i32_1279 v1717
  v1718.toNat
def k0_dev46 (d0 : Dev nD) : Nat :=
  let c0_i32_1282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1281 : BitVec 32 := 1#32
  let v1719 : BitVec 32 := Scalar.muli v24 c1_i32_1281
  let v1720 : BitVec 32 := Scalar.addi c0_i32_1282 v1719
  v1720.toNat
def k0_dev47 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1304 : BitVec 32 := 1#32
  let v1745 : BitVec 32 := Scalar.muli v24 c1_i32_1304
  let v1746 : BitVec 32 := Scalar.addi c0_i32_1305 v1745
  v1746.toNat
def k0_dev48 (d0 : Dev nD) : Nat :=
  let c0_i32_1327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1326 : BitVec 32 := 1#32
  let v1777 : BitVec 32 := Scalar.muli v13 c1_i32_1326
  let v1778 : BitVec 32 := Scalar.addi c0_i32_1327 v1777
  v1778.toNat
def k0_dev49 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1395 : BitVec 32 := 1#32
  let v1873 : BitVec 32 := Scalar.muli v13 c1_i32_1395
  let v1874 : BitVec 32 := Scalar.addi c0_i32_1396 v1873
  v1874.toNat
def k0_dev50 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1398 : BitVec 32 := 1#32
  let v1875 : BitVec 32 := Scalar.muli v24 c1_i32_1398
  let v1876 : BitVec 32 := Scalar.addi c0_i32_1399 v1875
  v1876.toNat
def k0_dev51 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1421 : BitVec 32 := 1#32
  let v1901 : BitVec 32 := Scalar.muli v24 c1_i32_1421
  let v1902 : BitVec 32 := Scalar.addi c0_i32_1422 v1901
  v1902.toNat
def k0_dev52 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1443 : BitVec 32 := 1#32
  let v1933 : BitVec 32 := Scalar.muli v13 c1_i32_1443
  let v1934 : BitVec 32 := Scalar.addi c0_i32_1444 v1933
  v1934.toNat
def k0_dev53 (d0 : Dev nD) : Nat :=
  let c0_i32_1513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1512 : BitVec 32 := 1#32
  let v2029 : BitVec 32 := Scalar.muli v13 c1_i32_1512
  let v2030 : BitVec 32 := Scalar.addi c0_i32_1513 v2029
  v2030.toNat
def k0_dev54 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1515 : BitVec 32 := 1#32
  let v2031 : BitVec 32 := Scalar.muli v24 c1_i32_1515
  let v2032 : BitVec 32 := Scalar.addi c0_i32_1516 v2031
  v2032.toNat
def k0_dev55 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1538 : BitVec 32 := 1#32
  let v2057 : BitVec 32 := Scalar.muli v24 c1_i32_1538
  let v2058 : BitVec 32 := Scalar.addi c0_i32_1539 v2057
  v2058.toNat
def k0_dev56 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1560 : BitVec 32 := 1#32
  let v2089 : BitVec 32 := Scalar.muli v13 c1_i32_1560
  let v2090 : BitVec 32 := Scalar.addi c0_i32_1561 v2089
  v2090.toNat
def k0_dev57 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v2185 : BitVec 32 := Scalar.muli v13 c1_i32_1629
  let v2186 : BitVec 32 := Scalar.addi c0_i32_1630 v2185
  v2186.toNat
def k0_dev58 (d0 : Dev nD) : Nat :=
  let c0_i32_1633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1632 : BitVec 32 := 1#32
  let v2187 : BitVec 32 := Scalar.muli v24 c1_i32_1632
  let v2188 : BitVec 32 := Scalar.addi c0_i32_1633 v2187
  v2188.toNat
def k0_dev59 (d0 : Dev nD) : Nat :=
  let c0_i32_1656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1655 : BitVec 32 := 1#32
  let v2213 : BitVec 32 := Scalar.muli v24 c1_i32_1655
  let v2214 : BitVec 32 := Scalar.addi c0_i32_1656 v2213
  v2214.toNat
def k0_dev60 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1677 : BitVec 32 := 1#32
  let v2245 : BitVec 32 := Scalar.muli v13 c1_i32_1677
  let v2246 : BitVec 32 := Scalar.addi c0_i32_1678 v2245
  v2246.toNat
def k0_dev61 (d0 : Dev nD) : Nat :=
  let c0_i32_1747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1746 : BitVec 32 := 1#32
  let v2341 : BitVec 32 := Scalar.muli v13 c1_i32_1746
  let v2342 : BitVec 32 := Scalar.addi c0_i32_1747 v2341
  v2342.toNat
def k0_dev62 (d0 : Dev nD) : Nat :=
  let c0_i32_1750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1749 : BitVec 32 := 1#32
  let v2343 : BitVec 32 := Scalar.muli v24 c1_i32_1749
  let v2344 : BitVec 32 := Scalar.addi c0_i32_1750 v2343
  v2344.toNat
def k0_dev63 (d0 : Dev nD) : Nat :=
  let c0_i32_1771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1770 : BitVec 32 := 1#32
  let v2369 : BitVec 32 := Scalar.muli v24 c1_i32_1770
  let v2370 : BitVec 32 := Scalar.addi c0_i32_1771 v2369
  v2370.toNat
def k0_dev64 (d0 : Dev nD) : Nat :=
  let c0_i32_1829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1828 : BitVec 32 := 1#32
  let v2455 : BitVec 32 := Scalar.muli v13 c1_i32_1828
  let v2456 : BitVec 32 := Scalar.addi c0_i32_1829 v2455
  v2456.toNat
def k0_off7 (d0 : Dev nD) (c0_i32_1855 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v2491 : BitVec 32 := Scalar.addi v2 c16_i32
  let v2492 : BitVec 32 := Scalar.subi v2491 c0_i32_1855
  let c32_i32_1856 : BitVec 32 := 32#32
  let c0_i32_1857 : BitVec 32 := 0#32
  let v2493 : BitVec 1 := Scalar.cmpi .eq c32_i32_1856 c0_i32_1857
  let c1_i32_1858 : BitVec 32 := 1#32
  let v2494 : BitVec 32 := Scalar.select v2493 c1_i32_1858 c32_i32_1856
  let v2495 : BitVec 32 := Scalar.remsi v2492 v2494
  let c0_i32_1860 : BitVec 32 := 0#32
  let v2497 : BitVec 1 := Scalar.cmpi .slt v2495 c0_i32_1860
  let c0_i32_1861 : BitVec 32 := 0#32
  let v2498 : BitVec 1 := Scalar.cmpi .slt v2494 c0_i32_1861
  let v2499 : BitVec 1 := Scalar.xori v2497 v2498
  let c0_i32_1859 : BitVec 32 := 0#32
  let v2496 : BitVec 1 := Scalar.cmpi .ne v2495 c0_i32_1859
  let v2500 : BitVec 1 := Scalar.andi v2499 v2496
  let v2501 : BitVec 32 := Scalar.addi v2495 v2494
  let v2502 : BitVec 32 := Scalar.select v2500 v2501 v2495
  let c256_i32_1862 : BitVec 32 := 256#32
  let v2503 : BitVec 32 := Scalar.muli v2502 c256_i32_1862
  let c0_i32_1870 : BitVec 32 := 0#32
  ![v2503.toNat, 0]
def k0_dev65 (d0 : Dev nD) : Nat :=
  let c0_i32_1867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1866 : BitVec 32 := 1#32
  let v2504 : BitVec 32 := Scalar.muli v24 c1_i32_1866
  let v2505 : BitVec 32 := Scalar.addi c0_i32_1867 v2504
  v2505.toNat
def k0_off8 (d0 : Dev nD) (c0_i32_1872 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1871 : BitVec 32 := 15#32
  let v2513 : BitVec 32 := Scalar.subi v2 c15_i32_1871
  let v2514 : BitVec 32 := Scalar.addi v2513 c0_i32_1872
  let c32_i32_1873 : BitVec 32 := 32#32
  let c0_i32_1874 : BitVec 32 := 0#32
  let v2515 : BitVec 1 := Scalar.cmpi .eq c32_i32_1873 c0_i32_1874
  let c1_i32_1875 : BitVec 32 := 1#32
  let v2516 : BitVec 32 := Scalar.select v2515 c1_i32_1875 c32_i32_1873
  let v2517 : BitVec 32 := Scalar.remsi v2514 v2516
  let c0_i32_1877 : BitVec 32 := 0#32
  let v2519 : BitVec 1 := Scalar.cmpi .slt v2517 c0_i32_1877
  let c0_i32_1878 : BitVec 32 := 0#32
  let v2520 : BitVec 1 := Scalar.cmpi .slt v2516 c0_i32_1878
  let v2521 : BitVec 1 := Scalar.xori v2519 v2520
  let c0_i32_1876 : BitVec 32 := 0#32
  let v2518 : BitVec 1 := Scalar.cmpi .ne v2517 c0_i32_1876
  let v2522 : BitVec 1 := Scalar.andi v2521 v2518
  let v2523 : BitVec 32 := Scalar.addi v2517 v2516
  let v2524 : BitVec 32 := Scalar.select v2522 v2523 v2517
  let c256_i32_1879 : BitVec 32 := 256#32
  let v2525 : BitVec 32 := Scalar.muli v2524 c256_i32_1879
  let c0_i32_1887 : BitVec 32 := 0#32
  ![v2525.toNat, 0]
def k0_dev66 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1883 : BitVec 32 := 1#32
  let v2526 : BitVec 32 := Scalar.muli v13 c1_i32_1883
  let v2527 : BitVec 32 := Scalar.addi c0_i32_1884 v2526
  v2527.toNat
def k0_off9 (d0 : Dev nD) (c0_i32_1920 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1918 : BitVec 32 := 16#32
  let v2559 : BitVec 32 := Scalar.addi v2 c16_i32_1918
  let c1_i32_1919 : BitVec 32 := 1#32
  let v2560 : BitVec 32 := Scalar.subi v2559 c1_i32_1919
  let v2561 : BitVec 32 := Scalar.subi v2560 c0_i32_1920
  let c32_i32_1921 : BitVec 32 := 32#32
  let c0_i32_1922 : BitVec 32 := 0#32
  let v2562 : BitVec 1 := Scalar.cmpi .eq c32_i32_1921 c0_i32_1922
  let c1_i32_1923 : BitVec 32 := 1#32
  let v2563 : BitVec 32 := Scalar.select v2562 c1_i32_1923 c32_i32_1921
  let v2564 : BitVec 32 := Scalar.remsi v2561 v2563
  let c0_i32_1925 : BitVec 32 := 0#32
  let v2566 : BitVec 1 := Scalar.cmpi .slt v2564 c0_i32_1925
  let c0_i32_1926 : BitVec 32 := 0#32
  let v2567 : BitVec 1 := Scalar.cmpi .slt v2563 c0_i32_1926
  let v2568 : BitVec 1 := Scalar.xori v2566 v2567
  let c0_i32_1924 : BitVec 32 := 0#32
  let v2565 : BitVec 1 := Scalar.cmpi .ne v2564 c0_i32_1924
  let v2569 : BitVec 1 := Scalar.andi v2568 v2565
  let v2570 : BitVec 32 := Scalar.addi v2564 v2563
  let v2571 : BitVec 32 := Scalar.select v2569 v2570 v2564
  let c256_i32_1927 : BitVec 32 := 256#32
  let v2572 : BitVec 32 := Scalar.muli v2571 c256_i32_1927
  let v2573 : Index := Scalar.indexCast v2572
  let c0_1928 : Index := 0#32
  ![v2573.toNat, 0]
def k0_dev67 (d0 : Dev nD) : Nat :=
  let c0_i32_1935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1934 : BitVec 32 := 1#32
  let v2582 : BitVec 32 := Scalar.muli v13 c1_i32_1934
  let v2583 : BitVec 32 := Scalar.addi c0_i32_1935 v2582
  v2583.toNat
def k0_off10 (d0 : Dev nD) (c0_i32_1938 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1936 : BitVec 32 := 15#32
  let v2584 : BitVec 32 := Scalar.subi v2 c15_i32_1936
  let c1_i32_1937 : BitVec 32 := 1#32
  let v2585 : BitVec 32 := Scalar.addi v2584 c1_i32_1937
  let v2586 : BitVec 32 := Scalar.addi v2585 c0_i32_1938
  let c32_i32_1939 : BitVec 32 := 32#32
  let c0_i32_1940 : BitVec 32 := 0#32
  let v2587 : BitVec 1 := Scalar.cmpi .eq c32_i32_1939 c0_i32_1940
  let c1_i32_1941 : BitVec 32 := 1#32
  let v2588 : BitVec 32 := Scalar.select v2587 c1_i32_1941 c32_i32_1939
  let v2589 : BitVec 32 := Scalar.remsi v2586 v2588
  let c0_i32_1943 : BitVec 32 := 0#32
  let v2591 : BitVec 1 := Scalar.cmpi .slt v2589 c0_i32_1943
  let c0_i32_1944 : BitVec 32 := 0#32
  let v2592 : BitVec 1 := Scalar.cmpi .slt v2588 c0_i32_1944
  let v2593 : BitVec 1 := Scalar.xori v2591 v2592
  let c0_i32_1942 : BitVec 32 := 0#32
  let v2590 : BitVec 1 := Scalar.cmpi .ne v2589 c0_i32_1942
  let v2594 : BitVec 1 := Scalar.andi v2593 v2590
  let v2595 : BitVec 32 := Scalar.addi v2589 v2588
  let v2596 : BitVec 32 := Scalar.select v2594 v2595 v2589
  let c256_i32_1945 : BitVec 32 := 256#32
  let v2597 : BitVec 32 := Scalar.muli v2596 c256_i32_1945
  let v2598 : Index := Scalar.indexCast v2597
  let c0_1946 : Index := 0#32
  ![v2598.toNat, 0]
def k0_dev68 (d0 : Dev nD) : Nat :=
  let c0_i32_1953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1952 : BitVec 32 := 1#32
  let v2607 : BitVec 32 := Scalar.muli v24 c1_i32_1952
  let v2608 : BitVec 32 := Scalar.addi c0_i32_1953 v2607
  v2608.toNat
def k0_dev69 (d0 : Dev nD) : Nat :=
  let c0_i32_1967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1966 : BitVec 32 := 1#32
  let v2622 : BitVec 32 := Scalar.muli v24 c1_i32_1966
  let v2623 : BitVec 32 := Scalar.addi c0_i32_1967 v2622
  v2623.toNat
def k0_dev70 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1983 : BitVec 32 := 1#32
  let v2644 : BitVec 32 := Scalar.muli v13 c1_i32_1983
  let v2645 : BitVec 32 := Scalar.addi c0_i32_1984 v2644
  v2645.toNat
def k0_dev71 (d0 : Dev nD) : Nat :=
  let c0_i32_2034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2033 : BitVec 32 := 1#32
  let v2700 : BitVec 32 := Scalar.muli v13 c1_i32_2033
  let v2701 : BitVec 32 := Scalar.addi c0_i32_2034 v2700
  v2701.toNat
def k0_dev72 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2051 : BitVec 32 := 1#32
  let v2725 : BitVec 32 := Scalar.muli v24 c1_i32_2051
  let v2726 : BitVec 32 := Scalar.addi c0_i32_2052 v2725
  v2726.toNat
def k0_dev73 (d0 : Dev nD) : Nat :=
  let c0_i32_2070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2069 : BitVec 32 := 1#32
  let v2740 : BitVec 32 := Scalar.muli v24 c1_i32_2069
  let v2741 : BitVec 32 := Scalar.addi c0_i32_2070 v2740
  v2741.toNat
def k0_dev74 (d0 : Dev nD) : Nat :=
  let c0_i32_2087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2086 : BitVec 32 := 1#32
  let v2762 : BitVec 32 := Scalar.muli v13 c1_i32_2086
  let v2763 : BitVec 32 := Scalar.addi c0_i32_2087 v2762
  v2763.toNat
def k0_dev75 (d0 : Dev nD) : Nat :=
  let c0_i32_2138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2137 : BitVec 32 := 1#32
  let v2818 : BitVec 32 := Scalar.muli v13 c1_i32_2137
  let v2819 : BitVec 32 := Scalar.addi c0_i32_2138 v2818
  v2819.toNat
def k0_dev76 (d0 : Dev nD) : Nat :=
  let c0_i32_2156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2155 : BitVec 32 := 1#32
  let v2843 : BitVec 32 := Scalar.muli v24 c1_i32_2155
  let v2844 : BitVec 32 := Scalar.addi c0_i32_2156 v2843
  v2844.toNat
def k0_dev77 (d0 : Dev nD) : Nat :=
  let c0_i32_2174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2173 : BitVec 32 := 1#32
  let v2858 : BitVec 32 := Scalar.muli v24 c1_i32_2173
  let v2859 : BitVec 32 := Scalar.addi c0_i32_2174 v2858
  v2859.toNat
def k0_dev78 (d0 : Dev nD) : Nat :=
  let c0_i32_2191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2190 : BitVec 32 := 1#32
  let v2880 : BitVec 32 := Scalar.muli v13 c1_i32_2190
  let v2881 : BitVec 32 := Scalar.addi c0_i32_2191 v2880
  v2881.toNat
def k0_dev79 (d0 : Dev nD) : Nat :=
  let c0_i32_2242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2241 : BitVec 32 := 1#32
  let v2936 : BitVec 32 := Scalar.muli v13 c1_i32_2241
  let v2937 : BitVec 32 := Scalar.addi c0_i32_2242 v2936
  v2937.toNat
def k0_dev80 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2259 : BitVec 32 := 1#32
  let v2961 : BitVec 32 := Scalar.muli v24 c1_i32_2259
  let v2962 : BitVec 32 := Scalar.addi c0_i32_2260 v2961
  v2962.toNat
def k0_dev81 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2277 : BitVec 32 := 1#32
  let v2976 : BitVec 32 := Scalar.muli v24 c1_i32_2277
  let v2977 : BitVec 32 := Scalar.addi c0_i32_2278 v2976
  v2977.toNat
def k0_dev82 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2294 : BitVec 32 := 1#32
  let v2998 : BitVec 32 := Scalar.muli v13 c1_i32_2294
  let v2999 : BitVec 32 := Scalar.addi c0_i32_2295 v2998
  v2999.toNat
def k0_dev83 (d0 : Dev nD) : Nat :=
  let c0_i32_2346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2345 : BitVec 32 := 1#32
  let v3054 : BitVec 32 := Scalar.muli v13 c1_i32_2345
  let v3055 : BitVec 32 := Scalar.addi c0_i32_2346 v3054
  v3055.toNat
def k0_dev84 (d0 : Dev nD) : Nat :=
  let c0_i32_2364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2363 : BitVec 32 := 1#32
  let v3079 : BitVec 32 := Scalar.muli v24 c1_i32_2363
  let v3080 : BitVec 32 := Scalar.addi c0_i32_2364 v3079
  v3080.toNat
def k0_dev85 (d0 : Dev nD) : Nat :=
  let c0_i32_2382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2381 : BitVec 32 := 1#32
  let v3094 : BitVec 32 := Scalar.muli v24 c1_i32_2381
  let v3095 : BitVec 32 := Scalar.addi c0_i32_2382 v3094
  v3095.toNat
def k0_dev86 (d0 : Dev nD) : Nat :=
  let c0_i32_2399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2398 : BitVec 32 := 1#32
  let v3116 : BitVec 32 := Scalar.muli v13 c1_i32_2398
  let v3117 : BitVec 32 := Scalar.addi c0_i32_2399 v3116
  v3117.toNat
def k0_dev87 (d0 : Dev nD) : Nat :=
  let c0_i32_2450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2449 : BitVec 32 := 1#32
  let v3172 : BitVec 32 := Scalar.muli v13 c1_i32_2449
  let v3173 : BitVec 32 := Scalar.addi c0_i32_2450 v3172
  v3173.toNat
def k0_dev88 (d0 : Dev nD) : Nat :=
  let c0_i32_2468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2467 : BitVec 32 := 1#32
  let v3197 : BitVec 32 := Scalar.muli v24 c1_i32_2467
  let v3198 : BitVec 32 := Scalar.addi c0_i32_2468 v3197
  v3198.toNat
def k0_dev89 (d0 : Dev nD) : Nat :=
  let c0_i32_2486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2485 : BitVec 32 := 1#32
  let v3212 : BitVec 32 := Scalar.muli v24 c1_i32_2485
  let v3213 : BitVec 32 := Scalar.addi c0_i32_2486 v3212
  v3213.toNat
def k0_dev90 (d0 : Dev nD) : Nat :=
  let c0_i32_2503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2502 : BitVec 32 := 1#32
  let v3234 : BitVec 32 := Scalar.muli v13 c1_i32_2502
  let v3235 : BitVec 32 := Scalar.addi c0_i32_2503 v3234
  v3235.toNat
def k0_dev91 (d0 : Dev nD) : Nat :=
  let c0_i32_2554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2553 : BitVec 32 := 1#32
  let v3290 : BitVec 32 := Scalar.muli v13 c1_i32_2553
  let v3291 : BitVec 32 := Scalar.addi c0_i32_2554 v3290
  v3291.toNat
def k0_dev92 (d0 : Dev nD) : Nat :=
  let c0_i32_2572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2571 : BitVec 32 := 1#32
  let v3315 : BitVec 32 := Scalar.muli v24 c1_i32_2571
  let v3316 : BitVec 32 := Scalar.addi c0_i32_2572 v3315
  v3316.toNat
def k0_dev93 (d0 : Dev nD) : Nat :=
  let c0_i32_2590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2589 : BitVec 32 := 1#32
  let v3330 : BitVec 32 := Scalar.muli v24 c1_i32_2589
  let v3331 : BitVec 32 := Scalar.addi c0_i32_2590 v3330
  v3331.toNat
def k0_dev94 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2606 : BitVec 32 := 1#32
  let v3352 : BitVec 32 := Scalar.muli v13 c1_i32_2606
  let v3353 : BitVec 32 := Scalar.addi c0_i32_2607 v3352
  v3353.toNat
def k0_dev95 (d0 : Dev nD) : Nat :=
  let c0_i32_2658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2657 : BitVec 32 := 1#32
  let v3408 : BitVec 32 := Scalar.muli v13 c1_i32_2657
  let v3409 : BitVec 32 := Scalar.addi c0_i32_2658 v3408
  v3409.toNat
def k0_dev96 (d0 : Dev nD) : Nat :=
  let c0_i32_2676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2675 : BitVec 32 := 1#32
  let v3433 : BitVec 32 := Scalar.muli v24 c1_i32_2675
  let v3434 : BitVec 32 := Scalar.addi c0_i32_2676 v3433
  v3434.toNat
def k0_dev97 (d0 : Dev nD) : Nat :=
  let c0_i32_2694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2693 : BitVec 32 := 1#32
  let v3448 : BitVec 32 := Scalar.muli v24 c1_i32_2693
  let v3449 : BitVec 32 := Scalar.addi c0_i32_2694 v3448
  v3449.toNat
def k0_dev98 (d0 : Dev nD) : Nat :=
  let c0_i32_2711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2710 : BitVec 32 := 1#32
  let v3470 : BitVec 32 := Scalar.muli v13 c1_i32_2710
  let v3471 : BitVec 32 := Scalar.addi c0_i32_2711 v3470
  v3471.toNat
def k0_dev99 (d0 : Dev nD) : Nat :=
  let c0_i32_2762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2761 : BitVec 32 := 1#32
  let v3526 : BitVec 32 := Scalar.muli v13 c1_i32_2761
  let v3527 : BitVec 32 := Scalar.addi c0_i32_2762 v3526
  v3527.toNat
def k0_dev100 (d0 : Dev nD) : Nat :=
  let c0_i32_2780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2779 : BitVec 32 := 1#32
  let v3551 : BitVec 32 := Scalar.muli v24 c1_i32_2779
  let v3552 : BitVec 32 := Scalar.addi c0_i32_2780 v3551
  v3552.toNat
def k0_dev101 (d0 : Dev nD) : Nat :=
  let c0_i32_2798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2797 : BitVec 32 := 1#32
  let v3566 : BitVec 32 := Scalar.muli v24 c1_i32_2797
  let v3567 : BitVec 32 := Scalar.addi c0_i32_2798 v3566
  v3567.toNat
def k0_dev102 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2814 : BitVec 32 := 1#32
  let v3588 : BitVec 32 := Scalar.muli v13 c1_i32_2814
  let v3589 : BitVec 32 := Scalar.addi c0_i32_2815 v3588
  v3589.toNat
def k0_dev103 (d0 : Dev nD) : Nat :=
  let c0_i32_2866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2865 : BitVec 32 := 1#32
  let v3644 : BitVec 32 := Scalar.muli v13 c1_i32_2865
  let v3645 : BitVec 32 := Scalar.addi c0_i32_2866 v3644
  v3645.toNat
def k0_dev104 (d0 : Dev nD) : Nat :=
  let c0_i32_2884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2883 : BitVec 32 := 1#32
  let v3669 : BitVec 32 := Scalar.muli v24 c1_i32_2883
  let v3670 : BitVec 32 := Scalar.addi c0_i32_2884 v3669
  v3670.toNat
def k0_dev105 (d0 : Dev nD) : Nat :=
  let c0_i32_2902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2901 : BitVec 32 := 1#32
  let v3684 : BitVec 32 := Scalar.muli v24 c1_i32_2901
  let v3685 : BitVec 32 := Scalar.addi c0_i32_2902 v3684
  v3685.toNat
def k0_dev106 (d0 : Dev nD) : Nat :=
  let c0_i32_2919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2918 : BitVec 32 := 1#32
  let v3706 : BitVec 32 := Scalar.muli v13 c1_i32_2918
  let v3707 : BitVec 32 := Scalar.addi c0_i32_2919 v3706
  v3707.toNat
def k0_dev107 (d0 : Dev nD) : Nat :=
  let c0_i32_2970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2969 : BitVec 32 := 1#32
  let v3762 : BitVec 32 := Scalar.muli v13 c1_i32_2969
  let v3763 : BitVec 32 := Scalar.addi c0_i32_2970 v3762
  v3763.toNat
def k0_dev108 (d0 : Dev nD) : Nat :=
  let c0_i32_2988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2987 : BitVec 32 := 1#32
  let v3787 : BitVec 32 := Scalar.muli v24 c1_i32_2987
  let v3788 : BitVec 32 := Scalar.addi c0_i32_2988 v3787
  v3788.toNat
def k0_dev109 (d0 : Dev nD) : Nat :=
  let c0_i32_3006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3005 : BitVec 32 := 1#32
  let v3802 : BitVec 32 := Scalar.muli v24 c1_i32_3005
  let v3803 : BitVec 32 := Scalar.addi c0_i32_3006 v3802
  v3803.toNat
def k0_dev110 (d0 : Dev nD) : Nat :=
  let c0_i32_3023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3022 : BitVec 32 := 1#32
  let v3824 : BitVec 32 := Scalar.muli v13 c1_i32_3022
  let v3825 : BitVec 32 := Scalar.addi c0_i32_3023 v3824
  v3825.toNat
def k0_dev111 (d0 : Dev nD) : Nat :=
  let c0_i32_3074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3073 : BitVec 32 := 1#32
  let v3880 : BitVec 32 := Scalar.muli v13 c1_i32_3073
  let v3881 : BitVec 32 := Scalar.addi c0_i32_3074 v3880
  v3881.toNat
def k0_dev112 (d0 : Dev nD) : Nat :=
  let c0_i32_3092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3091 : BitVec 32 := 1#32
  let v3905 : BitVec 32 := Scalar.muli v24 c1_i32_3091
  let v3906 : BitVec 32 := Scalar.addi c0_i32_3092 v3905
  v3906.toNat
def k0_dev113 (d0 : Dev nD) : Nat :=
  let c0_i32_3110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3109 : BitVec 32 := 1#32
  let v3920 : BitVec 32 := Scalar.muli v24 c1_i32_3109
  let v3921 : BitVec 32 := Scalar.addi c0_i32_3110 v3920
  v3921.toNat
def k0_dev114 (d0 : Dev nD) : Nat :=
  let c0_i32_3127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3126 : BitVec 32 := 1#32
  let v3942 : BitVec 32 := Scalar.muli v13 c1_i32_3126
  let v3943 : BitVec 32 := Scalar.addi c0_i32_3127 v3942
  v3943.toNat
def k0_dev115 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3177 : BitVec 32 := 1#32
  let v3998 : BitVec 32 := Scalar.muli v13 c1_i32_3177
  let v3999 : BitVec 32 := Scalar.addi c0_i32_3178 v3998
  v3999.toNat
def k0_dev116 (d0 : Dev nD) : Nat :=
  let c0_i32_3196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3195 : BitVec 32 := 1#32
  let v4023 : BitVec 32 := Scalar.muli v24 c1_i32_3195
  let v4024 : BitVec 32 := Scalar.addi c0_i32_3196 v4023
  v4024.toNat
def k0_dev117 (d0 : Dev nD) : Nat :=
  let c0_i32_3214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3213 : BitVec 32 := 1#32
  let v4038 : BitVec 32 := Scalar.muli v24 c1_i32_3213
  let v4039 : BitVec 32 := Scalar.addi c0_i32_3214 v4038
  v4039.toNat
def k0_dev118 (d0 : Dev nD) : Nat :=
  let c0_i32_3231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3230 : BitVec 32 := 1#32
  let v4060 : BitVec 32 := Scalar.muli v13 c1_i32_3230
  let v4061 : BitVec 32 := Scalar.addi c0_i32_3231 v4060
  v4061.toNat
def k0_dev119 (d0 : Dev nD) : Nat :=
  let c0_i32_3282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3281 : BitVec 32 := 1#32
  let v4116 : BitVec 32 := Scalar.muli v13 c1_i32_3281
  let v4117 : BitVec 32 := Scalar.addi c0_i32_3282 v4116
  v4117.toNat
def k0_dev120 (d0 : Dev nD) : Nat :=
  let c0_i32_3300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3299 : BitVec 32 := 1#32
  let v4141 : BitVec 32 := Scalar.muli v24 c1_i32_3299
  let v4142 : BitVec 32 := Scalar.addi c0_i32_3300 v4141
  v4142.toNat
def k0_dev121 (d0 : Dev nD) : Nat :=
  let c0_i32_3318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3317 : BitVec 32 := 1#32
  let v4156 : BitVec 32 := Scalar.muli v24 c1_i32_3317
  let v4157 : BitVec 32 := Scalar.addi c0_i32_3318 v4156
  v4157.toNat
def k0_dev122 (d0 : Dev nD) : Nat :=
  let c0_i32_3335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3334 : BitVec 32 := 1#32
  let v4178 : BitVec 32 := Scalar.muli v13 c1_i32_3334
  let v4179 : BitVec 32 := Scalar.addi c0_i32_3335 v4178
  v4179.toNat
def k0_dev123 (d0 : Dev nD) : Nat :=
  let c0_i32_3386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3385 : BitVec 32 := 1#32
  let v4234 : BitVec 32 := Scalar.muli v13 c1_i32_3385
  let v4235 : BitVec 32 := Scalar.addi c0_i32_3386 v4234
  v4235.toNat
def k0_dev124 (d0 : Dev nD) : Nat :=
  let c0_i32_3404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3403 : BitVec 32 := 1#32
  let v4259 : BitVec 32 := Scalar.muli v24 c1_i32_3403
  let v4260 : BitVec 32 := Scalar.addi c0_i32_3404 v4259
  v4260.toNat
def k0_dev125 (d0 : Dev nD) : Nat :=
  let c0_i32_3420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3419 : BitVec 32 := 1#32
  let v4274 : BitVec 32 := Scalar.muli v24 c1_i32_3419
  let v4275 : BitVec 32 := Scalar.addi c0_i32_3420 v4274
  v4275.toNat
def k0_dev126 (d0 : Dev nD) : Nat :=
  let c0_i32_3456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3455 : BitVec 32 := 1#32
  let v4318 : BitVec 32 := Scalar.muli v13 c1_i32_3455
  let v4319 : BitVec 32 := Scalar.addi c0_i32_3456 v4318
  v4319.toNat
def k0_dev127 (d0 : Dev nD) : Nat :=
  let c0_i32_3484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3483 : BitVec 32 := 1#32
  let v4348 : BitVec 32 := Scalar.muli v24 c1_i32_3483
  let v4349 : BitVec 32 := Scalar.addi c0_i32_3484 v4348
  v4349.toNat
def k0_dev128 (d0 : Dev nD) : Nat :=
  let c0_i32_3506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3505 : BitVec 32 := 1#32
  let v4380 : BitVec 32 := Scalar.muli v13 c1_i32_3505
  let v4381 : BitVec 32 := Scalar.addi c0_i32_3506 v4380
  v4381.toNat
def k0_dev129 (d0 : Dev nD) : Nat :=
  let c0_i32_3552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3551 : BitVec 32 := 1#32
  let v4440 : BitVec 32 := Scalar.muli v13 c1_i32_3551
  let v4441 : BitVec 32 := Scalar.addi c0_i32_3552 v4440
  v4441.toNat
def k0_dev130 (d0 : Dev nD) : Nat :=
  let c0_i32_3555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3554 : BitVec 32 := 1#32
  let v4442 : BitVec 32 := Scalar.muli v24 c1_i32_3554
  let v4443 : BitVec 32 := Scalar.addi c0_i32_3555 v4442
  v4443.toNat
def k0_dev131 (d0 : Dev nD) : Nat :=
  let c0_i32_3575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3574 : BitVec 32 := 1#32
  let v4468 : BitVec 32 := Scalar.muli v24 c1_i32_3574
  let v4469 : BitVec 32 := Scalar.addi c0_i32_3575 v4468
  v4469.toNat
def k0_dev132 (d0 : Dev nD) : Nat :=
  let c0_i32_3597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3596 : BitVec 32 := 1#32
  let v4500 : BitVec 32 := Scalar.muli v13 c1_i32_3596
  let v4501 : BitVec 32 := Scalar.addi c0_i32_3597 v4500
  v4501.toNat
def k0_dev133 (d0 : Dev nD) : Nat :=
  let c0_i32_3666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3665 : BitVec 32 := 1#32
  let v4596 : BitVec 32 := Scalar.muli v13 c1_i32_3665
  let v4597 : BitVec 32 := Scalar.addi c0_i32_3666 v4596
  v4597.toNat
def k0_dev134 (d0 : Dev nD) : Nat :=
  let c0_i32_3669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3668 : BitVec 32 := 1#32
  let v4598 : BitVec 32 := Scalar.muli v24 c1_i32_3668
  let v4599 : BitVec 32 := Scalar.addi c0_i32_3669 v4598
  v4599.toNat
def k0_dev135 (d0 : Dev nD) : Nat :=
  let c0_i32_3693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3692 : BitVec 32 := 1#32
  let v4624 : BitVec 32 := Scalar.muli v24 c1_i32_3692
  let v4625 : BitVec 32 := Scalar.addi c0_i32_3693 v4624
  v4625.toNat
def k0_dev136 (d0 : Dev nD) : Nat :=
  let c0_i32_3715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3714 : BitVec 32 := 1#32
  let v4656 : BitVec 32 := Scalar.muli v13 c1_i32_3714
  let v4657 : BitVec 32 := Scalar.addi c0_i32_3715 v4656
  v4657.toNat
def k0_dev137 (d0 : Dev nD) : Nat :=
  let c0_i32_3784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3783 : BitVec 32 := 1#32
  let v4752 : BitVec 32 := Scalar.muli v13 c1_i32_3783
  let v4753 : BitVec 32 := Scalar.addi c0_i32_3784 v4752
  v4753.toNat
def k0_dev138 (d0 : Dev nD) : Nat :=
  let c0_i32_3787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3786 : BitVec 32 := 1#32
  let v4754 : BitVec 32 := Scalar.muli v24 c1_i32_3786
  let v4755 : BitVec 32 := Scalar.addi c0_i32_3787 v4754
  v4755.toNat
def k0_dev139 (d0 : Dev nD) : Nat :=
  let c0_i32_3811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3810 : BitVec 32 := 1#32
  let v4780 : BitVec 32 := Scalar.muli v24 c1_i32_3810
  let v4781 : BitVec 32 := Scalar.addi c0_i32_3811 v4780
  v4781.toNat
def k0_dev140 (d0 : Dev nD) : Nat :=
  let c0_i32_3833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3832 : BitVec 32 := 1#32
  let v4812 : BitVec 32 := Scalar.muli v13 c1_i32_3832
  let v4813 : BitVec 32 := Scalar.addi c0_i32_3833 v4812
  v4813.toNat
def k0_dev141 (d0 : Dev nD) : Nat :=
  let c0_i32_3902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3901 : BitVec 32 := 1#32
  let v4908 : BitVec 32 := Scalar.muli v13 c1_i32_3901
  let v4909 : BitVec 32 := Scalar.addi c0_i32_3902 v4908
  v4909.toNat
def k0_dev142 (d0 : Dev nD) : Nat :=
  let c0_i32_3905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3904 : BitVec 32 := 1#32
  let v4910 : BitVec 32 := Scalar.muli v24 c1_i32_3904
  let v4911 : BitVec 32 := Scalar.addi c0_i32_3905 v4910
  v4911.toNat
def k0_dev143 (d0 : Dev nD) : Nat :=
  let c0_i32_3929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3928 : BitVec 32 := 1#32
  let v4936 : BitVec 32 := Scalar.muli v24 c1_i32_3928
  let v4937 : BitVec 32 := Scalar.addi c0_i32_3929 v4936
  v4937.toNat
def k0_dev144 (d0 : Dev nD) : Nat :=
  let c0_i32_3951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3950 : BitVec 32 := 1#32
  let v4968 : BitVec 32 := Scalar.muli v13 c1_i32_3950
  let v4969 : BitVec 32 := Scalar.addi c0_i32_3951 v4968
  v4969.toNat
def k0_dev145 (d0 : Dev nD) : Nat :=
  let c0_i32_4020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4019 : BitVec 32 := 1#32
  let v5064 : BitVec 32 := Scalar.muli v13 c1_i32_4019
  let v5065 : BitVec 32 := Scalar.addi c0_i32_4020 v5064
  v5065.toNat
def k0_dev146 (d0 : Dev nD) : Nat :=
  let c0_i32_4023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4022 : BitVec 32 := 1#32
  let v5066 : BitVec 32 := Scalar.muli v24 c1_i32_4022
  let v5067 : BitVec 32 := Scalar.addi c0_i32_4023 v5066
  v5067.toNat
def k0_dev147 (d0 : Dev nD) : Nat :=
  let c0_i32_4047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4046 : BitVec 32 := 1#32
  let v5092 : BitVec 32 := Scalar.muli v24 c1_i32_4046
  let v5093 : BitVec 32 := Scalar.addi c0_i32_4047 v5092
  v5093.toNat
def k0_dev148 (d0 : Dev nD) : Nat :=
  let c0_i32_4069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4068 : BitVec 32 := 1#32
  let v5124 : BitVec 32 := Scalar.muli v13 c1_i32_4068
  let v5125 : BitVec 32 := Scalar.addi c0_i32_4069 v5124
  v5125.toNat
def k0_dev149 (d0 : Dev nD) : Nat :=
  let c0_i32_4138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4137 : BitVec 32 := 1#32
  let v5220 : BitVec 32 := Scalar.muli v13 c1_i32_4137
  let v5221 : BitVec 32 := Scalar.addi c0_i32_4138 v5220
  v5221.toNat
def k0_dev150 (d0 : Dev nD) : Nat :=
  let c0_i32_4141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4140 : BitVec 32 := 1#32
  let v5222 : BitVec 32 := Scalar.muli v24 c1_i32_4140
  let v5223 : BitVec 32 := Scalar.addi c0_i32_4141 v5222
  v5223.toNat
def k0_dev151 (d0 : Dev nD) : Nat :=
  let c0_i32_4165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4164 : BitVec 32 := 1#32
  let v5248 : BitVec 32 := Scalar.muli v24 c1_i32_4164
  let v5249 : BitVec 32 := Scalar.addi c0_i32_4165 v5248
  v5249.toNat
def k0_dev152 (d0 : Dev nD) : Nat :=
  let c0_i32_4187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4186 : BitVec 32 := 1#32
  let v5280 : BitVec 32 := Scalar.muli v13 c1_i32_4186
  let v5281 : BitVec 32 := Scalar.addi c0_i32_4187 v5280
  v5281.toNat
def k0_dev153 (d0 : Dev nD) : Nat :=
  let c0_i32_4256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4255 : BitVec 32 := 1#32
  let v5376 : BitVec 32 := Scalar.muli v13 c1_i32_4255
  let v5377 : BitVec 32 := Scalar.addi c0_i32_4256 v5376
  v5377.toNat
def k0_dev154 (d0 : Dev nD) : Nat :=
  let c0_i32_4259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4258 : BitVec 32 := 1#32
  let v5378 : BitVec 32 := Scalar.muli v24 c1_i32_4258
  let v5379 : BitVec 32 := Scalar.addi c0_i32_4259 v5378
  v5379.toNat
def k0_dev155 (d0 : Dev nD) : Nat :=
  let c0_i32_4283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4282 : BitVec 32 := 1#32
  let v5404 : BitVec 32 := Scalar.muli v24 c1_i32_4282
  let v5405 : BitVec 32 := Scalar.addi c0_i32_4283 v5404
  v5405.toNat
def k0_dev156 (d0 : Dev nD) : Nat :=
  let c0_i32_4305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4304 : BitVec 32 := 1#32
  let v5436 : BitVec 32 := Scalar.muli v13 c1_i32_4304
  let v5437 : BitVec 32 := Scalar.addi c0_i32_4305 v5436
  v5437.toNat
def k0_dev157 (d0 : Dev nD) : Nat :=
  let c0_i32_4374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4373 : BitVec 32 := 1#32
  let v5532 : BitVec 32 := Scalar.muli v13 c1_i32_4373
  let v5533 : BitVec 32 := Scalar.addi c0_i32_4374 v5532
  v5533.toNat
def k0_dev158 (d0 : Dev nD) : Nat :=
  let c0_i32_4377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4376 : BitVec 32 := 1#32
  let v5534 : BitVec 32 := Scalar.muli v24 c1_i32_4376
  let v5535 : BitVec 32 := Scalar.addi c0_i32_4377 v5534
  v5535.toNat
def k0_dev159 (d0 : Dev nD) : Nat :=
  let c0_i32_4401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4400 : BitVec 32 := 1#32
  let v5560 : BitVec 32 := Scalar.muli v24 c1_i32_4400
  let v5561 : BitVec 32 := Scalar.addi c0_i32_4401 v5560
  v5561.toNat
def k0_dev160 (d0 : Dev nD) : Nat :=
  let c0_i32_4423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4422 : BitVec 32 := 1#32
  let v5592 : BitVec 32 := Scalar.muli v13 c1_i32_4422
  let v5593 : BitVec 32 := Scalar.addi c0_i32_4423 v5592
  v5593.toNat
def k0_dev161 (d0 : Dev nD) : Nat :=
  let c0_i32_4492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4491 : BitVec 32 := 1#32
  let v5688 : BitVec 32 := Scalar.muli v13 c1_i32_4491
  let v5689 : BitVec 32 := Scalar.addi c0_i32_4492 v5688
  v5689.toNat
def k0_dev162 (d0 : Dev nD) : Nat :=
  let c0_i32_4495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4494 : BitVec 32 := 1#32
  let v5690 : BitVec 32 := Scalar.muli v24 c1_i32_4494
  let v5691 : BitVec 32 := Scalar.addi c0_i32_4495 v5690
  v5691.toNat
def k0_dev163 (d0 : Dev nD) : Nat :=
  let c0_i32_4519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4518 : BitVec 32 := 1#32
  let v5716 : BitVec 32 := Scalar.muli v24 c1_i32_4518
  let v5717 : BitVec 32 := Scalar.addi c0_i32_4519 v5716
  v5717.toNat
def k0_dev164 (d0 : Dev nD) : Nat :=
  let c0_i32_4541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4540 : BitVec 32 := 1#32
  let v5748 : BitVec 32 := Scalar.muli v13 c1_i32_4540
  let v5749 : BitVec 32 := Scalar.addi c0_i32_4541 v5748
  v5749.toNat
def k0_dev165 (d0 : Dev nD) : Nat :=
  let c0_i32_4610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4609 : BitVec 32 := 1#32
  let v5844 : BitVec 32 := Scalar.muli v13 c1_i32_4609
  let v5845 : BitVec 32 := Scalar.addi c0_i32_4610 v5844
  v5845.toNat
def k0_dev166 (d0 : Dev nD) : Nat :=
  let c0_i32_4613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4612 : BitVec 32 := 1#32
  let v5846 : BitVec 32 := Scalar.muli v24 c1_i32_4612
  let v5847 : BitVec 32 := Scalar.addi c0_i32_4613 v5846
  v5847.toNat
def k0_dev167 (d0 : Dev nD) : Nat :=
  let c0_i32_4637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4636 : BitVec 32 := 1#32
  let v5872 : BitVec 32 := Scalar.muli v24 c1_i32_4636
  let v5873 : BitVec 32 := Scalar.addi c0_i32_4637 v5872
  v5873.toNat
def k0_dev168 (d0 : Dev nD) : Nat :=
  let c0_i32_4659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4658 : BitVec 32 := 1#32
  let v5904 : BitVec 32 := Scalar.muli v13 c1_i32_4658
  let v5905 : BitVec 32 := Scalar.addi c0_i32_4659 v5904
  v5905.toNat
def k0_dev169 (d0 : Dev nD) : Nat :=
  let c0_i32_4728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4727 : BitVec 32 := 1#32
  let v6000 : BitVec 32 := Scalar.muli v13 c1_i32_4727
  let v6001 : BitVec 32 := Scalar.addi c0_i32_4728 v6000
  v6001.toNat
def k0_dev170 (d0 : Dev nD) : Nat :=
  let c0_i32_4731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4730 : BitVec 32 := 1#32
  let v6002 : BitVec 32 := Scalar.muli v24 c1_i32_4730
  let v6003 : BitVec 32 := Scalar.addi c0_i32_4731 v6002
  v6003.toNat
def k0_dev171 (d0 : Dev nD) : Nat :=
  let c0_i32_4755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4754 : BitVec 32 := 1#32
  let v6028 : BitVec 32 := Scalar.muli v24 c1_i32_4754
  let v6029 : BitVec 32 := Scalar.addi c0_i32_4755 v6028
  v6029.toNat
def k0_dev172 (d0 : Dev nD) : Nat :=
  let c0_i32_4777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4776 : BitVec 32 := 1#32
  let v6060 : BitVec 32 := Scalar.muli v13 c1_i32_4776
  let v6061 : BitVec 32 := Scalar.addi c0_i32_4777 v6060
  v6061.toNat
def k0_dev173 (d0 : Dev nD) : Nat :=
  let c0_i32_4846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4845 : BitVec 32 := 1#32
  let v6156 : BitVec 32 := Scalar.muli v13 c1_i32_4845
  let v6157 : BitVec 32 := Scalar.addi c0_i32_4846 v6156
  v6157.toNat
def k0_dev174 (d0 : Dev nD) : Nat :=
  let c0_i32_4849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4848 : BitVec 32 := 1#32
  let v6158 : BitVec 32 := Scalar.muli v24 c1_i32_4848
  let v6159 : BitVec 32 := Scalar.addi c0_i32_4849 v6158
  v6159.toNat
def k0_dev175 (d0 : Dev nD) : Nat :=
  let c0_i32_4873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4872 : BitVec 32 := 1#32
  let v6184 : BitVec 32 := Scalar.muli v24 c1_i32_4872
  let v6185 : BitVec 32 := Scalar.addi c0_i32_4873 v6184
  v6185.toNat
def k0_dev176 (d0 : Dev nD) : Nat :=
  let c0_i32_4895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4894 : BitVec 32 := 1#32
  let v6216 : BitVec 32 := Scalar.muli v13 c1_i32_4894
  let v6217 : BitVec 32 := Scalar.addi c0_i32_4895 v6216
  v6217.toNat
def k0_dev177 (d0 : Dev nD) : Nat :=
  let c0_i32_4964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4963 : BitVec 32 := 1#32
  let v6312 : BitVec 32 := Scalar.muli v13 c1_i32_4963
  let v6313 : BitVec 32 := Scalar.addi c0_i32_4964 v6312
  v6313.toNat
def k0_dev178 (d0 : Dev nD) : Nat :=
  let c0_i32_4967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4966 : BitVec 32 := 1#32
  let v6314 : BitVec 32 := Scalar.muli v24 c1_i32_4966
  let v6315 : BitVec 32 := Scalar.addi c0_i32_4967 v6314
  v6315.toNat
def k0_dev179 (d0 : Dev nD) : Nat :=
  let c0_i32_4991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4990 : BitVec 32 := 1#32
  let v6340 : BitVec 32 := Scalar.muli v24 c1_i32_4990
  let v6341 : BitVec 32 := Scalar.addi c0_i32_4991 v6340
  v6341.toNat
def k0_dev180 (d0 : Dev nD) : Nat :=
  let c0_i32_5013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5012 : BitVec 32 := 1#32
  let v6372 : BitVec 32 := Scalar.muli v13 c1_i32_5012
  let v6373 : BitVec 32 := Scalar.addi c0_i32_5013 v6372
  v6373.toNat
def k0_dev181 (d0 : Dev nD) : Nat :=
  let c0_i32_5082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5081 : BitVec 32 := 1#32
  let v6468 : BitVec 32 := Scalar.muli v13 c1_i32_5081
  let v6469 : BitVec 32 := Scalar.addi c0_i32_5082 v6468
  v6469.toNat
def k0_dev182 (d0 : Dev nD) : Nat :=
  let c0_i32_5085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5084 : BitVec 32 := 1#32
  let v6470 : BitVec 32 := Scalar.muli v24 c1_i32_5084
  let v6471 : BitVec 32 := Scalar.addi c0_i32_5085 v6470
  v6471.toNat
def k0_dev183 (d0 : Dev nD) : Nat :=
  let c0_i32_5109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5108 : BitVec 32 := 1#32
  let v6496 : BitVec 32 := Scalar.muli v24 c1_i32_5108
  let v6497 : BitVec 32 := Scalar.addi c0_i32_5109 v6496
  v6497.toNat
def k0_dev184 (d0 : Dev nD) : Nat :=
  let c0_i32_5131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5130 : BitVec 32 := 1#32
  let v6528 : BitVec 32 := Scalar.muli v13 c1_i32_5130
  let v6529 : BitVec 32 := Scalar.addi c0_i32_5131 v6528
  v6529.toNat
def k0_dev185 (d0 : Dev nD) : Nat :=
  let c0_i32_5200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5199 : BitVec 32 := 1#32
  let v6624 : BitVec 32 := Scalar.muli v13 c1_i32_5199
  let v6625 : BitVec 32 := Scalar.addi c0_i32_5200 v6624
  v6625.toNat
def k0_dev186 (d0 : Dev nD) : Nat :=
  let c0_i32_5203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5202 : BitVec 32 := 1#32
  let v6626 : BitVec 32 := Scalar.muli v24 c1_i32_5202
  let v6627 : BitVec 32 := Scalar.addi c0_i32_5203 v6626
  v6627.toNat
def k0_dev187 (d0 : Dev nD) : Nat :=
  let c0_i32_5225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5224 : BitVec 32 := 1#32
  let v6652 : BitVec 32 := Scalar.muli v24 c1_i32_5224
  let v6653 : BitVec 32 := Scalar.addi c0_i32_5225 v6652
  v6653.toNat
def k0_dev188 (d0 : Dev nD) : Nat :=
  let c0_i32_5283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5282 : BitVec 32 := 1#32
  let v6738 : BitVec 32 := Scalar.muli v13 c1_i32_5282
  let v6739 : BitVec 32 := Scalar.addi c0_i32_5283 v6738
  v6739.toNat
def k0_dev189 (d0 : Dev nD) : Nat :=
  let c0_i32_5322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5321 : BitVec 32 := 1#32
  let v6787 : BitVec 32 := Scalar.muli v24 c1_i32_5321
  let v6788 : BitVec 32 := Scalar.addi c0_i32_5322 v6787
  v6788.toNat
def k0_dev190 (d0 : Dev nD) : Nat :=
  let c0_i32_5339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5338 : BitVec 32 := 1#32
  let v6809 : BitVec 32 := Scalar.muli v13 c1_i32_5338
  let v6810 : BitVec 32 := Scalar.addi c0_i32_5339 v6809
  v6810.toNat
def k0_dev191 (d0 : Dev nD) : Nat :=
  let c0_i32_5390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5389 : BitVec 32 := 1#32
  let v6865 : BitVec 32 := Scalar.muli v13 c1_i32_5389
  let v6866 : BitVec 32 := Scalar.addi c0_i32_5390 v6865
  v6866.toNat
def k0_dev192 (d0 : Dev nD) : Nat :=
  let c0_i32_5408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5407 : BitVec 32 := 1#32
  let v6890 : BitVec 32 := Scalar.muli v24 c1_i32_5407
  let v6891 : BitVec 32 := Scalar.addi c0_i32_5408 v6890
  v6891.toNat
def k0_dev193 (d0 : Dev nD) : Nat :=
  let c0_i32_5422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5421 : BitVec 32 := 1#32
  let v6905 : BitVec 32 := Scalar.muli v24 c1_i32_5421
  let v6906 : BitVec 32 := Scalar.addi c0_i32_5422 v6905
  v6906.toNat
def k0_dev194 (d0 : Dev nD) : Nat :=
  let c0_i32_5439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5438 : BitVec 32 := 1#32
  let v6927 : BitVec 32 := Scalar.muli v13 c1_i32_5438
  let v6928 : BitVec 32 := Scalar.addi c0_i32_5439 v6927
  v6928.toNat
def k0_dev195 (d0 : Dev nD) : Nat :=
  let c0_i32_5490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5489 : BitVec 32 := 1#32
  let v6983 : BitVec 32 := Scalar.muli v13 c1_i32_5489
  let v6984 : BitVec 32 := Scalar.addi c0_i32_5490 v6983
  v6984.toNat
def k0_dev196 (d0 : Dev nD) : Nat :=
  let c0_i32_5508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5507 : BitVec 32 := 1#32
  let v7008 : BitVec 32 := Scalar.muli v24 c1_i32_5507
  let v7009 : BitVec 32 := Scalar.addi c0_i32_5508 v7008
  v7009.toNat
def k0_dev197 (d0 : Dev nD) : Nat :=
  let c0_i32_5526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5525 : BitVec 32 := 1#32
  let v7023 : BitVec 32 := Scalar.muli v24 c1_i32_5525
  let v7024 : BitVec 32 := Scalar.addi c0_i32_5526 v7023
  v7024.toNat
def k0_dev198 (d0 : Dev nD) : Nat :=
  let c0_i32_5543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5542 : BitVec 32 := 1#32
  let v7045 : BitVec 32 := Scalar.muli v13 c1_i32_5542
  let v7046 : BitVec 32 := Scalar.addi c0_i32_5543 v7045
  v7046.toNat
def k0_dev199 (d0 : Dev nD) : Nat :=
  let c0_i32_5594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5593 : BitVec 32 := 1#32
  let v7101 : BitVec 32 := Scalar.muli v13 c1_i32_5593
  let v7102 : BitVec 32 := Scalar.addi c0_i32_5594 v7101
  v7102.toNat
def k0_dev200 (d0 : Dev nD) : Nat :=
  let c0_i32_5612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5611 : BitVec 32 := 1#32
  let v7126 : BitVec 32 := Scalar.muli v24 c1_i32_5611
  let v7127 : BitVec 32 := Scalar.addi c0_i32_5612 v7126
  v7127.toNat
def k0_dev201 (d0 : Dev nD) : Nat :=
  let c0_i32_5630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5629 : BitVec 32 := 1#32
  let v7141 : BitVec 32 := Scalar.muli v24 c1_i32_5629
  let v7142 : BitVec 32 := Scalar.addi c0_i32_5630 v7141
  v7142.toNat
def k0_dev202 (d0 : Dev nD) : Nat :=
  let c0_i32_5647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5646 : BitVec 32 := 1#32
  let v7163 : BitVec 32 := Scalar.muli v13 c1_i32_5646
  let v7164 : BitVec 32 := Scalar.addi c0_i32_5647 v7163
  v7164.toNat
def k0_dev203 (d0 : Dev nD) : Nat :=
  let c0_i32_5698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5697 : BitVec 32 := 1#32
  let v7219 : BitVec 32 := Scalar.muli v13 c1_i32_5697
  let v7220 : BitVec 32 := Scalar.addi c0_i32_5698 v7219
  v7220.toNat
def k0_dev204 (d0 : Dev nD) : Nat :=
  let c0_i32_5716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5715 : BitVec 32 := 1#32
  let v7244 : BitVec 32 := Scalar.muli v24 c1_i32_5715
  let v7245 : BitVec 32 := Scalar.addi c0_i32_5716 v7244
  v7245.toNat
def k0_dev205 (d0 : Dev nD) : Nat :=
  let c0_i32_5734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5733 : BitVec 32 := 1#32
  let v7259 : BitVec 32 := Scalar.muli v24 c1_i32_5733
  let v7260 : BitVec 32 := Scalar.addi c0_i32_5734 v7259
  v7260.toNat
def k0_dev206 (d0 : Dev nD) : Nat :=
  let c0_i32_5751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5750 : BitVec 32 := 1#32
  let v7281 : BitVec 32 := Scalar.muli v13 c1_i32_5750
  let v7282 : BitVec 32 := Scalar.addi c0_i32_5751 v7281
  v7282.toNat
def k0_dev207 (d0 : Dev nD) : Nat :=
  let c0_i32_5802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5801 : BitVec 32 := 1#32
  let v7337 : BitVec 32 := Scalar.muli v13 c1_i32_5801
  let v7338 : BitVec 32 := Scalar.addi c0_i32_5802 v7337
  v7338.toNat
def k0_dev208 (d0 : Dev nD) : Nat :=
  let c0_i32_5820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5819 : BitVec 32 := 1#32
  let v7362 : BitVec 32 := Scalar.muli v24 c1_i32_5819
  let v7363 : BitVec 32 := Scalar.addi c0_i32_5820 v7362
  v7363.toNat
def k0_dev209 (d0 : Dev nD) : Nat :=
  let c0_i32_5838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5837 : BitVec 32 := 1#32
  let v7377 : BitVec 32 := Scalar.muli v24 c1_i32_5837
  let v7378 : BitVec 32 := Scalar.addi c0_i32_5838 v7377
  v7378.toNat
def k0_dev210 (d0 : Dev nD) : Nat :=
  let c0_i32_5855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5854 : BitVec 32 := 1#32
  let v7399 : BitVec 32 := Scalar.muli v13 c1_i32_5854
  let v7400 : BitVec 32 := Scalar.addi c0_i32_5855 v7399
  v7400.toNat
def k0_dev211 (d0 : Dev nD) : Nat :=
  let c0_i32_5906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5905 : BitVec 32 := 1#32
  let v7455 : BitVec 32 := Scalar.muli v13 c1_i32_5905
  let v7456 : BitVec 32 := Scalar.addi c0_i32_5906 v7455
  v7456.toNat
def k0_dev212 (d0 : Dev nD) : Nat :=
  let c0_i32_5924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5923 : BitVec 32 := 1#32
  let v7480 : BitVec 32 := Scalar.muli v24 c1_i32_5923
  let v7481 : BitVec 32 := Scalar.addi c0_i32_5924 v7480
  v7481.toNat
def k0_dev213 (d0 : Dev nD) : Nat :=
  let c0_i32_5942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5941 : BitVec 32 := 1#32
  let v7495 : BitVec 32 := Scalar.muli v24 c1_i32_5941
  let v7496 : BitVec 32 := Scalar.addi c0_i32_5942 v7495
  v7496.toNat
def k0_dev214 (d0 : Dev nD) : Nat :=
  let c0_i32_5959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5958 : BitVec 32 := 1#32
  let v7517 : BitVec 32 := Scalar.muli v13 c1_i32_5958
  let v7518 : BitVec 32 := Scalar.addi c0_i32_5959 v7517
  v7518.toNat
def k0_dev215 (d0 : Dev nD) : Nat :=
  let c0_i32_6010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6009 : BitVec 32 := 1#32
  let v7573 : BitVec 32 := Scalar.muli v13 c1_i32_6009
  let v7574 : BitVec 32 := Scalar.addi c0_i32_6010 v7573
  v7574.toNat
def k0_dev216 (d0 : Dev nD) : Nat :=
  let c0_i32_6028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6027 : BitVec 32 := 1#32
  let v7598 : BitVec 32 := Scalar.muli v24 c1_i32_6027
  let v7599 : BitVec 32 := Scalar.addi c0_i32_6028 v7598
  v7599.toNat
def k0_dev217 (d0 : Dev nD) : Nat :=
  let c0_i32_6046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6045 : BitVec 32 := 1#32
  let v7613 : BitVec 32 := Scalar.muli v24 c1_i32_6045
  let v7614 : BitVec 32 := Scalar.addi c0_i32_6046 v7613
  v7614.toNat
def k0_dev218 (d0 : Dev nD) : Nat :=
  let c0_i32_6063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6062 : BitVec 32 := 1#32
  let v7635 : BitVec 32 := Scalar.muli v13 c1_i32_6062
  let v7636 : BitVec 32 := Scalar.addi c0_i32_6063 v7635
  v7636.toNat
def k0_dev219 (d0 : Dev nD) : Nat :=
  let c0_i32_6114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6113 : BitVec 32 := 1#32
  let v7691 : BitVec 32 := Scalar.muli v13 c1_i32_6113
  let v7692 : BitVec 32 := Scalar.addi c0_i32_6114 v7691
  v7692.toNat
def k0_dev220 (d0 : Dev nD) : Nat :=
  let c0_i32_6132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6131 : BitVec 32 := 1#32
  let v7716 : BitVec 32 := Scalar.muli v24 c1_i32_6131
  let v7717 : BitVec 32 := Scalar.addi c0_i32_6132 v7716
  v7717.toNat
def k0_dev221 (d0 : Dev nD) : Nat :=
  let c0_i32_6150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6149 : BitVec 32 := 1#32
  let v7731 : BitVec 32 := Scalar.muli v24 c1_i32_6149
  let v7732 : BitVec 32 := Scalar.addi c0_i32_6150 v7731
  v7732.toNat
def k0_dev222 (d0 : Dev nD) : Nat :=
  let c0_i32_6167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6166 : BitVec 32 := 1#32
  let v7753 : BitVec 32 := Scalar.muli v13 c1_i32_6166
  let v7754 : BitVec 32 := Scalar.addi c0_i32_6167 v7753
  v7754.toNat
def k0_dev223 (d0 : Dev nD) : Nat :=
  let c0_i32_6218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6217 : BitVec 32 := 1#32
  let v7809 : BitVec 32 := Scalar.muli v13 c1_i32_6217
  let v7810 : BitVec 32 := Scalar.addi c0_i32_6218 v7809
  v7810.toNat
def k0_dev224 (d0 : Dev nD) : Nat :=
  let c0_i32_6236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6235 : BitVec 32 := 1#32
  let v7834 : BitVec 32 := Scalar.muli v24 c1_i32_6235
  let v7835 : BitVec 32 := Scalar.addi c0_i32_6236 v7834
  v7835.toNat
def k0_dev225 (d0 : Dev nD) : Nat :=
  let c0_i32_6254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6253 : BitVec 32 := 1#32
  let v7849 : BitVec 32 := Scalar.muli v24 c1_i32_6253
  let v7850 : BitVec 32 := Scalar.addi c0_i32_6254 v7849
  v7850.toNat
def k0_dev226 (d0 : Dev nD) : Nat :=
  let c0_i32_6271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6270 : BitVec 32 := 1#32
  let v7871 : BitVec 32 := Scalar.muli v13 c1_i32_6270
  let v7872 : BitVec 32 := Scalar.addi c0_i32_6271 v7871
  v7872.toNat
def k0_dev227 (d0 : Dev nD) : Nat :=
  let c0_i32_6322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6321 : BitVec 32 := 1#32
  let v7927 : BitVec 32 := Scalar.muli v13 c1_i32_6321
  let v7928 : BitVec 32 := Scalar.addi c0_i32_6322 v7927
  v7928.toNat
def k0_dev228 (d0 : Dev nD) : Nat :=
  let c0_i32_6340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6339 : BitVec 32 := 1#32
  let v7952 : BitVec 32 := Scalar.muli v24 c1_i32_6339
  let v7953 : BitVec 32 := Scalar.addi c0_i32_6340 v7952
  v7953.toNat
def k0_dev229 (d0 : Dev nD) : Nat :=
  let c0_i32_6358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6357 : BitVec 32 := 1#32
  let v7967 : BitVec 32 := Scalar.muli v24 c1_i32_6357
  let v7968 : BitVec 32 := Scalar.addi c0_i32_6358 v7967
  v7968.toNat
def k0_dev230 (d0 : Dev nD) : Nat :=
  let c0_i32_6375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6374 : BitVec 32 := 1#32
  let v7989 : BitVec 32 := Scalar.muli v13 c1_i32_6374
  let v7990 : BitVec 32 := Scalar.addi c0_i32_6375 v7989
  v7990.toNat
def k0_dev231 (d0 : Dev nD) : Nat :=
  let c0_i32_6426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6425 : BitVec 32 := 1#32
  let v8045 : BitVec 32 := Scalar.muli v13 c1_i32_6425
  let v8046 : BitVec 32 := Scalar.addi c0_i32_6426 v8045
  v8046.toNat
def k0_dev232 (d0 : Dev nD) : Nat :=
  let c0_i32_6444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6443 : BitVec 32 := 1#32
  let v8070 : BitVec 32 := Scalar.muli v24 c1_i32_6443
  let v8071 : BitVec 32 := Scalar.addi c0_i32_6444 v8070
  v8071.toNat
def k0_dev233 (d0 : Dev nD) : Nat :=
  let c0_i32_6462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6461 : BitVec 32 := 1#32
  let v8085 : BitVec 32 := Scalar.muli v24 c1_i32_6461
  let v8086 : BitVec 32 := Scalar.addi c0_i32_6462 v8085
  v8086.toNat
def k0_dev234 (d0 : Dev nD) : Nat :=
  let c0_i32_6479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6478 : BitVec 32 := 1#32
  let v8107 : BitVec 32 := Scalar.muli v13 c1_i32_6478
  let v8108 : BitVec 32 := Scalar.addi c0_i32_6479 v8107
  v8108.toNat
def k0_dev235 (d0 : Dev nD) : Nat :=
  let c0_i32_6530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6529 : BitVec 32 := 1#32
  let v8163 : BitVec 32 := Scalar.muli v13 c1_i32_6529
  let v8164 : BitVec 32 := Scalar.addi c0_i32_6530 v8163
  v8164.toNat
def k0_dev236 (d0 : Dev nD) : Nat :=
  let c0_i32_6548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6547 : BitVec 32 := 1#32
  let v8188 : BitVec 32 := Scalar.muli v24 c1_i32_6547
  let v8189 : BitVec 32 := Scalar.addi c0_i32_6548 v8188
  v8189.toNat
def k0_dev237 (d0 : Dev nD) : Nat :=
  let c0_i32_6566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6565 : BitVec 32 := 1#32
  let v8203 : BitVec 32 := Scalar.muli v24 c1_i32_6565
  let v8204 : BitVec 32 := Scalar.addi c0_i32_6566 v8203
  v8204.toNat
def k0_dev238 (d0 : Dev nD) : Nat :=
  let c0_i32_6583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6582 : BitVec 32 := 1#32
  let v8225 : BitVec 32 := Scalar.muli v13 c1_i32_6582
  let v8226 : BitVec 32 := Scalar.addi c0_i32_6583 v8225
  v8226.toNat
def k0_dev239 (d0 : Dev nD) : Nat :=
  let c0_i32_6634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6633 : BitVec 32 := 1#32
  let v8281 : BitVec 32 := Scalar.muli v13 c1_i32_6633
  let v8282 : BitVec 32 := Scalar.addi c0_i32_6634 v8281
  v8282.toNat
def k0_dev240 (d0 : Dev nD) : Nat :=
  let c0_i32_6652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6651 : BitVec 32 := 1#32
  let v8306 : BitVec 32 := Scalar.muli v24 c1_i32_6651
  let v8307 : BitVec 32 := Scalar.addi c0_i32_6652 v8306
  v8307.toNat
def k0_dev241 (d0 : Dev nD) : Nat :=
  let c0_i32_6670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6669 : BitVec 32 := 1#32
  let v8321 : BitVec 32 := Scalar.muli v24 c1_i32_6669
  let v8322 : BitVec 32 := Scalar.addi c0_i32_6670 v8321
  v8322.toNat
def k0_dev242 (d0 : Dev nD) : Nat :=
  let c0_i32_6687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6686 : BitVec 32 := 1#32
  let v8343 : BitVec 32 := Scalar.muli v13 c1_i32_6686
  let v8344 : BitVec 32 := Scalar.addi c0_i32_6687 v8343
  v8344.toNat
def k0_dev243 (d0 : Dev nD) : Nat :=
  let c0_i32_6738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6737 : BitVec 32 := 1#32
  let v8399 : BitVec 32 := Scalar.muli v13 c1_i32_6737
  let v8400 : BitVec 32 := Scalar.addi c0_i32_6738 v8399
  v8400.toNat
def k0_dev244 (d0 : Dev nD) : Nat :=
  let c0_i32_6756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6755 : BitVec 32 := 1#32
  let v8424 : BitVec 32 := Scalar.muli v24 c1_i32_6755
  let v8425 : BitVec 32 := Scalar.addi c0_i32_6756 v8424
  v8425.toNat
def k0_dev245 (d0 : Dev nD) : Nat :=
  let c0_i32_6774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6773 : BitVec 32 := 1#32
  let v8439 : BitVec 32 := Scalar.muli v24 c1_i32_6773
  let v8440 : BitVec 32 := Scalar.addi c0_i32_6774 v8439
  v8440.toNat
def k0_dev246 (d0 : Dev nD) : Nat :=
  let c0_i32_6791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6790 : BitVec 32 := 1#32
  let v8461 : BitVec 32 := Scalar.muli v13 c1_i32_6790
  let v8462 : BitVec 32 := Scalar.addi c0_i32_6791 v8461
  v8462.toNat
def k0_dev247 (d0 : Dev nD) : Nat :=
  let c0_i32_6842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6841 : BitVec 32 := 1#32
  let v8517 : BitVec 32 := Scalar.muli v13 c1_i32_6841
  let v8518 : BitVec 32 := Scalar.addi c0_i32_6842 v8517
  v8518.toNat
def k0_dev248 (d0 : Dev nD) : Nat :=
  let c0_i32_6860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6859 : BitVec 32 := 1#32
  let v8542 : BitVec 32 := Scalar.muli v24 c1_i32_6859
  let v8543 : BitVec 32 := Scalar.addi c0_i32_6860 v8542
  v8543.toNat
def k0_dev249 (d0 : Dev nD) : Nat :=
  let c0_i32_6876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6875 : BitVec 32 := 1#32
  let v8557 : BitVec 32 := Scalar.muli v24 c1_i32_6875
  let v8558 : BitVec 32 := Scalar.addi c0_i32_6876 v8557
  v8558.toNat
def k0_dev250 (d0 : Dev nD) : Nat :=
  let c0_i32_6912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6911 : BitVec 32 := 1#32
  let v8601 : BitVec 32 := Scalar.muli v13 c1_i32_6911
  let v8602 : BitVec 32 := Scalar.addi c0_i32_6912 v8601
  v8602.toNat
def k0_dev251 (d0 : Dev nD) : Nat :=
  let c0_i32_6940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6939 : BitVec 32 := 1#32
  let v8631 : BitVec 32 := Scalar.muli v24 c1_i32_6939
  let v8632 : BitVec 32 := Scalar.addi c0_i32_6940 v8631
  v8632.toNat
def k0_dev252 (d0 : Dev nD) : Nat :=
  let c0_i32_6962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6961 : BitVec 32 := 1#32
  let v8663 : BitVec 32 := Scalar.muli v13 c1_i32_6961
  let v8664 : BitVec 32 := Scalar.addi c0_i32_6962 v8663
  v8664.toNat
def k0_dev253 (d0 : Dev nD) : Nat :=
  let c0_i32_7008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7007 : BitVec 32 := 1#32
  let v8721 : BitVec 32 := Scalar.muli v13 c1_i32_7007
  let v8722 : BitVec 32 := Scalar.addi c0_i32_7008 v8721
  v8722.toNat
def k0_dev254 (d0 : Dev nD) : Nat :=
  let c0_i32_7011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7010 : BitVec 32 := 1#32
  let v8723 : BitVec 32 := Scalar.muli v24 c1_i32_7010
  let v8724 : BitVec 32 := Scalar.addi c0_i32_7011 v8723
  v8724.toNat
def k0_dev255 (d0 : Dev nD) : Nat :=
  let c0_i32_7031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7030 : BitVec 32 := 1#32
  let v8749 : BitVec 32 := Scalar.muli v24 c1_i32_7030
  let v8750 : BitVec 32 := Scalar.addi c0_i32_7031 v8749
  v8750.toNat
def k0_dev256 (d0 : Dev nD) : Nat :=
  let c0_i32_7053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7052 : BitVec 32 := 1#32
  let v8781 : BitVec 32 := Scalar.muli v13 c1_i32_7052
  let v8782 : BitVec 32 := Scalar.addi c0_i32_7053 v8781
  v8782.toNat
def k0_dev257 (d0 : Dev nD) : Nat :=
  let c0_i32_7122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7121 : BitVec 32 := 1#32
  let v8873 : BitVec 32 := Scalar.muli v13 c1_i32_7121
  let v8874 : BitVec 32 := Scalar.addi c0_i32_7122 v8873
  v8874.toNat
def k0_dev258 (d0 : Dev nD) : Nat :=
  let c0_i32_7125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7124 : BitVec 32 := 1#32
  let v8875 : BitVec 32 := Scalar.muli v24 c1_i32_7124
  let v8876 : BitVec 32 := Scalar.addi c0_i32_7125 v8875
  v8876.toNat
def k0_dev259 (d0 : Dev nD) : Nat :=
  let c0_i32_7149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7148 : BitVec 32 := 1#32
  let v8901 : BitVec 32 := Scalar.muli v24 c1_i32_7148
  let v8902 : BitVec 32 := Scalar.addi c0_i32_7149 v8901
  v8902.toNat
def k0_dev260 (d0 : Dev nD) : Nat :=
  let c0_i32_7171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7170 : BitVec 32 := 1#32
  let v8933 : BitVec 32 := Scalar.muli v13 c1_i32_7170
  let v8934 : BitVec 32 := Scalar.addi c0_i32_7171 v8933
  v8934.toNat
def k0_dev261 (d0 : Dev nD) : Nat :=
  let c0_i32_7240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7239 : BitVec 32 := 1#32
  let v9025 : BitVec 32 := Scalar.muli v13 c1_i32_7239
  let v9026 : BitVec 32 := Scalar.addi c0_i32_7240 v9025
  v9026.toNat
def k0_dev262 (d0 : Dev nD) : Nat :=
  let c0_i32_7243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7242 : BitVec 32 := 1#32
  let v9027 : BitVec 32 := Scalar.muli v24 c1_i32_7242
  let v9028 : BitVec 32 := Scalar.addi c0_i32_7243 v9027
  v9028.toNat
def k0_dev263 (d0 : Dev nD) : Nat :=
  let c0_i32_7267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7266 : BitVec 32 := 1#32
  let v9053 : BitVec 32 := Scalar.muli v24 c1_i32_7266
  let v9054 : BitVec 32 := Scalar.addi c0_i32_7267 v9053
  v9054.toNat
def k0_dev264 (d0 : Dev nD) : Nat :=
  let c0_i32_7289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7288 : BitVec 32 := 1#32
  let v9085 : BitVec 32 := Scalar.muli v13 c1_i32_7288
  let v9086 : BitVec 32 := Scalar.addi c0_i32_7289 v9085
  v9086.toNat
def k0_dev265 (d0 : Dev nD) : Nat :=
  let c0_i32_7358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7357 : BitVec 32 := 1#32
  let v9177 : BitVec 32 := Scalar.muli v13 c1_i32_7357
  let v9178 : BitVec 32 := Scalar.addi c0_i32_7358 v9177
  v9178.toNat
def k0_dev266 (d0 : Dev nD) : Nat :=
  let c0_i32_7361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7360 : BitVec 32 := 1#32
  let v9179 : BitVec 32 := Scalar.muli v24 c1_i32_7360
  let v9180 : BitVec 32 := Scalar.addi c0_i32_7361 v9179
  v9180.toNat
def k0_dev267 (d0 : Dev nD) : Nat :=
  let c0_i32_7385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7384 : BitVec 32 := 1#32
  let v9205 : BitVec 32 := Scalar.muli v24 c1_i32_7384
  let v9206 : BitVec 32 := Scalar.addi c0_i32_7385 v9205
  v9206.toNat
def k0_dev268 (d0 : Dev nD) : Nat :=
  let c0_i32_7407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7406 : BitVec 32 := 1#32
  let v9237 : BitVec 32 := Scalar.muli v13 c1_i32_7406
  let v9238 : BitVec 32 := Scalar.addi c0_i32_7407 v9237
  v9238.toNat
def k0_dev269 (d0 : Dev nD) : Nat :=
  let c0_i32_7476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7475 : BitVec 32 := 1#32
  let v9329 : BitVec 32 := Scalar.muli v13 c1_i32_7475
  let v9330 : BitVec 32 := Scalar.addi c0_i32_7476 v9329
  v9330.toNat
def k0_dev270 (d0 : Dev nD) : Nat :=
  let c0_i32_7479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7478 : BitVec 32 := 1#32
  let v9331 : BitVec 32 := Scalar.muli v24 c1_i32_7478
  let v9332 : BitVec 32 := Scalar.addi c0_i32_7479 v9331
  v9332.toNat
def k0_dev271 (d0 : Dev nD) : Nat :=
  let c0_i32_7503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7502 : BitVec 32 := 1#32
  let v9357 : BitVec 32 := Scalar.muli v24 c1_i32_7502
  let v9358 : BitVec 32 := Scalar.addi c0_i32_7503 v9357
  v9358.toNat
def k0_dev272 (d0 : Dev nD) : Nat :=
  let c0_i32_7525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7524 : BitVec 32 := 1#32
  let v9389 : BitVec 32 := Scalar.muli v13 c1_i32_7524
  let v9390 : BitVec 32 := Scalar.addi c0_i32_7525 v9389
  v9390.toNat
def k0_dev273 (d0 : Dev nD) : Nat :=
  let c0_i32_7594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7593 : BitVec 32 := 1#32
  let v9481 : BitVec 32 := Scalar.muli v13 c1_i32_7593
  let v9482 : BitVec 32 := Scalar.addi c0_i32_7594 v9481
  v9482.toNat
def k0_dev274 (d0 : Dev nD) : Nat :=
  let c0_i32_7597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7596 : BitVec 32 := 1#32
  let v9483 : BitVec 32 := Scalar.muli v24 c1_i32_7596
  let v9484 : BitVec 32 := Scalar.addi c0_i32_7597 v9483
  v9484.toNat
def k0_dev275 (d0 : Dev nD) : Nat :=
  let c0_i32_7621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7620 : BitVec 32 := 1#32
  let v9509 : BitVec 32 := Scalar.muli v24 c1_i32_7620
  let v9510 : BitVec 32 := Scalar.addi c0_i32_7621 v9509
  v9510.toNat
def k0_dev276 (d0 : Dev nD) : Nat :=
  let c0_i32_7643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7642 : BitVec 32 := 1#32
  let v9541 : BitVec 32 := Scalar.muli v13 c1_i32_7642
  let v9542 : BitVec 32 := Scalar.addi c0_i32_7643 v9541
  v9542.toNat
def k0_dev277 (d0 : Dev nD) : Nat :=
  let c0_i32_7712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7711 : BitVec 32 := 1#32
  let v9633 : BitVec 32 := Scalar.muli v13 c1_i32_7711
  let v9634 : BitVec 32 := Scalar.addi c0_i32_7712 v9633
  v9634.toNat
def k0_dev278 (d0 : Dev nD) : Nat :=
  let c0_i32_7715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7714 : BitVec 32 := 1#32
  let v9635 : BitVec 32 := Scalar.muli v24 c1_i32_7714
  let v9636 : BitVec 32 := Scalar.addi c0_i32_7715 v9635
  v9636.toNat
def k0_dev279 (d0 : Dev nD) : Nat :=
  let c0_i32_7739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7738 : BitVec 32 := 1#32
  let v9661 : BitVec 32 := Scalar.muli v24 c1_i32_7738
  let v9662 : BitVec 32 := Scalar.addi c0_i32_7739 v9661
  v9662.toNat
def k0_dev280 (d0 : Dev nD) : Nat :=
  let c0_i32_7761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7760 : BitVec 32 := 1#32
  let v9693 : BitVec 32 := Scalar.muli v13 c1_i32_7760
  let v9694 : BitVec 32 := Scalar.addi c0_i32_7761 v9693
  v9694.toNat
def k0_dev281 (d0 : Dev nD) : Nat :=
  let c0_i32_7830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7829 : BitVec 32 := 1#32
  let v9785 : BitVec 32 := Scalar.muli v13 c1_i32_7829
  let v9786 : BitVec 32 := Scalar.addi c0_i32_7830 v9785
  v9786.toNat
def k0_dev282 (d0 : Dev nD) : Nat :=
  let c0_i32_7833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7832 : BitVec 32 := 1#32
  let v9787 : BitVec 32 := Scalar.muli v24 c1_i32_7832
  let v9788 : BitVec 32 := Scalar.addi c0_i32_7833 v9787
  v9788.toNat
def k0_dev283 (d0 : Dev nD) : Nat :=
  let c0_i32_7857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7856 : BitVec 32 := 1#32
  let v9813 : BitVec 32 := Scalar.muli v24 c1_i32_7856
  let v9814 : BitVec 32 := Scalar.addi c0_i32_7857 v9813
  v9814.toNat
def k0_dev284 (d0 : Dev nD) : Nat :=
  let c0_i32_7879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7878 : BitVec 32 := 1#32
  let v9845 : BitVec 32 := Scalar.muli v13 c1_i32_7878
  let v9846 : BitVec 32 := Scalar.addi c0_i32_7879 v9845
  v9846.toNat
def k0_dev285 (d0 : Dev nD) : Nat :=
  let c0_i32_7948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7947 : BitVec 32 := 1#32
  let v9937 : BitVec 32 := Scalar.muli v13 c1_i32_7947
  let v9938 : BitVec 32 := Scalar.addi c0_i32_7948 v9937
  v9938.toNat
def k0_dev286 (d0 : Dev nD) : Nat :=
  let c0_i32_7951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7950 : BitVec 32 := 1#32
  let v9939 : BitVec 32 := Scalar.muli v24 c1_i32_7950
  let v9940 : BitVec 32 := Scalar.addi c0_i32_7951 v9939
  v9940.toNat
def k0_dev287 (d0 : Dev nD) : Nat :=
  let c0_i32_7975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7974 : BitVec 32 := 1#32
  let v9965 : BitVec 32 := Scalar.muli v24 c1_i32_7974
  let v9966 : BitVec 32 := Scalar.addi c0_i32_7975 v9965
  v9966.toNat
def k0_dev288 (d0 : Dev nD) : Nat :=
  let c0_i32_7997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7996 : BitVec 32 := 1#32
  let v9997 : BitVec 32 := Scalar.muli v13 c1_i32_7996
  let v9998 : BitVec 32 := Scalar.addi c0_i32_7997 v9997
  v9998.toNat
def k0_dev289 (d0 : Dev nD) : Nat :=
  let c0_i32_8066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8065 : BitVec 32 := 1#32
  let v10089 : BitVec 32 := Scalar.muli v13 c1_i32_8065
  let v10090 : BitVec 32 := Scalar.addi c0_i32_8066 v10089
  v10090.toNat
def k0_dev290 (d0 : Dev nD) : Nat :=
  let c0_i32_8069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8068 : BitVec 32 := 1#32
  let v10091 : BitVec 32 := Scalar.muli v24 c1_i32_8068
  let v10092 : BitVec 32 := Scalar.addi c0_i32_8069 v10091
  v10092.toNat
def k0_dev291 (d0 : Dev nD) : Nat :=
  let c0_i32_8093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8092 : BitVec 32 := 1#32
  let v10117 : BitVec 32 := Scalar.muli v24 c1_i32_8092
  let v10118 : BitVec 32 := Scalar.addi c0_i32_8093 v10117
  v10118.toNat
def k0_dev292 (d0 : Dev nD) : Nat :=
  let c0_i32_8115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8114 : BitVec 32 := 1#32
  let v10149 : BitVec 32 := Scalar.muli v13 c1_i32_8114
  let v10150 : BitVec 32 := Scalar.addi c0_i32_8115 v10149
  v10150.toNat
def k0_dev293 (d0 : Dev nD) : Nat :=
  let c0_i32_8184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8183 : BitVec 32 := 1#32
  let v10241 : BitVec 32 := Scalar.muli v13 c1_i32_8183
  let v10242 : BitVec 32 := Scalar.addi c0_i32_8184 v10241
  v10242.toNat
def k0_dev294 (d0 : Dev nD) : Nat :=
  let c0_i32_8187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8186 : BitVec 32 := 1#32
  let v10243 : BitVec 32 := Scalar.muli v24 c1_i32_8186
  let v10244 : BitVec 32 := Scalar.addi c0_i32_8187 v10243
  v10244.toNat
def k0_dev295 (d0 : Dev nD) : Nat :=
  let c0_i32_8211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8210 : BitVec 32 := 1#32
  let v10269 : BitVec 32 := Scalar.muli v24 c1_i32_8210
  let v10270 : BitVec 32 := Scalar.addi c0_i32_8211 v10269
  v10270.toNat
def k0_dev296 (d0 : Dev nD) : Nat :=
  let c0_i32_8233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8232 : BitVec 32 := 1#32
  let v10301 : BitVec 32 := Scalar.muli v13 c1_i32_8232
  let v10302 : BitVec 32 := Scalar.addi c0_i32_8233 v10301
  v10302.toNat
def k0_dev297 (d0 : Dev nD) : Nat :=
  let c0_i32_8302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8301 : BitVec 32 := 1#32
  let v10393 : BitVec 32 := Scalar.muli v13 c1_i32_8301
  let v10394 : BitVec 32 := Scalar.addi c0_i32_8302 v10393
  v10394.toNat
def k0_dev298 (d0 : Dev nD) : Nat :=
  let c0_i32_8305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8304 : BitVec 32 := 1#32
  let v10395 : BitVec 32 := Scalar.muli v24 c1_i32_8304
  let v10396 : BitVec 32 := Scalar.addi c0_i32_8305 v10395
  v10396.toNat
def k0_dev299 (d0 : Dev nD) : Nat :=
  let c0_i32_8329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8328 : BitVec 32 := 1#32
  let v10421 : BitVec 32 := Scalar.muli v24 c1_i32_8328
  let v10422 : BitVec 32 := Scalar.addi c0_i32_8329 v10421
  v10422.toNat
def k0_dev300 (d0 : Dev nD) : Nat :=
  let c0_i32_8351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8350 : BitVec 32 := 1#32
  let v10453 : BitVec 32 := Scalar.muli v13 c1_i32_8350
  let v10454 : BitVec 32 := Scalar.addi c0_i32_8351 v10453
  v10454.toNat
def k0_dev301 (d0 : Dev nD) : Nat :=
  let c0_i32_8420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8419 : BitVec 32 := 1#32
  let v10545 : BitVec 32 := Scalar.muli v13 c1_i32_8419
  let v10546 : BitVec 32 := Scalar.addi c0_i32_8420 v10545
  v10546.toNat
def k0_dev302 (d0 : Dev nD) : Nat :=
  let c0_i32_8423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8422 : BitVec 32 := 1#32
  let v10547 : BitVec 32 := Scalar.muli v24 c1_i32_8422
  let v10548 : BitVec 32 := Scalar.addi c0_i32_8423 v10547
  v10548.toNat
def k0_dev303 (d0 : Dev nD) : Nat :=
  let c0_i32_8447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8446 : BitVec 32 := 1#32
  let v10573 : BitVec 32 := Scalar.muli v24 c1_i32_8446
  let v10574 : BitVec 32 := Scalar.addi c0_i32_8447 v10573
  v10574.toNat
def k0_dev304 (d0 : Dev nD) : Nat :=
  let c0_i32_8469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8468 : BitVec 32 := 1#32
  let v10605 : BitVec 32 := Scalar.muli v13 c1_i32_8468
  let v10606 : BitVec 32 := Scalar.addi c0_i32_8469 v10605
  v10606.toNat
def k0_dev305 (d0 : Dev nD) : Nat :=
  let c0_i32_8538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8537 : BitVec 32 := 1#32
  let v10697 : BitVec 32 := Scalar.muli v13 c1_i32_8537
  let v10698 : BitVec 32 := Scalar.addi c0_i32_8538 v10697
  v10698.toNat
def k0_dev306 (d0 : Dev nD) : Nat :=
  let c0_i32_8541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8540 : BitVec 32 := 1#32
  let v10699 : BitVec 32 := Scalar.muli v24 c1_i32_8540
  let v10700 : BitVec 32 := Scalar.addi c0_i32_8541 v10699
  v10700.toNat
def k0_dev307 (d0 : Dev nD) : Nat :=
  let c0_i32_8565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8564 : BitVec 32 := 1#32
  let v10725 : BitVec 32 := Scalar.muli v24 c1_i32_8564
  let v10726 : BitVec 32 := Scalar.addi c0_i32_8565 v10725
  v10726.toNat
def k0_dev308 (d0 : Dev nD) : Nat :=
  let c0_i32_8587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8586 : BitVec 32 := 1#32
  let v10757 : BitVec 32 := Scalar.muli v13 c1_i32_8586
  let v10758 : BitVec 32 := Scalar.addi c0_i32_8587 v10757
  v10758.toNat
def k0_dev309 (d0 : Dev nD) : Nat :=
  let c0_i32_8656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8655 : BitVec 32 := 1#32
  let v10849 : BitVec 32 := Scalar.muli v13 c1_i32_8655
  let v10850 : BitVec 32 := Scalar.addi c0_i32_8656 v10849
  v10850.toNat
def k0_dev310 (d0 : Dev nD) : Nat :=
  let c0_i32_8659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8658 : BitVec 32 := 1#32
  let v10851 : BitVec 32 := Scalar.muli v24 c1_i32_8658
  let v10852 : BitVec 32 := Scalar.addi c0_i32_8659 v10851
  v10852.toNat
def k0_dev311 (d0 : Dev nD) : Nat :=
  let c0_i32_8681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8680 : BitVec 32 := 1#32
  let v10877 : BitVec 32 := Scalar.muli v24 c1_i32_8680
  let v10878 : BitVec 32 := Scalar.addi c0_i32_8681 v10877
  v10878.toNat
def k0_dev312 (d0 : Dev nD) : Nat :=
  let c0_i32_8739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8738 : BitVec 32 := 1#32
  let v10959 : BitVec 32 := Scalar.muli v13 c1_i32_8738
  let v10960 : BitVec 32 := Scalar.addi c0_i32_8739 v10959
  v10960.toNat
def k0_dev313 (d0 : Dev nD) : Nat :=
  let c0_i32_8778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8777 : BitVec 32 := 1#32
  let v11006 : BitVec 32 := Scalar.muli v24 c1_i32_8777
  let v11007 : BitVec 32 := Scalar.addi c0_i32_8778 v11006
  v11007.toNat
def k0_dev314 (d0 : Dev nD) : Nat :=
  let c0_i32_8795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8794 : BitVec 32 := 1#32
  let v11028 : BitVec 32 := Scalar.muli v13 c1_i32_8794
  let v11029 : BitVec 32 := Scalar.addi c0_i32_8795 v11028
  v11029.toNat
def k0_dev315 (d0 : Dev nD) : Nat :=
  let c0_i32_8846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8845 : BitVec 32 := 1#32
  let v11083 : BitVec 32 := Scalar.muli v13 c1_i32_8845
  let v11084 : BitVec 32 := Scalar.addi c0_i32_8846 v11083
  v11084.toNat
def k0_dev316 (d0 : Dev nD) : Nat :=
  let c0_i32_8864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8863 : BitVec 32 := 1#32
  let v11107 : BitVec 32 := Scalar.muli v24 c1_i32_8863
  let v11108 : BitVec 32 := Scalar.addi c0_i32_8864 v11107
  v11108.toNat
def k0_dev317 (d0 : Dev nD) : Nat :=
  let c0_i32_8878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8877 : BitVec 32 := 1#32
  let v11122 : BitVec 32 := Scalar.muli v24 c1_i32_8877
  let v11123 : BitVec 32 := Scalar.addi c0_i32_8878 v11122
  v11123.toNat
def k0_dev318 (d0 : Dev nD) : Nat :=
  let c0_i32_8895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8894 : BitVec 32 := 1#32
  let v11144 : BitVec 32 := Scalar.muli v13 c1_i32_8894
  let v11145 : BitVec 32 := Scalar.addi c0_i32_8895 v11144
  v11145.toNat
def k0_dev319 (d0 : Dev nD) : Nat :=
  let c0_i32_8946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8945 : BitVec 32 := 1#32
  let v11199 : BitVec 32 := Scalar.muli v13 c1_i32_8945
  let v11200 : BitVec 32 := Scalar.addi c0_i32_8946 v11199
  v11200.toNat
def k0_dev320 (d0 : Dev nD) : Nat :=
  let c0_i32_8964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8963 : BitVec 32 := 1#32
  let v11223 : BitVec 32 := Scalar.muli v24 c1_i32_8963
  let v11224 : BitVec 32 := Scalar.addi c0_i32_8964 v11223
  v11224.toNat
def k0_dev321 (d0 : Dev nD) : Nat :=
  let c0_i32_8982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8981 : BitVec 32 := 1#32
  let v11238 : BitVec 32 := Scalar.muli v24 c1_i32_8981
  let v11239 : BitVec 32 := Scalar.addi c0_i32_8982 v11238
  v11239.toNat
def k0_dev322 (d0 : Dev nD) : Nat :=
  let c0_i32_8999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8998 : BitVec 32 := 1#32
  let v11260 : BitVec 32 := Scalar.muli v13 c1_i32_8998
  let v11261 : BitVec 32 := Scalar.addi c0_i32_8999 v11260
  v11261.toNat
def k0_dev323 (d0 : Dev nD) : Nat :=
  let c0_i32_9050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9049 : BitVec 32 := 1#32
  let v11315 : BitVec 32 := Scalar.muli v13 c1_i32_9049
  let v11316 : BitVec 32 := Scalar.addi c0_i32_9050 v11315
  v11316.toNat
def k0_dev324 (d0 : Dev nD) : Nat :=
  let c0_i32_9068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9067 : BitVec 32 := 1#32
  let v11339 : BitVec 32 := Scalar.muli v24 c1_i32_9067
  let v11340 : BitVec 32 := Scalar.addi c0_i32_9068 v11339
  v11340.toNat
def k0_dev325 (d0 : Dev nD) : Nat :=
  let c0_i32_9086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9085 : BitVec 32 := 1#32
  let v11354 : BitVec 32 := Scalar.muli v24 c1_i32_9085
  let v11355 : BitVec 32 := Scalar.addi c0_i32_9086 v11354
  v11355.toNat
def k0_dev326 (d0 : Dev nD) : Nat :=
  let c0_i32_9103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9102 : BitVec 32 := 1#32
  let v11376 : BitVec 32 := Scalar.muli v13 c1_i32_9102
  let v11377 : BitVec 32 := Scalar.addi c0_i32_9103 v11376
  v11377.toNat
def k0_dev327 (d0 : Dev nD) : Nat :=
  let c0_i32_9154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9153 : BitVec 32 := 1#32
  let v11431 : BitVec 32 := Scalar.muli v13 c1_i32_9153
  let v11432 : BitVec 32 := Scalar.addi c0_i32_9154 v11431
  v11432.toNat
def k0_dev328 (d0 : Dev nD) : Nat :=
  let c0_i32_9172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9171 : BitVec 32 := 1#32
  let v11455 : BitVec 32 := Scalar.muli v24 c1_i32_9171
  let v11456 : BitVec 32 := Scalar.addi c0_i32_9172 v11455
  v11456.toNat
def k0_dev329 (d0 : Dev nD) : Nat :=
  let c0_i32_9190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9189 : BitVec 32 := 1#32
  let v11470 : BitVec 32 := Scalar.muli v24 c1_i32_9189
  let v11471 : BitVec 32 := Scalar.addi c0_i32_9190 v11470
  v11471.toNat
def k0_dev330 (d0 : Dev nD) : Nat :=
  let c0_i32_9207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9206 : BitVec 32 := 1#32
  let v11492 : BitVec 32 := Scalar.muli v13 c1_i32_9206
  let v11493 : BitVec 32 := Scalar.addi c0_i32_9207 v11492
  v11493.toNat
def k0_dev331 (d0 : Dev nD) : Nat :=
  let c0_i32_9258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9257 : BitVec 32 := 1#32
  let v11547 : BitVec 32 := Scalar.muli v13 c1_i32_9257
  let v11548 : BitVec 32 := Scalar.addi c0_i32_9258 v11547
  v11548.toNat
def k0_dev332 (d0 : Dev nD) : Nat :=
  let c0_i32_9276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9275 : BitVec 32 := 1#32
  let v11571 : BitVec 32 := Scalar.muli v24 c1_i32_9275
  let v11572 : BitVec 32 := Scalar.addi c0_i32_9276 v11571
  v11572.toNat
def k0_dev333 (d0 : Dev nD) : Nat :=
  let c0_i32_9294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9293 : BitVec 32 := 1#32
  let v11586 : BitVec 32 := Scalar.muli v24 c1_i32_9293
  let v11587 : BitVec 32 := Scalar.addi c0_i32_9294 v11586
  v11587.toNat
def k0_dev334 (d0 : Dev nD) : Nat :=
  let c0_i32_9311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9310 : BitVec 32 := 1#32
  let v11608 : BitVec 32 := Scalar.muli v13 c1_i32_9310
  let v11609 : BitVec 32 := Scalar.addi c0_i32_9311 v11608
  v11609.toNat
def k0_dev335 (d0 : Dev nD) : Nat :=
  let c0_i32_9362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9361 : BitVec 32 := 1#32
  let v11663 : BitVec 32 := Scalar.muli v13 c1_i32_9361
  let v11664 : BitVec 32 := Scalar.addi c0_i32_9362 v11663
  v11664.toNat
def k0_dev336 (d0 : Dev nD) : Nat :=
  let c0_i32_9380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9379 : BitVec 32 := 1#32
  let v11687 : BitVec 32 := Scalar.muli v24 c1_i32_9379
  let v11688 : BitVec 32 := Scalar.addi c0_i32_9380 v11687
  v11688.toNat
def k0_dev337 (d0 : Dev nD) : Nat :=
  let c0_i32_9398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9397 : BitVec 32 := 1#32
  let v11702 : BitVec 32 := Scalar.muli v24 c1_i32_9397
  let v11703 : BitVec 32 := Scalar.addi c0_i32_9398 v11702
  v11703.toNat
def k0_dev338 (d0 : Dev nD) : Nat :=
  let c0_i32_9415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9414 : BitVec 32 := 1#32
  let v11724 : BitVec 32 := Scalar.muli v13 c1_i32_9414
  let v11725 : BitVec 32 := Scalar.addi c0_i32_9415 v11724
  v11725.toNat
def k0_dev339 (d0 : Dev nD) : Nat :=
  let c0_i32_9466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9465 : BitVec 32 := 1#32
  let v11779 : BitVec 32 := Scalar.muli v13 c1_i32_9465
  let v11780 : BitVec 32 := Scalar.addi c0_i32_9466 v11779
  v11780.toNat
def k0_dev340 (d0 : Dev nD) : Nat :=
  let c0_i32_9484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9483 : BitVec 32 := 1#32
  let v11803 : BitVec 32 := Scalar.muli v24 c1_i32_9483
  let v11804 : BitVec 32 := Scalar.addi c0_i32_9484 v11803
  v11804.toNat
def k0_dev341 (d0 : Dev nD) : Nat :=
  let c0_i32_9502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9501 : BitVec 32 := 1#32
  let v11818 : BitVec 32 := Scalar.muli v24 c1_i32_9501
  let v11819 : BitVec 32 := Scalar.addi c0_i32_9502 v11818
  v11819.toNat
def k0_dev342 (d0 : Dev nD) : Nat :=
  let c0_i32_9519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9518 : BitVec 32 := 1#32
  let v11840 : BitVec 32 := Scalar.muli v13 c1_i32_9518
  let v11841 : BitVec 32 := Scalar.addi c0_i32_9519 v11840
  v11841.toNat
def k0_dev343 (d0 : Dev nD) : Nat :=
  let c0_i32_9570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9569 : BitVec 32 := 1#32
  let v11895 : BitVec 32 := Scalar.muli v13 c1_i32_9569
  let v11896 : BitVec 32 := Scalar.addi c0_i32_9570 v11895
  v11896.toNat
def k0_dev344 (d0 : Dev nD) : Nat :=
  let c0_i32_9588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9587 : BitVec 32 := 1#32
  let v11919 : BitVec 32 := Scalar.muli v24 c1_i32_9587
  let v11920 : BitVec 32 := Scalar.addi c0_i32_9588 v11919
  v11920.toNat
def k0_dev345 (d0 : Dev nD) : Nat :=
  let c0_i32_9606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9605 : BitVec 32 := 1#32
  let v11934 : BitVec 32 := Scalar.muli v24 c1_i32_9605
  let v11935 : BitVec 32 := Scalar.addi c0_i32_9606 v11934
  v11935.toNat
def k0_dev346 (d0 : Dev nD) : Nat :=
  let c0_i32_9623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9622 : BitVec 32 := 1#32
  let v11956 : BitVec 32 := Scalar.muli v13 c1_i32_9622
  let v11957 : BitVec 32 := Scalar.addi c0_i32_9623 v11956
  v11957.toNat
def k0_dev347 (d0 : Dev nD) : Nat :=
  let c0_i32_9674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9673 : BitVec 32 := 1#32
  let v12011 : BitVec 32 := Scalar.muli v13 c1_i32_9673
  let v12012 : BitVec 32 := Scalar.addi c0_i32_9674 v12011
  v12012.toNat
def k0_dev348 (d0 : Dev nD) : Nat :=
  let c0_i32_9692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9691 : BitVec 32 := 1#32
  let v12035 : BitVec 32 := Scalar.muli v24 c1_i32_9691
  let v12036 : BitVec 32 := Scalar.addi c0_i32_9692 v12035
  v12036.toNat
def k0_dev349 (d0 : Dev nD) : Nat :=
  let c0_i32_9710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9709 : BitVec 32 := 1#32
  let v12050 : BitVec 32 := Scalar.muli v24 c1_i32_9709
  let v12051 : BitVec 32 := Scalar.addi c0_i32_9710 v12050
  v12051.toNat
def k0_dev350 (d0 : Dev nD) : Nat :=
  let c0_i32_9727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9726 : BitVec 32 := 1#32
  let v12072 : BitVec 32 := Scalar.muli v13 c1_i32_9726
  let v12073 : BitVec 32 := Scalar.addi c0_i32_9727 v12072
  v12073.toNat
def k0_dev351 (d0 : Dev nD) : Nat :=
  let c0_i32_9778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9777 : BitVec 32 := 1#32
  let v12127 : BitVec 32 := Scalar.muli v13 c1_i32_9777
  let v12128 : BitVec 32 := Scalar.addi c0_i32_9778 v12127
  v12128.toNat
def k0_dev352 (d0 : Dev nD) : Nat :=
  let c0_i32_9796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9795 : BitVec 32 := 1#32
  let v12151 : BitVec 32 := Scalar.muli v24 c1_i32_9795
  let v12152 : BitVec 32 := Scalar.addi c0_i32_9796 v12151
  v12152.toNat
def k0_dev353 (d0 : Dev nD) : Nat :=
  let c0_i32_9814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9813 : BitVec 32 := 1#32
  let v12166 : BitVec 32 := Scalar.muli v24 c1_i32_9813
  let v12167 : BitVec 32 := Scalar.addi c0_i32_9814 v12166
  v12167.toNat
def k0_dev354 (d0 : Dev nD) : Nat :=
  let c0_i32_9831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9830 : BitVec 32 := 1#32
  let v12188 : BitVec 32 := Scalar.muli v13 c1_i32_9830
  let v12189 : BitVec 32 := Scalar.addi c0_i32_9831 v12188
  v12189.toNat
def k0_dev355 (d0 : Dev nD) : Nat :=
  let c0_i32_9882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9881 : BitVec 32 := 1#32
  let v12243 : BitVec 32 := Scalar.muli v13 c1_i32_9881
  let v12244 : BitVec 32 := Scalar.addi c0_i32_9882 v12243
  v12244.toNat
def k0_dev356 (d0 : Dev nD) : Nat :=
  let c0_i32_9900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9899 : BitVec 32 := 1#32
  let v12267 : BitVec 32 := Scalar.muli v24 c1_i32_9899
  let v12268 : BitVec 32 := Scalar.addi c0_i32_9900 v12267
  v12268.toNat
def k0_dev357 (d0 : Dev nD) : Nat :=
  let c0_i32_9918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9917 : BitVec 32 := 1#32
  let v12282 : BitVec 32 := Scalar.muli v24 c1_i32_9917
  let v12283 : BitVec 32 := Scalar.addi c0_i32_9918 v12282
  v12283.toNat
def k0_dev358 (d0 : Dev nD) : Nat :=
  let c0_i32_9935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9934 : BitVec 32 := 1#32
  let v12304 : BitVec 32 := Scalar.muli v13 c1_i32_9934
  let v12305 : BitVec 32 := Scalar.addi c0_i32_9935 v12304
  v12305.toNat
def k0_dev359 (d0 : Dev nD) : Nat :=
  let c0_i32_9986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9985 : BitVec 32 := 1#32
  let v12359 : BitVec 32 := Scalar.muli v13 c1_i32_9985
  let v12360 : BitVec 32 := Scalar.addi c0_i32_9986 v12359
  v12360.toNat
def k0_dev360 (d0 : Dev nD) : Nat :=
  let c0_i32_10004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10003 : BitVec 32 := 1#32
  let v12383 : BitVec 32 := Scalar.muli v24 c1_i32_10003
  let v12384 : BitVec 32 := Scalar.addi c0_i32_10004 v12383
  v12384.toNat
def k0_dev361 (d0 : Dev nD) : Nat :=
  let c0_i32_10022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10021 : BitVec 32 := 1#32
  let v12398 : BitVec 32 := Scalar.muli v24 c1_i32_10021
  let v12399 : BitVec 32 := Scalar.addi c0_i32_10022 v12398
  v12399.toNat
def k0_dev362 (d0 : Dev nD) : Nat :=
  let c0_i32_10039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10038 : BitVec 32 := 1#32
  let v12420 : BitVec 32 := Scalar.muli v13 c1_i32_10038
  let v12421 : BitVec 32 := Scalar.addi c0_i32_10039 v12420
  v12421.toNat
def k0_dev363 (d0 : Dev nD) : Nat :=
  let c0_i32_10090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10089 : BitVec 32 := 1#32
  let v12475 : BitVec 32 := Scalar.muli v13 c1_i32_10089
  let v12476 : BitVec 32 := Scalar.addi c0_i32_10090 v12475
  v12476.toNat
def k0_dev364 (d0 : Dev nD) : Nat :=
  let c0_i32_10108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10107 : BitVec 32 := 1#32
  let v12499 : BitVec 32 := Scalar.muli v24 c1_i32_10107
  let v12500 : BitVec 32 := Scalar.addi c0_i32_10108 v12499
  v12500.toNat
def k0_dev365 (d0 : Dev nD) : Nat :=
  let c0_i32_10126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10125 : BitVec 32 := 1#32
  let v12514 : BitVec 32 := Scalar.muli v24 c1_i32_10125
  let v12515 : BitVec 32 := Scalar.addi c0_i32_10126 v12514
  v12515.toNat
def k0_dev366 (d0 : Dev nD) : Nat :=
  let c0_i32_10143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10142 : BitVec 32 := 1#32
  let v12536 : BitVec 32 := Scalar.muli v13 c1_i32_10142
  let v12537 : BitVec 32 := Scalar.addi c0_i32_10143 v12536
  v12537.toNat
def k0_dev367 (d0 : Dev nD) : Nat :=
  let c0_i32_10194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10193 : BitVec 32 := 1#32
  let v12591 : BitVec 32 := Scalar.muli v13 c1_i32_10193
  let v12592 : BitVec 32 := Scalar.addi c0_i32_10194 v12591
  v12592.toNat
def k0_dev368 (d0 : Dev nD) : Nat :=
  let c0_i32_10212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10211 : BitVec 32 := 1#32
  let v12615 : BitVec 32 := Scalar.muli v24 c1_i32_10211
  let v12616 : BitVec 32 := Scalar.addi c0_i32_10212 v12615
  v12616.toNat
def k0_dev369 (d0 : Dev nD) : Nat :=
  let c0_i32_10230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10229 : BitVec 32 := 1#32
  let v12630 : BitVec 32 := Scalar.muli v24 c1_i32_10229
  let v12631 : BitVec 32 := Scalar.addi c0_i32_10230 v12630
  v12631.toNat
def k0_dev370 (d0 : Dev nD) : Nat :=
  let c0_i32_10247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10246 : BitVec 32 := 1#32
  let v12652 : BitVec 32 := Scalar.muli v13 c1_i32_10246
  let v12653 : BitVec 32 := Scalar.addi c0_i32_10247 v12652
  v12653.toNat
def k0_dev371 (d0 : Dev nD) : Nat :=
  let c0_i32_10298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10297 : BitVec 32 := 1#32
  let v12707 : BitVec 32 := Scalar.muli v13 c1_i32_10297
  let v12708 : BitVec 32 := Scalar.addi c0_i32_10298 v12707
  v12708.toNat
def k0_dev372 (d0 : Dev nD) : Nat :=
  let c0_i32_10316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10315 : BitVec 32 := 1#32
  let v12731 : BitVec 32 := Scalar.muli v24 c1_i32_10315
  let v12732 : BitVec 32 := Scalar.addi c0_i32_10316 v12731
  v12732.toNat
def k0_dev373 (d0 : Dev nD) : Nat :=
  let c0_i32_10332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10331 : BitVec 32 := 1#32
  let v12746 : BitVec 32 := Scalar.muli v24 c1_i32_10331
  let v12747 : BitVec 32 := Scalar.addi c0_i32_10332 v12746
  v12747.toNat
def k0_dev374 (d0 : Dev nD) : Nat :=
  let c0_i32_10368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10367 : BitVec 32 := 1#32
  let v12789 : BitVec 32 := Scalar.muli v13 c1_i32_10367
  let v12790 : BitVec 32 := Scalar.addi c0_i32_10368 v12789
  v12790.toNat
def k0_dev375 (d0 : Dev nD) : Nat :=
  let c0_i32_10392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10391 : BitVec 32 := 1#32
  let v12815 : BitVec 32 := Scalar.muli v24 c1_i32_10391
  let v12816 : BitVec 32 := Scalar.addi c0_i32_10392 v12815
  v12816.toNat
def k0_dev376 (d0 : Dev nD) : Nat :=
  let c0_i32_10414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10413 : BitVec 32 := 1#32
  let v12847 : BitVec 32 := Scalar.muli v13 c1_i32_10413
  let v12848 : BitVec 32 := Scalar.addi c0_i32_10414 v12847
  v12848.toNat
def k0_dev377 (d0 : Dev nD) : Nat :=
  let c0_i32_10441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10440 : BitVec 32 := 1#32
  let v12875 : BitVec 32 := Scalar.muli v13 c1_i32_10440
  let v12876 : BitVec 32 := Scalar.addi c0_i32_10441 v12875
  v12876.toNat
def k0_dev378 (d0 : Dev nD) : Nat :=
  let c0_i32_10444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10443 : BitVec 32 := 1#32
  let v12877 : BitVec 32 := Scalar.muli v24 c1_i32_10443
  let v12878 : BitVec 32 := Scalar.addi c0_i32_10444 v12877
  v12878.toNat
def k0_dev379 (d0 : Dev nD) : Nat :=
  let c0_i32_10464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10463 : BitVec 32 := 1#32
  let v12903 : BitVec 32 := Scalar.muli v24 c1_i32_10463
  let v12904 : BitVec 32 := Scalar.addi c0_i32_10464 v12903
  v12904.toNat
def k0_dev380 (d0 : Dev nD) : Nat :=
  let c0_i32_10486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10485 : BitVec 32 := 1#32
  let v12935 : BitVec 32 := Scalar.muli v13 c1_i32_10485
  let v12936 : BitVec 32 := Scalar.addi c0_i32_10486 v12935
  v12936.toNat
def k0_dev381 (d0 : Dev nD) : Nat :=
  let c0_i32_10513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10512 : BitVec 32 := 1#32
  let v12963 : BitVec 32 := Scalar.muli v13 c1_i32_10512
  let v12964 : BitVec 32 := Scalar.addi c0_i32_10513 v12963
  v12964.toNat
def k0_dev382 (d0 : Dev nD) : Nat :=
  let c0_i32_10516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10515 : BitVec 32 := 1#32
  let v12965 : BitVec 32 := Scalar.muli v24 c1_i32_10515
  let v12966 : BitVec 32 := Scalar.addi c0_i32_10516 v12965
  v12966.toNat
def k0_dev383 (d0 : Dev nD) : Nat :=
  let c0_i32_10540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10539 : BitVec 32 := 1#32
  let v12991 : BitVec 32 := Scalar.muli v24 c1_i32_10539
  let v12992 : BitVec 32 := Scalar.addi c0_i32_10540 v12991
  v12992.toNat
def k0_dev384 (d0 : Dev nD) : Nat :=
  let c0_i32_10562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10561 : BitVec 32 := 1#32
  let v13023 : BitVec 32 := Scalar.muli v13 c1_i32_10561
  let v13024 : BitVec 32 := Scalar.addi c0_i32_10562 v13023
  v13024.toNat
def k0_dev385 (d0 : Dev nD) : Nat :=
  let c0_i32_10589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10588 : BitVec 32 := 1#32
  let v13051 : BitVec 32 := Scalar.muli v13 c1_i32_10588
  let v13052 : BitVec 32 := Scalar.addi c0_i32_10589 v13051
  v13052.toNat
def k0_dev386 (d0 : Dev nD) : Nat :=
  let c0_i32_10592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10591 : BitVec 32 := 1#32
  let v13053 : BitVec 32 := Scalar.muli v24 c1_i32_10591
  let v13054 : BitVec 32 := Scalar.addi c0_i32_10592 v13053
  v13054.toNat
def k0_dev387 (d0 : Dev nD) : Nat :=
  let c0_i32_10616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10615 : BitVec 32 := 1#32
  let v13079 : BitVec 32 := Scalar.muli v24 c1_i32_10615
  let v13080 : BitVec 32 := Scalar.addi c0_i32_10616 v13079
  v13080.toNat
def k0_dev388 (d0 : Dev nD) : Nat :=
  let c0_i32_10638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10637 : BitVec 32 := 1#32
  let v13111 : BitVec 32 := Scalar.muli v13 c1_i32_10637
  let v13112 : BitVec 32 := Scalar.addi c0_i32_10638 v13111
  v13112.toNat
def k0_dev389 (d0 : Dev nD) : Nat :=
  let c0_i32_10665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10664 : BitVec 32 := 1#32
  let v13139 : BitVec 32 := Scalar.muli v13 c1_i32_10664
  let v13140 : BitVec 32 := Scalar.addi c0_i32_10665 v13139
  v13140.toNat
def k0_dev390 (d0 : Dev nD) : Nat :=
  let c0_i32_10668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10667 : BitVec 32 := 1#32
  let v13141 : BitVec 32 := Scalar.muli v24 c1_i32_10667
  let v13142 : BitVec 32 := Scalar.addi c0_i32_10668 v13141
  v13142.toNat
def k0_dev391 (d0 : Dev nD) : Nat :=
  let c0_i32_10692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10691 : BitVec 32 := 1#32
  let v13167 : BitVec 32 := Scalar.muli v24 c1_i32_10691
  let v13168 : BitVec 32 := Scalar.addi c0_i32_10692 v13167
  v13168.toNat
def k0_dev392 (d0 : Dev nD) : Nat :=
  let c0_i32_10714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10713 : BitVec 32 := 1#32
  let v13199 : BitVec 32 := Scalar.muli v13 c1_i32_10713
  let v13200 : BitVec 32 := Scalar.addi c0_i32_10714 v13199
  v13200.toNat
def k0_dev393 (d0 : Dev nD) : Nat :=
  let c0_i32_10741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10740 : BitVec 32 := 1#32
  let v13227 : BitVec 32 := Scalar.muli v13 c1_i32_10740
  let v13228 : BitVec 32 := Scalar.addi c0_i32_10741 v13227
  v13228.toNat
def k0_dev394 (d0 : Dev nD) : Nat :=
  let c0_i32_10744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10743 : BitVec 32 := 1#32
  let v13229 : BitVec 32 := Scalar.muli v24 c1_i32_10743
  let v13230 : BitVec 32 := Scalar.addi c0_i32_10744 v13229
  v13230.toNat
def k0_dev395 (d0 : Dev nD) : Nat :=
  let c0_i32_10768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10767 : BitVec 32 := 1#32
  let v13255 : BitVec 32 := Scalar.muli v24 c1_i32_10767
  let v13256 : BitVec 32 := Scalar.addi c0_i32_10768 v13255
  v13256.toNat
def k0_dev396 (d0 : Dev nD) : Nat :=
  let c0_i32_10790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10789 : BitVec 32 := 1#32
  let v13287 : BitVec 32 := Scalar.muli v13 c1_i32_10789
  let v13288 : BitVec 32 := Scalar.addi c0_i32_10790 v13287
  v13288.toNat
def k0_dev397 (d0 : Dev nD) : Nat :=
  let c0_i32_10817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10816 : BitVec 32 := 1#32
  let v13315 : BitVec 32 := Scalar.muli v13 c1_i32_10816
  let v13316 : BitVec 32 := Scalar.addi c0_i32_10817 v13315
  v13316.toNat
def k0_dev398 (d0 : Dev nD) : Nat :=
  let c0_i32_10820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10819 : BitVec 32 := 1#32
  let v13317 : BitVec 32 := Scalar.muli v24 c1_i32_10819
  let v13318 : BitVec 32 := Scalar.addi c0_i32_10820 v13317
  v13318.toNat
def k0_dev399 (d0 : Dev nD) : Nat :=
  let c0_i32_10844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10843 : BitVec 32 := 1#32
  let v13343 : BitVec 32 := Scalar.muli v24 c1_i32_10843
  let v13344 : BitVec 32 := Scalar.addi c0_i32_10844 v13343
  v13344.toNat
def k0_dev400 (d0 : Dev nD) : Nat :=
  let c0_i32_10866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10865 : BitVec 32 := 1#32
  let v13375 : BitVec 32 := Scalar.muli v13 c1_i32_10865
  let v13376 : BitVec 32 := Scalar.addi c0_i32_10866 v13375
  v13376.toNat
def k0_dev401 (d0 : Dev nD) : Nat :=
  let c0_i32_10893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10892 : BitVec 32 := 1#32
  let v13403 : BitVec 32 := Scalar.muli v13 c1_i32_10892
  let v13404 : BitVec 32 := Scalar.addi c0_i32_10893 v13403
  v13404.toNat
def k0_dev402 (d0 : Dev nD) : Nat :=
  let c0_i32_10896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10895 : BitVec 32 := 1#32
  let v13405 : BitVec 32 := Scalar.muli v24 c1_i32_10895
  let v13406 : BitVec 32 := Scalar.addi c0_i32_10896 v13405
  v13406.toNat
def k0_dev403 (d0 : Dev nD) : Nat :=
  let c0_i32_10920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10919 : BitVec 32 := 1#32
  let v13431 : BitVec 32 := Scalar.muli v24 c1_i32_10919
  let v13432 : BitVec 32 := Scalar.addi c0_i32_10920 v13431
  v13432.toNat
def k0_dev404 (d0 : Dev nD) : Nat :=
  let c0_i32_10942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10941 : BitVec 32 := 1#32
  let v13463 : BitVec 32 := Scalar.muli v13 c1_i32_10941
  let v13464 : BitVec 32 := Scalar.addi c0_i32_10942 v13463
  v13464.toNat
def k0_dev405 (d0 : Dev nD) : Nat :=
  let c0_i32_10969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10968 : BitVec 32 := 1#32
  let v13491 : BitVec 32 := Scalar.muli v13 c1_i32_10968
  let v13492 : BitVec 32 := Scalar.addi c0_i32_10969 v13491
  v13492.toNat
def k0_dev406 (d0 : Dev nD) : Nat :=
  let c0_i32_10972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10971 : BitVec 32 := 1#32
  let v13493 : BitVec 32 := Scalar.muli v24 c1_i32_10971
  let v13494 : BitVec 32 := Scalar.addi c0_i32_10972 v13493
  v13494.toNat
def k0_dev407 (d0 : Dev nD) : Nat :=
  let c0_i32_10996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10995 : BitVec 32 := 1#32
  let v13519 : BitVec 32 := Scalar.muli v24 c1_i32_10995
  let v13520 : BitVec 32 := Scalar.addi c0_i32_10996 v13519
  v13520.toNat
def k0_dev408 (d0 : Dev nD) : Nat :=
  let c0_i32_11018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11017 : BitVec 32 := 1#32
  let v13551 : BitVec 32 := Scalar.muli v13 c1_i32_11017
  let v13552 : BitVec 32 := Scalar.addi c0_i32_11018 v13551
  v13552.toNat
def k0_dev409 (d0 : Dev nD) : Nat :=
  let c0_i32_11045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11044 : BitVec 32 := 1#32
  let v13579 : BitVec 32 := Scalar.muli v13 c1_i32_11044
  let v13580 : BitVec 32 := Scalar.addi c0_i32_11045 v13579
  v13580.toNat
def k0_dev410 (d0 : Dev nD) : Nat :=
  let c0_i32_11048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11047 : BitVec 32 := 1#32
  let v13581 : BitVec 32 := Scalar.muli v24 c1_i32_11047
  let v13582 : BitVec 32 := Scalar.addi c0_i32_11048 v13581
  v13582.toNat
def k0_dev411 (d0 : Dev nD) : Nat :=
  let c0_i32_11072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11071 : BitVec 32 := 1#32
  let v13607 : BitVec 32 := Scalar.muli v24 c1_i32_11071
  let v13608 : BitVec 32 := Scalar.addi c0_i32_11072 v13607
  v13608.toNat
def k0_dev412 (d0 : Dev nD) : Nat :=
  let c0_i32_11094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11093 : BitVec 32 := 1#32
  let v13639 : BitVec 32 := Scalar.muli v13 c1_i32_11093
  let v13640 : BitVec 32 := Scalar.addi c0_i32_11094 v13639
  v13640.toNat
def k0_dev413 (d0 : Dev nD) : Nat :=
  let c0_i32_11121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11120 : BitVec 32 := 1#32
  let v13667 : BitVec 32 := Scalar.muli v13 c1_i32_11120
  let v13668 : BitVec 32 := Scalar.addi c0_i32_11121 v13667
  v13668.toNat
def k0_dev414 (d0 : Dev nD) : Nat :=
  let c0_i32_11124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11123 : BitVec 32 := 1#32
  let v13669 : BitVec 32 := Scalar.muli v24 c1_i32_11123
  let v13670 : BitVec 32 := Scalar.addi c0_i32_11124 v13669
  v13670.toNat
def k0_dev415 (d0 : Dev nD) : Nat :=
  let c0_i32_11148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11147 : BitVec 32 := 1#32
  let v13695 : BitVec 32 := Scalar.muli v24 c1_i32_11147
  let v13696 : BitVec 32 := Scalar.addi c0_i32_11148 v13695
  v13696.toNat
def k0_dev416 (d0 : Dev nD) : Nat :=
  let c0_i32_11170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11169 : BitVec 32 := 1#32
  let v13727 : BitVec 32 := Scalar.muli v13 c1_i32_11169
  let v13728 : BitVec 32 := Scalar.addi c0_i32_11170 v13727
  v13728.toNat
def k0_dev417 (d0 : Dev nD) : Nat :=
  let c0_i32_11197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11196 : BitVec 32 := 1#32
  let v13755 : BitVec 32 := Scalar.muli v13 c1_i32_11196
  let v13756 : BitVec 32 := Scalar.addi c0_i32_11197 v13755
  v13756.toNat
def k0_dev418 (d0 : Dev nD) : Nat :=
  let c0_i32_11200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11199 : BitVec 32 := 1#32
  let v13757 : BitVec 32 := Scalar.muli v24 c1_i32_11199
  let v13758 : BitVec 32 := Scalar.addi c0_i32_11200 v13757
  v13758.toNat
def k0_dev419 (d0 : Dev nD) : Nat :=
  let c0_i32_11224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11223 : BitVec 32 := 1#32
  let v13783 : BitVec 32 := Scalar.muli v24 c1_i32_11223
  let v13784 : BitVec 32 := Scalar.addi c0_i32_11224 v13783
  v13784.toNat
def k0_dev420 (d0 : Dev nD) : Nat :=
  let c0_i32_11246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11245 : BitVec 32 := 1#32
  let v13815 : BitVec 32 := Scalar.muli v13 c1_i32_11245
  let v13816 : BitVec 32 := Scalar.addi c0_i32_11246 v13815
  v13816.toNat
def k0_dev421 (d0 : Dev nD) : Nat :=
  let c0_i32_11273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11272 : BitVec 32 := 1#32
  let v13843 : BitVec 32 := Scalar.muli v13 c1_i32_11272
  let v13844 : BitVec 32 := Scalar.addi c0_i32_11273 v13843
  v13844.toNat
def k0_dev422 (d0 : Dev nD) : Nat :=
  let c0_i32_11276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11275 : BitVec 32 := 1#32
  let v13845 : BitVec 32 := Scalar.muli v24 c1_i32_11275
  let v13846 : BitVec 32 := Scalar.addi c0_i32_11276 v13845
  v13846.toNat
def k0_dev423 (d0 : Dev nD) : Nat :=
  let c0_i32_11300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11299 : BitVec 32 := 1#32
  let v13871 : BitVec 32 := Scalar.muli v24 c1_i32_11299
  let v13872 : BitVec 32 := Scalar.addi c0_i32_11300 v13871
  v13872.toNat
def k0_dev424 (d0 : Dev nD) : Nat :=
  let c0_i32_11322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11321 : BitVec 32 := 1#32
  let v13903 : BitVec 32 := Scalar.muli v13 c1_i32_11321
  let v13904 : BitVec 32 := Scalar.addi c0_i32_11322 v13903
  v13904.toNat
def k0_dev425 (d0 : Dev nD) : Nat :=
  let c0_i32_11349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11348 : BitVec 32 := 1#32
  let v13931 : BitVec 32 := Scalar.muli v13 c1_i32_11348
  let v13932 : BitVec 32 := Scalar.addi c0_i32_11349 v13931
  v13932.toNat
def k0_dev426 (d0 : Dev nD) : Nat :=
  let c0_i32_11352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11351 : BitVec 32 := 1#32
  let v13933 : BitVec 32 := Scalar.muli v24 c1_i32_11351
  let v13934 : BitVec 32 := Scalar.addi c0_i32_11352 v13933
  v13934.toNat
def k0_dev427 (d0 : Dev nD) : Nat :=
  let c0_i32_11376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11375 : BitVec 32 := 1#32
  let v13959 : BitVec 32 := Scalar.muli v24 c1_i32_11375
  let v13960 : BitVec 32 := Scalar.addi c0_i32_11376 v13959
  v13960.toNat
def k0_dev428 (d0 : Dev nD) : Nat :=
  let c0_i32_11398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11397 : BitVec 32 := 1#32
  let v13991 : BitVec 32 := Scalar.muli v13 c1_i32_11397
  let v13992 : BitVec 32 := Scalar.addi c0_i32_11398 v13991
  v13992.toNat
def k0_dev429 (d0 : Dev nD) : Nat :=
  let c0_i32_11425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11424 : BitVec 32 := 1#32
  let v14019 : BitVec 32 := Scalar.muli v13 c1_i32_11424
  let v14020 : BitVec 32 := Scalar.addi c0_i32_11425 v14019
  v14020.toNat
def k0_dev430 (d0 : Dev nD) : Nat :=
  let c0_i32_11428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11427 : BitVec 32 := 1#32
  let v14021 : BitVec 32 := Scalar.muli v24 c1_i32_11427
  let v14022 : BitVec 32 := Scalar.addi c0_i32_11428 v14021
  v14022.toNat
def k0_dev431 (d0 : Dev nD) : Nat :=
  let c0_i32_11452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11451 : BitVec 32 := 1#32
  let v14047 : BitVec 32 := Scalar.muli v24 c1_i32_11451
  let v14048 : BitVec 32 := Scalar.addi c0_i32_11452 v14047
  v14048.toNat
def k0_dev432 (d0 : Dev nD) : Nat :=
  let c0_i32_11474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11473 : BitVec 32 := 1#32
  let v14079 : BitVec 32 := Scalar.muli v13 c1_i32_11473
  let v14080 : BitVec 32 := Scalar.addi c0_i32_11474 v14079
  v14080.toNat
def k0_dev433 (d0 : Dev nD) : Nat :=
  let c0_i32_11501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11500 : BitVec 32 := 1#32
  let v14107 : BitVec 32 := Scalar.muli v13 c1_i32_11500
  let v14108 : BitVec 32 := Scalar.addi c0_i32_11501 v14107
  v14108.toNat
def k0_dev434 (d0 : Dev nD) : Nat :=
  let c0_i32_11504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11503 : BitVec 32 := 1#32
  let v14109 : BitVec 32 := Scalar.muli v24 c1_i32_11503
  let v14110 : BitVec 32 := Scalar.addi c0_i32_11504 v14109
  v14110.toNat
def k0_dev435 (d0 : Dev nD) : Nat :=
  let c0_i32_11526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11525 : BitVec 32 := 1#32
  let v14135 : BitVec 32 := Scalar.muli v24 c1_i32_11525
  let v14136 : BitVec 32 := Scalar.addi c0_i32_11526 v14135
  v14136.toNat
def k0_dev436 (d0 : Dev nD) : Nat :=
  let c0_i32_11542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11541 : BitVec 32 := 1#32
  let v14153 : BitVec 32 := Scalar.muli v13 c1_i32_11541
  let v14154 : BitVec 32 := Scalar.addi c0_i32_11542 v14153
  v14154.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x16384 : Shape := ⟨2, ![256, 16384]⟩
abbrev S16384x256 : Shape := ⟨2, ![16384, 256]⟩
abbrev S8192x16384 : Shape := ⟨2, ![8192, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x16384, .f32⟩
  | .hbm, ⟨2, _⟩ => ⟨S16384x256, .f32⟩
  | .hbm, ⟨3, _⟩ => ⟨S256x16384, .f32⟩
  | .hbm, ⟨4, _⟩ => ⟨S16384x256, .f32⟩
  | .hbm, ⟨5, _⟩ => ⟨S256x16384, .f32⟩
  | .hbm, ⟨6, _⟩ => ⟨S16384x256, .f32⟩
  | .hbm, ⟨7, _⟩ => ⟨S8192x16384, .f32⟩
  | .hbm, ⟨8, _⟩ => ⟨S_, .f32⟩
  | .hbm, ⟨9, _⟩ => ⟨S8192x16384, .f32⟩
  | .hbm, ⟨10, _⟩ => ⟨S8192x16384, .f32⟩
  | .hbm, ⟨11, _⟩ => ⟨S8192x256, .f32⟩
  | .hbm, ⟨12, _⟩ => ⟨S8192x16384, .f32⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S8192x256, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.ProgEq.lean ====
/- # The printed body is the loops' body -/
module

public import proofs.«01_k».proof.Proof.Prog
public import Idealize.ShloMosaic.Lib.Pipeline.Regions

@[expose] public section

noncomputable section

namespace Cert.Kernel.Pf

open Idealize.ShloMosaic Idealize.ShloMosaic.TcCoe Idealize.SL.Sem
open Cert.Kernel Cert.Kernel.Gen

variable {F : FTy → Type} [FloatOps F]

/-- The printed body on the launch's buffers, read step by step. -/
theorem body_eq :
    cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0)
      (Memref.isWhole_whole _) (Memref.whole cc0_scratch1) (Memref.isWhole_whole _) (Memref.whole cc0_scratch2)
      (Memref.isWhole_whole _) (Memref.whole cc0_scratch3) (Memref.isWhole_whole _) cc0_scratch4 cc0_scratch5 cc0_scratch6
      cc0_scratch7 cc0_scratch8 cc0_scratch9
    = (Prog.lift .deviceId >>= fun d => prog (printed d)) := by
  chain_rfl

end Cert.Kernel.Pf

end
-- ==== Proof.Ideal.Prog.lean ====
/-
# The kernel's body, written once per kind of step

The printed body is a straight line of about 1750 memory operations: four all-gather phases and three reduce-scatter
phases of sixteen hops each. Here the same operations are written as loops over the hops (`prog`), the offsets of
the rectangles gathered in a record (`Offs`) so that the printed offset functions and their closed forms are two
values of one record.
-/
module

public import proofs.«01_k».proof.Proof.Gen.KernelIdeal

@[expose] public section

noncomputable section

namespace Cert.KernelIdeal.Pf

open Idealize.ShloMosaic Idealize.ShloMosaic.TcCoe Idealize.SL.Sem
open Cert.KernelIdeal Cert.KernelIdeal.Gen

variable {F : FTy → Type} [FloatOps F]

/-- The block of 256 rows at offset `o` lies in the array of 8192. -/
abbrev Inb (o : Fin 2 → Nat) : Prop := ∀ a, o a + S256x256.size a ≤ S8192x256.size a

/-- An offset of such a block. -/
abbrev Off : Type := { o : Fin 2 → Nat // Inb o }

/-- The offsets and neighbours a device computes: by hop, the block it sends along each direction in an all-gather
    (`agR`, `agL`), the block it computes on after the hop (`ocR`, `ocL`), the block it sends in a reduce-scatter
    (`rsR`, `rsL`), the block it adds into (`adR`, `adL`); its own block (`own`, stored at the start, `own'`, computed
    on first); the next and the previous device. -/
structure Offs where
  own : Off
  own' : Off
  agR : ℕ → Off
  agL : ℕ → Off
  ocR : ℕ → Off
  ocL : ℕ → Off
  rsR : ℕ → Off
  rsL : ℕ → Off
  adR : ℕ → Off
  adL : ℕ → Off
  nx : Dev nD
  pv : Dev nD

/-- The offsets as the printed kernel computes them on device `d`. -/
def printed (d : Dev nD) : Offs where
  own := ⟨k0_off1 d, k0_off1_inb d⟩
  own' := ⟨k0_off4 d, k0_off4_inb d⟩
  agR h := ⟨k0_off2 d (BitVec.ofNat 32 (Fin.ofNat 16 h).val), k0_off2_inb d (Fin.ofNat 16 h)⟩
  agL h := ⟨k0_off3 d (BitVec.ofNat 32 (Fin.ofNat 15 h).val), k0_off3_inb d (Fin.ofNat 15 h)⟩
  ocR h := ⟨k0_off5 d (BitVec.ofNat 32 (Fin.ofNat 16 h).val), k0_off5_inb d (Fin.ofNat 16 h)⟩
  ocL h := ⟨k0_off6 d (BitVec.ofNat 32 (Fin.ofNat 15 h).val), k0_off6_inb d (Fin.ofNat 15 h)⟩
  rsR h := ⟨k0_off7 d (BitVec.ofNat 32 (Fin.ofNat 16 h).val), k0_off7_inb d (Fin.ofNat 16 h)⟩
  rsL h := ⟨k0_off8 d (BitVec.ofNat 32 (Fin.ofNat 15 h).val), k0_off8_inb d (Fin.ofNat 15 h)⟩
  adR h := ⟨k0_off9 d (BitVec.ofNat 32 (Fin.ofNat 16 h).val), k0_off9_inb d (Fin.ofNat 16 h)⟩
  adL h := ⟨k0_off10 d (BitVec.ofNat 32 (Fin.ofNat 15 h).val), k0_off10_inb d (Fin.ofNat 15 h)⟩
  nx := ⟨k0_dev2 d, k0_dev2_lt d⟩
  pv := ⟨k0_dev1 d, k0_dev1_lt d⟩

/-- A program of the kernel's thread. -/
abbrev PR (F : FTy → Type) [FloatOps F] : Type → Type 1 := Prog (TpuEff nD τ sig (Elt F) Λ₀ .tc)

/-- The three buffers the phases run on: the two scratch buffers and the result's staging buffer. -/
abbrev bufM : Fin 3 → Memref sig .tc .vmem S8192x256 .f32
  | 0 => Memref.whole cc0_scratch0
  | 1 => Memref.whole cc0_scratch1
  | 2 => Memref.whole cc0_stg7_0

/-- The landing buffers: `true` for the direction to the next device. -/
abbrev commM : Bool → Memref sig .tc .vmem S2x256x256 .f32
  | true => Memref.whole cc0_scratch2
  | false => Memref.whole cc0_scratch3

/-- The weights of layer `l`. -/
abbrev winM : Fin 3 → Memref sig .tc .vmem S256x512 .f32
  | 0 => Memref.whole cc0_stg1_0
  | 1 => Memref.whole cc0_stg3_0
  | 2 => Memref.whole cc0_stg5_0
/-- The output weights of layer `l`. -/
abbrev woutM : Fin 3 → Memref sig .tc .vmem S512x256 .f32
  | 0 => Memref.whole cc0_stg2_0
  | 1 => Memref.whole cc0_stg4_0
  | 2 => Memref.whole cc0_stg6_0

/-- Semaphore `s` of a pair. -/
theorem inb_sem (s : ℕ) : ∀ a, (![s % 2] : Fin 1 → Nat) a + S1.size a ≤ S2.size a := by
  intro a
  have h2 : s % 2 < 2 := Nat.mod_lt _ (by decide)
  have ha : a = 0 := Subsingleton.elim _ _
  subst ha
  have h1 : S1.size (0 : Fin 1) = 1 := rfl
  have h3 : S2.size (0 : Fin 1) = 2 := rfl
  rw [h1, h3]
  simp only [Matrix.cons_val_zero]
  omega

/-- Semaphore `s % 2` of the pair `p`. -/
def semAt (p : DmaSems sig S2) (s : ℕ) : DmaSem sig :=
  ((p.slice (Rect.unit (s := S2) ![s % 2] S1.size (inb_sem s))).squeeze S_ squeezes_S1_S_).sem

/-- The completion semaphores of the transfers: the sender's, by direction and hop. -/
def ssem : Bool → ℕ → DmaSem sig
  | true, s => semAt cc0_scratch4 s
  | false, s => semAt cc0_scratch6 s
/-- The receiver's. -/
def rsem : Bool → ℕ → DmaSem sig
  | true, s => semAt cc0_scratch5 s
  | false, s => semAt cc0_scratch7 s
/-- The credits. -/
def csem : Bool → Sem sig
  | true => cc0_scratch8.sem
  | false => cc0_scratch9.sem
/-- The barrier semaphore. -/
def bsem : Sem sig := (SemArray.scalar (sig.barrier 0 rfl) : Sems sig S_).sem

/-- The block of a buffer at an offset. -/
def blk (b : Memref sig .tc .vmem S8192x256 .f32) (o : Off) : Memref sig .tc .vmem S256x256 .f32 :=
  b.slice (Rect.unit (s := S8192x256) o.1 S256x256.size o.2) (fun _ => rfl)

theorem inb_comm (s : ℕ) : ∀ a, (![s % 2, 0, 0] : Fin 3 → Nat) a + S1x256x256.size a ≤ S2x256x256.size a := by
  intro a
  have h2 : s % 2 < 2 := Nat.mod_lt _ (by decide)
  have h1 : S1x256x256.size = ![1, 256, 256] := rfl
  have h3 : S2x256x256.size = ![2, 256, 256] := rfl
  rw [h1, h3]
  fin_cases a <;> simp <;> omega

/-- Slot `s % 2` of a landing buffer, as a block. -/
def slot (b : Memref sig .tc .vmem S2x256x256 .f32) (s : ℕ) : Memref sig .tc .vmem S256x256 .f32 :=
  (b.slice (Rect.unit (s := S2x256x256) ![s % 2, 0, 0] S1x256x256.size (inb_comm s)) (fun _ => rfl)).squeeze S256x256
    squeezes_S1x256x256_S256x256

/-- Read a block. -/
def ld (b : Memref sig .tc .vmem S8192x256 .f32) (q : Off) : PR F (Vec F S256x256 .f32) :=
  Prog.lift (E := TpuEff nD τ sig (Elt F) Λ₀ .tc) (.load b (Rect.unit (s := S8192x256) q.1 S256x256.size q.2).toLoadRect (View.loadsAt_vmem h_S256x256))
/-- Write a block. -/
def st (b : Memref sig .tc .vmem S8192x256 .f32) (o : Off) (v : FVec F S256x256 .f32) : PR F PUnit :=
  Prog.lift (.store b (Rect.unit (s := S8192x256) o.1 S256x256.size o.2) v Finset.univ
    (View.stores_vmem_bits_univ h_S256x256 rfl) (.inl rfl))
/-- Read a slot of a landing buffer. -/
def ldSlot (b : Memref sig .tc .vmem S2x256x256 .f32) (s : ℕ) : PR F (Vec F S1x256x256 .f32) :=
  Prog.lift (E := TpuEff nD τ sig (Elt F) Λ₀ .tc) (.load b (Rect.unit (s := S2x256x256) ![s % 2, 0, 0] S1x256x256.size (inb_comm s)).toLoadRect
    (View.loadsAt_vmem h_S1x256x256))

variable (o : Offs)

/-- The device a direction sends to. -/
abbrev Offs.peer : Bool → Dev nD
  | true => o.nx
  | false => o.pv
/-- The device a direction receives from. -/
abbrev Offs.back : Bool → Dev nD
  | true => o.pv
  | false => o.nx
/-- The block sent, by direction and hop, in an all-gather. -/
abbrev Offs.ag : Bool → ℕ → Off
  | true => o.agR
  | false => o.agL
/-- The block computed on after a hop. -/
abbrev Offs.oc : Bool → ℕ → Off
  | true => o.ocR
  | false => o.ocL
/-- The block sent in a reduce-scatter. -/
abbrev Offs.rs : Bool → ℕ → Off
  | true => o.rsR
  | false => o.rsL
/-- The block added into after a hop. -/
abbrev Offs.ad : Bool → ℕ → Off
  | true => o.adR
  | false => o.adL

/-- An all-gather transfer: the block, to the same block of the peer's buffer. -/
def agSend (b : Fin 3) (dir : Bool) (h : ℕ) : PR F PUnit :=
  Prog.lift (.enqueueDma (blk (bufM b) (o.ag dir h)) (.remote (Dev.tc (o.peer dir)) (blk (bufM b) (o.ag dir h)) (.dma (ssem dir h)))
    (.dma (rsem dir h)) (View.wordExact_bits rfl) (View.wordExact_bits rfl) ⟨⟨rfl, Or.inl rfl⟩, trivial⟩)
/-- The two waits of its handle. -/
def agWait (b : Fin 3) (dir : Bool) (h : ℕ) : PR F PUnit :=
  Prog.lift (.waitDma2 (ssem dir h) (blk (bufM b) (o.ag dir h)) (blk (bufM b) (o.ag dir h)) (View.wordExact_bits rfl)
    (View.wordExact_bits rfl)) >>= fun _ =>
  Prog.lift (.waitDma2 (rsem dir h) (blk (bufM b) (o.ag dir h)) (blk (bufM b) (o.ag dir h)) (View.wordExact_bits rfl)
    (View.wordExact_bits rfl))

/-- A reduce-scatter transfer: the block, to a slot of the peer's landing buffer. -/
def rsSend (b : Fin 3) (dir : Bool) (h : ℕ) : PR F PUnit :=
  Prog.lift (.enqueueDma (blk (bufM b) (o.rs dir h)) (.remote (Dev.tc (o.peer dir)) (slot (commM dir) h) (.dma (ssem dir h)))
    (.dma (rsem dir h)) (View.wordExact_bits rfl) ((View.wordExact_bits rfl).reshape _ _) ⟨⟨rfl, Or.inl rfl⟩, trivial⟩)
/-- The two waits of its handle. -/
def rsWait (b : Fin 3) (dir : Bool) (h : ℕ) : PR F PUnit :=
  Prog.lift (.waitDma2 (ssem dir h) (slot (commM dir) h) (blk (bufM b) (o.rs dir h)) ((View.wordExact_bits rfl).reshape _ _)
    (View.wordExact_bits rfl)) >>= fun _ =>
  Prog.lift (.waitDma2 (rsem dir h) (blk (bufM b) (o.rs dir h)) (slot (commM dir) h) (View.wordExact_bits rfl)
    ((View.wordExact_bits rfl).reshape _ _))

/-- The credit after a hop, to the device it came from. -/
def giveCredit (dir : Bool) : PR F PUnit := semSignalWord (o.back dir) (csem dir) 1#32
/-- The wait for one credit. -/
def takeCredit (dir : Bool) : PR F PUnit := semWaitWord (csem dir) 1#32
/-- The wait for the last two. -/
def takeTwo (dir : Bool) : PR F PUnit := semWaitWord (csem dir) 2#32

/-- A step taken or left out. -/
def opt : Bool → PR F PUnit → PR F PUnit
  | true, p => p
  | false, _ => pure ⟨⟩

/-- What the device computes of a block: the layer on its share of the hidden width. -/
def part (wi : FVec F S256x512 .f32) (wo : FVec F S512x256 .f32) (x : FVec F S256x256 .f32) : FVec F S256x256 .f32 :=
  matmul dot_S256x512_S512x256_S256x256_1_0_0_1_n_n none
    (maximumf (matmul dot_S256x256_S256x512_S256x512_1_0_0_1_n_n none x wi (constant S256x512 .f32 0x00000000#32))
      (broadcast S256x512 (Scalar.ofBits .f32 0x00000000#32)))
    wo (constant S256x256 .f32 0x00000000#32)

/-- What is written to buffer `b`: the printed code reshapes the block it writes to a scratch buffer, to its own
    shape. -/
def wr : Fin 3 → FVec F S256x256 .f32 → FVec F S256x256 .f32
  | 0, v => shapeCast S256x256 v shapeCasts_S256x256_S256x256
  | 1, v => shapeCast S256x256 v shapeCasts_S256x256_S256x256
  | 2, v => v

/-- What is made of a block read from buffer `b` for an addition, likewise. -/
def rdd : Fin 3 → FVec F S256x256 .f32 → FVec F S256x256 .f32
  | 0, v => v
  | 1, v => v
  | 2, v => shapeCast S256x256 v shapeCasts_S256x256_S256x256

/-- A layer's step on one block: read it from `b`, write what is computed to `b'`. -/
def onChunk (b b' : Fin 3) (wi : FVec F S256x512 .f32) (wo : FVec F S512x256 .f32) (q : Off) :
    PR F PUnit :=
  ld (bufM b) q >>= fun x => ld (bufM b') q >>= fun _ => st (bufM b') q (wr b' (part wi wo x))

/-- The addition after a reduce-scatter hop. -/
def addStep (b : Fin 3) (dir : Bool) (h : ℕ) : PR F PUnit :=
  ld (bufM b) (o.ad dir h) >>= fun x => ldSlot (commM dir) h >>= fun y => ld (bufM b) (o.ad dir h) >>= fun _ =>
    st (bufM b) (o.ad dir h) (wr b (addf (rdd b x) (shapeCast S256x256 y shapeCasts_S1x256x256_S256x256)))

/-- The start of a hop: the credits, then the transfers. -/
def startHop (send : Bool → ℕ → PR F PUnit) (h : ℕ) : PR F PUnit :=
  opt (Nat.ble 2 h) (takeCredit true) >>= fun _ =>
  opt (Nat.ble 2 h && Nat.blt h 15) (takeCredit false) >>= fun _ =>
  send true h >>= fun _ => opt (Nat.blt h 15) (send false h)

/-- A loop over hops `i`, `i + 1`, …, `n` of them. -/
def loop (f : ℕ → PR F PUnit) : ℕ → ℕ → PR F PUnit
  | 0, _ => pure ⟨⟩
  | n + 1, i => f i >>= fun _ => loop f n (i + 1)

/-- Hop `h` of an all-gather, its transfers started: the waits, the credits, the next hop's start, the layer's step on
    what came. -/
def agHop (b : Fin 3) (oc : Off → PR F PUnit) (h : ℕ) : PR F PUnit :=
  agWait o b true h >>= fun _ =>
  opt (Nat.blt h 15) (agWait o b false h) >>= fun _ =>
  giveCredit o true >>= fun _ =>
  opt (Nat.blt h 15) (giveCredit o false) >>= fun _ =>
  opt (Nat.blt h 15) (startHop (agSend o b) (h + 1)) >>= fun _ =>
  oc (o.oc true h) >>= fun _ =>
  opt (Nat.blt h 15) (oc (o.oc false h))

/-- Hop `h` of a reduce-scatter. -/
def rsHop (b : Fin 3) (h : ℕ) : PR F PUnit :=
  rsWait o b true h >>= fun _ =>
  opt (Nat.blt h 15) (rsWait o b false h) >>= fun _ =>
  addStep o b true h >>= fun _ =>
  giveCredit o true >>= fun _ =>
  opt (Nat.blt h 15) (addStep o b false h >>= fun _ => giveCredit o false) >>= fun _ =>
  opt (Nat.blt h 15) (startHop (rsSend o b) (h + 1))

/-- The wait for the outstanding credits. -/
def drain : PR F PUnit := takeTwo true >>= fun _ => takeTwo false

/-- An all-gather of a buffer, with the layer's step on each block. -/
def agPhase (b : Fin 3) (oc : Off → PR F PUnit) : PR F PUnit :=
  startHop (agSend o b) 0 >>= fun _ => oc o.own' >>= fun _ => loop (agHop o b oc) 16 0 >>= fun _ => drain

/-- A reduce-scatter of a buffer. -/
def rsPhase (b : Fin 3) : PR F PUnit :=
  startHop (rsSend o b) 0 >>= fun _ => loop (rsHop o b) 16 0 >>= fun _ => drain

/-- Read a layer's input weights. -/
def ldIn (l : Fin 3) : PR F (Vec F S256x512 .f32) :=
  Prog.lift (E := TpuEff nD τ sig (Elt F) Λ₀ .tc) (.load (winM l)
    (Rect.unit (s := S256x512) ![0, 0] S256x512.size inb_S256x512_S256x512_0_0).toLoadRect (View.loadsAt_vmem h_S256x512))
/-- Read a layer's output weights. -/
def ldOut (l : Fin 3) : PR F (Vec F S512x256 .f32) :=
  Prog.lift (E := TpuEff nD τ sig (Elt F) Λ₀ .tc) (.load (woutM l)
    (Rect.unit (s := S512x256) ![0, 0] S512x256.size inb_S512x256_S512x256_0_0).toLoadRect (View.loadsAt_vmem h_S512x256))
/-- Read the device's block of the input. -/
def ldX : PR F (Vec F S256x256 .f32) :=
  Prog.lift (E := TpuEff nD τ sig (Elt F) Λ₀ .tc) (.load (Memref.whole cc0_stg0_0 : Memref sig .tc .vmem S256x256 .f32)
    (Rect.unit (s := S256x256) ![0, 0] S256x256.size inb_S256x256_S256x256_0_0).toLoadRect (View.loadsAt_vmem h_S256x256))

/-- A layer: the weights, then the all-gather of `b` with the layer's step into `b'`, then the reduce-scatter of `b'`. -/
def layer (l : Fin 3) (b b' : Fin 3) : PR F PUnit :=
  ldIn l >>= fun wi => ldOut l >>= fun wo =>
  agPhase o b (onChunk b b' (shapeCast S256x512 wi shapeCasts_S256x512_S256x512)
    (shapeCast S512x256 wo shapeCasts_S512x256_S512x256)) >>= fun _ =>
  rsPhase o b'

/-- The entry handshake. -/
def handshake : PR F PUnit :=
  semSignalWord o.pv bsem 1#32 >>= fun _ => semSignalWord o.nx bsem 1#32 >>= fun _ => semWaitWord bsem 2#32

/-- The start: the device's block of the input into its place in the first buffer. -/
def init : PR F PUnit :=
  ldX >>= fun x =>
  ld (bufM 0) o.own >>= fun _ =>
  st (bufM 0) o.own (shapeCast S256x256 (shapeCast S256x256 x shapeCasts_S256x256_S256x256) shapeCasts_S256x256_S256x256)

/-- The body over given offsets. -/
def prog : PR F PUnit :=
  handshake o >>= fun _ => init o >>= fun _ =>
  layer o 0 0 1 >>= fun _ =>
  layer o 1 1 0 >>= fun _ =>
  layer o 2 0 2 >>= fun _ =>
  agPhase o 2 (fun _ => pure ⟨⟩)

end Cert.KernelIdeal.Pf

end
-- ==== Proof.Ideal.Ring.lean ====
/-
# The ring of 32 devices: positions, the blocks each hop moves, the semaphores

`pos dir c k` is the device `k` steps from `c` against direction `dir` (`true`: to the next device): where the block
that `c` sends in hop `k` of an all-gather comes from.
-/
module

public import proofs.«01_k».proof.Proof.Ideal.Prog

@[expose] public section

noncomputable section

namespace Cert.KernelIdeal.Pf

open Idealize.ShloMosaic Idealize.ShloMosaic.TcCoe Idealize.SL.Sem
open Cert.KernelIdeal Cert.KernelIdeal.Gen

/-! ## Positions -/

set_option backward.proofsInPublic true in
/-- The device `k` steps from `c`: back for `true`, on for `false`. -/
def pos (dir : Bool) (c : Dev nD) (k : ℕ) : Dev nD :=
  ⟨(c.val + (if dir then 31 else 1) * k) % 32, Nat.mod_lt _ (by decide)⟩

/-- The hops of a phase in direction `dir`. -/
def nh (dir : Bool) : ℕ := if dir then 16 else 15

/-- Where direction `dir` sends, and where it receives from. -/
abbrev peer (dir : Bool) (c : Dev nD) : Dev nD := pos (!dir) c 1
abbrev back (dir : Bool) (c : Dev nD) : Dev nD := pos dir c 1

/-- The block sent in hop `h` of a reduce-scatter. -/
abbrev rsPos (dir : Bool) (c : Dev nD) (h : ℕ) : Dev nD := pos (!dir) c (nh dir - h)

theorem pos_zero (dir : Bool) (c : Dev nD) : pos dir c 0 = c := by
  apply Fin.ext; have := c.isLt; simp only [pos, Nat.mul_zero, Nat.add_zero]; exact Nat.mod_eq_of_lt this

theorem pos_pos (dir : Bool) (c : Dev nD) (a b : ℕ) : pos dir (pos dir c a) b = pos dir c (a + b) := by
  apply Fin.ext; cases dir <;> simp only [pos] <;> simp <;> omega

theorem pos_not_pos (dir : Bool) (c : Dev nD) (a b : ℕ) (h : a ≤ b) : pos (!dir) (pos dir c a) b = pos (!dir) c (b - a) := by
  apply Fin.ext; cases dir <;> simp only [pos] <;> simp <;> omega

theorem back_peer (dir : Bool) (c : Dev nD) : back dir (peer dir c) = c := by
  apply Fin.ext; have hc : c.val < 32 := c.isLt; cases dir <;> simp only [back, peer, pos] <;> simp <;> omega
theorem peer_back (dir : Bool) (c : Dev nD) : peer dir (back dir c) = c := by
  apply Fin.ext; have hc : c.val < 32 := c.isLt; cases dir <;> simp only [back, peer, pos] <;> simp <;> omega

theorem pos_back (dir : Bool) (c : Dev nD) (h : ℕ) : pos dir (back dir c) h = pos dir c (h + 1) := by
  rw [pos_pos, Nat.add_comm]
theorem rsPos_back (dir : Bool) (c : Dev nD) (h : ℕ) (hh : h + 1 ≤ nh dir) : rsPos dir (back dir c) h = rsPos dir c (h + 1) := by
  unfold rsPos back
  rw [pos_not_pos _ _ _ _ (by omega), Nat.sub_sub]
theorem rsPos_last (dir : Bool) (c : Dev nD) : rsPos dir c (nh dir) = c := by
  unfold rsPos; rw [Nat.sub_self, pos_zero]

/-- The devices around the ring, as a permutation. -/
def turn (dir : Bool) : Dev nD ≃ Dev nD := ⟨peer dir, back dir, back_peer dir, peer_back dir⟩

/-! ## The block offsets the kernel computes -/

theorem inb_off (j : Dev nD) : Inb ![256 * j.val, 0] := by
  have hj : j.val < 32 := j.isLt
  intro a
  have h1 : S256x256.size = ![256, 256] := rfl
  have h2 : S8192x256.size = ![8192, 256] := rfl
  rw [h1, h2]
  fin_cases a <;> simp <;> omega

/-- The block `j`. -/
def off (j : Dev nD) : Off := ⟨![256 * j.val, 0], inb_off j⟩

theorem nx_eq (c : Dev nD) : (printed c).nx = peer true c := by
  apply Fin.ext
  show k0_dev2 c = _
  revert c; decide +kernel
theorem pv_eq (c : Dev nD) : (printed c).pv = peer false c := by
  apply Fin.ext
  show k0_dev1 c = _
  revert c; decide +kernel
theorem own_eq (c : Dev nD) : (printed c).own = off c := by
  apply Subtype.ext
  show k0_off1 c = _
  revert c; decide +kernel
theorem own'_eq (c : Dev nD) : (printed c).own' = off c := by
  apply Subtype.ext
  show k0_off4 c = _
  revert c; decide +kernel

theorem agR_all : ∀ (c : Dev nD) (h : Fin 16), k0_off2 c (BitVec.ofNat 32 h.val) = ![256 * (pos true c h.val).val, 0] := by
  decide +kernel
theorem agL_all : ∀ (c : Dev nD) (h : Fin 15), k0_off3 c (BitVec.ofNat 32 h.val) = ![256 * (pos false c h.val).val, 0] := by
  decide +kernel
theorem ocR_all : ∀ (c : Dev nD) (h : Fin 16), k0_off5 c (BitVec.ofNat 32 h.val) = ![256 * (pos true c (h.val + 1)).val, 0] := by
  decide +kernel
theorem ocL_all : ∀ (c : Dev nD) (h : Fin 15), k0_off6 c (BitVec.ofNat 32 h.val) = ![256 * (pos false c (h.val + 1)).val, 0] := by
  decide +kernel
theorem rsR_all : ∀ (c : Dev nD) (h : Fin 16), k0_off7 c (BitVec.ofNat 32 h.val) = ![256 * (rsPos true c h.val).val, 0] := by
  decide +kernel
theorem rsL_all : ∀ (c : Dev nD) (h : Fin 15), k0_off8 c (BitVec.ofNat 32 h.val) = ![256 * (rsPos false c h.val).val, 0] := by
  decide +kernel
theorem adR_all : ∀ (c : Dev nD) (h : Fin 16), k0_off9 c (BitVec.ofNat 32 h.val) = ![256 * (rsPos true c (h.val + 1)).val, 0] := by
  decide +kernel
theorem adL_all : ∀ (c : Dev nD) (h : Fin 15), k0_off10 c (BitVec.ofNat 32 h.val) = ![256 * (rsPos false c (h.val + 1)).val, 0] := by
  decide +kernel

theorem ag_eq (c : Dev nD) (dir : Bool) (h : ℕ) (hh : h < nh dir) : (printed c).ag dir h = off (pos dir c h) := by
  cases dir
  · have h15 : h < 15 := hh
    refine Subtype.ext ((agL_all c (Fin.ofNat 15 h)).trans ?_)
    rw [show (Fin.ofNat 15 h).val = h from Nat.mod_eq_of_lt h15]; rfl
  · have h16 : h < 16 := hh
    refine Subtype.ext ((agR_all c (Fin.ofNat 16 h)).trans ?_)
    rw [show (Fin.ofNat 16 h).val = h from Nat.mod_eq_of_lt h16]; rfl
theorem oc_eq (c : Dev nD) (dir : Bool) (h : ℕ) (hh : h < nh dir) : (printed c).oc dir h = off (pos dir c (h + 1)) := by
  cases dir
  · have h15 : h < 15 := hh
    refine Subtype.ext ((ocL_all c (Fin.ofNat 15 h)).trans ?_)
    rw [show (Fin.ofNat 15 h).val = h from Nat.mod_eq_of_lt h15]; rfl
  · have h16 : h < 16 := hh
    refine Subtype.ext ((ocR_all c (Fin.ofNat 16 h)).trans ?_)
    rw [show (Fin.ofNat 16 h).val = h from Nat.mod_eq_of_lt h16]; rfl
theorem rs_eq (c : Dev nD) (dir : Bool) (h : ℕ) (hh : h < nh dir) : (printed c).rs dir h = off (rsPos dir c h) := by
  cases dir
  · have h15 : h < 15 := hh
    refine Subtype.ext ((rsL_all c (Fin.ofNat 15 h)).trans ?_)
    rw [show (Fin.ofNat 15 h).val = h from Nat.mod_eq_of_lt h15]; rfl
  · have h16 : h < 16 := hh
    refine Subtype.ext ((rsR_all c (Fin.ofNat 16 h)).trans ?_)
    rw [show (Fin.ofNat 16 h).val = h from Nat.mod_eq_of_lt h16]; rfl
theorem ad_eq (c : Dev nD) (dir : Bool) (h : ℕ) (hh : h < nh dir) : (printed c).ad dir h = off (rsPos dir c (h + 1)) := by
  cases dir
  · have h15 : h < 15 := hh
    refine Subtype.ext ((adL_all c (Fin.ofNat 15 h)).trans ?_)
    rw [show (Fin.ofNat 15 h).val = h from Nat.mod_eq_of_lt h15]; rfl
  · have h16 : h < 16 := hh
    refine Subtype.ext ((adR_all c (Fin.ofNat 16 h)).trans ?_)
    rw [show (Fin.ofNat 16 h).val = h from Nat.mod_eq_of_lt h16]; rfl
theorem peer_eq (c : Dev nD) (dir : Bool) : (printed c).peer dir = peer dir c := by
  cases dir
  · exact pv_eq c
  · exact nx_eq c
theorem back_eq (c : Dev nD) (dir : Bool) : (printed c).back dir = back dir c := by
  cases dir
  · exact nx_eq c
  · exact pv_eq c

/-! ## The semaphores -/

/-- The semaphores of the protocol: the barrier, the credits of a direction, a direction's two send and two receive
    semaphores. -/
inductive Knd : Type
  | bar
  | cr (dir : Bool)
  | ss (dir : Bool) (s : Fin 2)
  | rs (dir : Bool) (s : Fin 2)
deriving DecidableEq

/-- All of them. -/
def knds : List Knd := [.bar, .cr true, .cr false, .ss true 0, .ss true 1, .ss false 0, .ss false 1,
  .rs true 0, .rs true 1, .rs false 0, .rs false 1]

theorem mem_knds (k : Knd) : k ∈ knds := by
  rcases k with _ | d | ⟨d, s⟩ | ⟨d, s⟩
  · decide
  · cases d <;> decide
  · cases d <;> fin_cases s <;> decide
  · cases d <;> fin_cases s <;> decide

instance : Fintype Knd := ⟨knds.toFinset, fun k => List.mem_toFinset.mpr (mem_knds k)⟩

/-- Which semaphore it is. -/
def semOf : Knd → SemLoc sig
  | .bar => .reg bsem
  | .cr dir => .reg (csem dir)
  | .ss dir s => .dma (ssem dir s.val)
  | .rs dir s => .dma (rsem dir s.val)

theorem semOf_inj_list : ∀ a ∈ knds, ∀ b ∈ knds, semOf a = semOf b → a = b := by decide +kernel
theorem semOf_injective : Function.Injective semOf := fun a b h => semOf_inj_list a (mem_knds a) b (mem_knds b) h

/-- The kind a semaphore is of, if it is one of the protocol's. -/
def kindOf (sm : SemLoc sig) : Option Knd := knds.find? fun k => semOf k = sm

theorem kindOf_list : ∀ a ∈ knds, kindOf (semOf a) = some a := by decide +kernel
theorem kindOf_semOf (k : Knd) : kindOf (semOf k) = some k := kindOf_list k (mem_knds k)

/-- The slot of hop `h`. -/
def sl (h : ℕ) : Fin 2 := ⟨h % 2, Nat.mod_lt _ (by decide)⟩

theorem semAt_congr (p : DmaSems sig S2) {a b : ℕ} (h : a % 2 = b % 2) : semAt p a = semAt p b := by
  have hg : ∀ (x y : ℕ) (hx : ∀ i, (![x] : Fin 1 → Nat) i + S1.size i ≤ S2.size i) (hy : ∀ i, (![y] : Fin 1 → Nat) i + S1.size i ≤ S2.size i),
      x = y → ((p.slice (Rect.unit (s := S2) ![x] S1.size hx)).squeeze S_ squeezes_S1_S_).sem
        = ((p.slice (Rect.unit (s := S2) ![y] S1.size hy)).squeeze S_ squeezes_S1_S_).sem := by
    intro x y hx hy e; subst e; rfl
  exact hg _ _ _ _ h
theorem semAt_sl (p : DmaSems sig S2) (h : ℕ) : semAt p h = semAt p (sl h).val :=
  semAt_congr p (by simp only [sl, Nat.mod_mod])
theorem ssem_sl (dir : Bool) (h : ℕ) : SemLoc.dma (ssem dir h) = semOf (.ss dir (sl h)) := by
  cases dir
  · exact congrArg SemLoc.dma (semAt_sl _ h)
  · exact congrArg SemLoc.dma (semAt_sl _ h)
theorem rsem_sl (dir : Bool) (h : ℕ) : SemLoc.dma (rsem dir h) = semOf (.rs dir (sl h)) := by
  cases dir
  · exact congrArg SemLoc.dma (semAt_sl _ h)
  · exact congrArg SemLoc.dma (semAt_sl _ h)

end Cert.KernelIdeal.Pf

end
-- ==== Proof.Ideal.Sched.lean ====
/-
# The protocol: who waits for what, and what each landing hands over

Seven phases `p`: even ones gather the blocks of a buffer, odd ones reduce and scatter them. Hop `h` of phase `p` along
direction `dir` is named by the number `16 p + h` on every semaphore it touches. Each semaphore is a cell of
`Rounds`: the send and receive semaphores (two per direction, by the hop's parity) are waited hop by hop, so a hop is a
round; the credits of a phase are one round, consumed a unit at a time. The slots of the landing buffers are kept by
`Release`: the reader gives a slot back after its addition, and the writer takes it for its next transfer.
-/
module

public import proofs.«01_k».proof.Proof.Ideal.Ring
public import Idealize.ShloMosaic.Lib.Release
public import Idealize.ShloMosaic.Lib.MemrefSat
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A landing slot: the device it is on, the direction, the parity. -/
abbrev KK : Type := Dev nD × Bool × Fin 2
abbrev UB : Type := URounds (GSem nD τ sig) ℕ
abbrev UU : Type := UR sig nD τ × (UB × Release.USlots KK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Release.USlots KK)).trans embR
abbrev EL : Emb (Release.USlots KK) (MT nD τ sig ℕ (Elt F) ℕ UU ℕ) :=
  (Emb.inr : Emb (Release.USlots KK) (UB × Release.USlots KK)).trans embR

/-- The cell of a device's semaphore. -/
abbrev kcell (c : Dev nD) (k : Knd) : GSem nD τ sig := ((c : Thread nD τ), semOf k)

theorem kcell_inj {c c' : Dev nD} {k k' : Knd} (h : kcell c k = kcell c' k') : c = c' ∧ k = k' :=
  ⟨congrArg (fun g : GSem nD τ sig => g.1.1) h, semOf_injective (congrArg Prod.snd h)⟩

/-! ## What the blocks hold -/

/-- A block's contents. -/
abbrev Blk (F : FTy → Type) [FloatOps F] : Type := FVec F S256x256 .f32

/-- The devices' inputs: the block of the input, and by layer the two shares of the weights. -/
structure Ins (F : FTy → Type) [FloatOps F] where
  x : Dev nD → Blk F
  wi : ℕ → Dev nD → FVec F S256x512 .f32
  wo : ℕ → Dev nD → FVec F S512x256 .f32

/-- What hop `h` of a reduce-scatter along `dir` sends from `c`, device `e` having computed `P e j` of block `j`. -/
def sentOf (P : Dev nD → Dev nD → Blk F) (dir : Bool) : ℕ → Dev nD → Blk F
  | 0, c => P c (rsPos dir c 0)
  | h + 1, c => addf (P c (rsPos dir c (h + 1))) (sentOf P dir h (back dir c))

/-- What the reduce-scatter leaves in `c`'s own block. -/
def redOf (P : Dev nD → Dev nD → Blk F) (c : Dev nD) : Blk F :=
  addf (addf (P c c) (sentOf P false 14 (back false c))) (sentOf P true 15 (back true c))

/-- The blocks of layer `l`'s input. -/
def Xs (I : Ins F) : ℕ → Dev nD → Blk F
  | 0, j => I.x j
  | l + 1, j => redOf (fun c i => part (I.wi l c) (I.wo l c) (Xs I l i)) j

/-- What device `c` computes in layer `l` of block `j`. -/
def Part (I : Ins F) (l : ℕ) (c j : Dev nD) : Blk F := part (I.wi l c) (I.wo l c) (Xs I l j)

/-- What hop `h` of layer `l`'s reduce-scatter sends. -/
abbrev sent (I : Ins F) (l : ℕ) (dir : Bool) (c : Dev nD) (h : ℕ) : Blk F := sentOf (Part I l) dir h c

theorem sent_zero (I : Ins F) (l : ℕ) (dir : Bool) (c : Dev nD) : sent I l dir c 0 = Part I l c (rsPos dir c 0) := rfl
theorem sent_succ (I : Ins F) (l : ℕ) (dir : Bool) (c : Dev nD) (h : ℕ) :
    sent I l dir c (h + 1) = addf (Part I l c (rsPos dir c (h + 1))) (sent I l dir (back dir c) h) := rfl
theorem Xs_succ (I : Ins F) (l : ℕ) (c : Dev nD) :
    Xs I (l + 1) c = addf (addf (Part I l c c) (sent I l false (back false c) 14)) (sent I l true (back true c) 15) := rfl

/-! ## Counting rounds and releases -/

/-- The buffer phase `p` runs on. -/
def bufAt : ℕ → Fin 3
  | 0 => 0
  | 1 => 1
  | 2 => 0
  | _ => 2
abbrev bOf (p : ℕ) : Fin 3 := bufAt ((p + 1) / 2)

/-- The hops of a phase whose parity is `s`. -/
def cnt (dir : Bool) (s : Fin 2) : ℕ := if dir = false ∧ s = 1 then 7 else 8

/-- The round of hop `h` of phase `p` on its send and receive cells. -/
def rnd (dir : Bool) (p h : ℕ) : ℕ := p * cnt dir (sl h) + h / 2
/-- The rounds of parity `s` done before hop `m` of phase `p`. -/
def posS (dir : Bool) (p m : ℕ) (s : Fin 2) : ℕ := p * cnt dir s + (m + 1 - s.val) / 2
/-- The slots of parity `s` read before hop `m` of phase `p`. -/
def relS (dir : Bool) (p m : ℕ) (s : Fin 2) : ℕ := p / 2 * cnt dir s + if p % 2 = 1 then (m + 1 - s.val) / 2 else 0

theorem posS_sl (dir : Bool) (p h : ℕ) : posS dir p h (sl h) = rnd dir p h := by
  unfold posS rnd sl; simp only; omega
theorem posS_succ (dir : Bool) (p h : ℕ) (s : Fin 2) :
    posS dir p (h + 1) s = if s = sl h then rnd dir p h + 1 else posS dir p h s := by
  have hs := s.isLt
  by_cases e : s = sl h
  · subst e; rw [if_pos rfl]; unfold posS rnd sl; simp only; omega
  · rw [if_neg e]
    have : s.val ≠ h % 2 := fun h' => e (Fin.ext h')
    unfold posS; omega
theorem posS_mono (dir : Bool) (p : ℕ) {m m' : ℕ} (h : m ≤ m') (s : Fin 2) : posS dir p m s ≤ posS dir p m' s := by
  unfold posS; omega
theorem relS_mono (dir : Bool) (p : ℕ) {m m' : ℕ} (h : m ≤ m') (s : Fin 2) : relS dir p m s ≤ relS dir p m' s := by
  unfold relS; split <;> omega
theorem posS_end (dir : Bool) (p : ℕ) (s : Fin 2) : posS dir p (nh dir) s = posS dir (p + 1) 0 s := by
  cases dir <;> fin_cases s <;> simp [posS, nh, cnt] <;> omega
theorem relS_even (dir : Bool) (p m m' : ℕ) (hp : p % 2 = 0) (s : Fin 2) : relS dir p m s = relS dir p m' s := by
  unfold relS; rw [if_neg (by omega), if_neg (by omega)]
theorem relS_sl (dir : Bool) (p h : ℕ) (hp : p % 2 = 1) : relS dir p h (sl h) = rnd dir (p / 2) h := by
  unfold relS; rw [if_pos hp]; unfold rnd sl; simp only; omega
theorem relS_succ (dir : Bool) (p h : ℕ) (hp : p % 2 = 1) (s : Fin 2) :
    relS dir p (h + 1) s = if s = sl h then rnd dir (p / 2) h + 1 else relS dir p h s := by
  have hs := s.isLt
  by_cases e : s = sl h
  · subst e; rw [if_pos rfl]; unfold relS rnd sl; rw [if_pos hp]; simp only; omega
  · rw [if_neg e]
    have : s.val ≠ h % 2 := fun h' => e (Fin.ext h')
    unfold relS; rw [if_pos hp, if_pos hp]; omega
theorem relS_end (dir : Bool) (p : ℕ) (s : Fin 2) : relS dir p (nh dir) s = relS dir (p + 1) 0 s := by
  have h2 : p % 2 = 0 ∨ p % 2 = 1 := by omega
  rcases h2 with h | h
  · have h' : (p + 1) % 2 = 1 := by omega
    have h3 : (p + 1) / 2 = p / 2 := by omega
    unfold relS; rw [if_neg (by omega), if_pos h', h3]; have := s.isLt; omega
  · have h' : ¬(p + 1) % 2 = 1 := by omega
    have h3 : (p + 1) / 2 = p / 2 + 1 := by omega
    unfold relS; rw [if_pos h, if_neg h', h3]
    cases dir <;> fin_cases s <;> simp [nh, cnt] <;> omega

/-! ## The duties -/

/-- The units a transfer of a block credits. -/
def N : ℕ := (blk (bufM 0) (off 0)).view.dmaCredit

/-- Hop `16 p + h` belongs to direction `dir`. -/
abbrev isHop (dir : Bool) (d : ℕ) : Prop := d % 16 < nh dir

def kduties : Knd → ℕ → Finset ℕ
  | .bar, r => if r = 0 then {0, 1} else ∅
  | .cr dir, r => if r < 7 then (Finset.range (nh dir)).image (16 * r + ·) else ∅
  | .ss dir s, r => (Finset.range 112).filter fun d => isHop dir d ∧ sl d = s ∧ rnd dir (d / 16) (d % 16) = r
  | .rs dir s, r => (Finset.range 112).filter fun d => isHop dir d ∧ sl d = s ∧ rnd dir (d / 16) (d % 16) = r

def kamount : Knd → ℕ
  | .bar => 1
  | .cr _ => 1
  | .ss _ _ => N
  | .rs _ _ => N

/-- The share of block `k` of a gather that direction `dir` works with: the own block is sent both ways. -/
def qq (dir : Bool) (k : ℕ) : PosShare TreeShare :=
  if k = 0 then (if dir then fullShare.left else fullShare.right) else fullShare

/-- Block `j` of buffer `b` on device `c`, holding `X`. -/
abbrev own (c : Dev nD) (b : Fin 3) (j : Dev nD) (q : PosShare TreeShare) (X : Blk F) : sProp 𝕄 :=
  owns (c : Thread nD τ) (blk (bufM b) (off j)) q X
/-- The same, at some contents. -/
abbrev ownx (c : Dev nD) (b : Fin 3) (j : Dev nD) : sProp 𝕄 := iprop(∃ v : Blk F, own c b j fullShare v)
/-- The landing slot of hop `h`, holding `X`. -/
abbrev ownSlot (c : Dev nD) (dir : Bool) (s : Fin 2) (X : Blk F) : sProp 𝕄 :=
  owns (c : Thread nD τ) (slot (commM dir) s.val) fullShare X

/-- The blocks of `peer dir d`'s buffer `b` that the gather along `dir` writes from `d`. -/
def grant (dir : Bool) (b : Fin 3) (d : Dev nD) : sProp 𝕄 :=
  bigSep (Finset.range (nh dir)) fun k => ownx (F := F) (peer dir d) b (pos dir d k)

/-- What device `d` tells a sender along `dir` before hop `m` of phase `p`: how far its receive cells and slots are. -/
def tells (dir : Bool) (d : Dev nD) (p m : ℕ) : sProp 𝕄 :=
  bigSep Finset.univ fun s : Fin 2 =>
    iprop(reached ER (kcell d (.rs dir s)) (posS dir p m s) ∗ Release.released EL (d, dir, s) (1 + relS dir p m s))

variable (I : Ins F)

/-- What the end of hop `h` of phase `p` gives back to its sender. -/
def payS (c : Dev nD) (dir : Bool) (p h : ℕ) : sProp 𝕄 :=
  if p % 2 = 0 then own c (bOf p) (pos dir c h) (qq dir h).left (Xs I (p / 2) (pos dir c h))
  else if dir = true ∧ h = 15 then iprop(emp)
  else ownx (F := F) c (bOf p) (rsPos dir c h)

/-- What the landing of hop `h` of phase `p` hands to its receiver. -/
def payR (c : Dev nD) (dir : Bool) (p h : ℕ) : sProp 𝕄 :=
  iprop(reached ER (kcell (back dir c) (.cr dir)) p
    ∗ if p % 2 = 0 then own c (bOf p) (pos dir c (h + 1)) fullShare (Xs I (p / 2) (pos dir c (h + 1)))
      else iprop(ownSlot c dir (sl h) (sent I (p / 2) dir (back dir c) h)
        ∗ if dir = true ∧ h = 15 then grant (F := F) false (bOf p) c else iprop(emp)))

/-- What a credit of hop `h` of phase `p` hands to the sender `c`. -/
def payC (c : Dev nD) (dir : Bool) (p h : ℕ) : sProp 𝕄 :=
  iprop(tells dir (peer dir c) p (h + 1)
    ∗ if dir = true ∧ p % 2 = 1 ∧ h = 15 then grant (F := F) true (bOf p) c else iprop(emp))

/-- What the entry signal from `peer dir c` hands to `c`. -/
def payB (c : Dev nD) (dir : Bool) : sProp 𝕄 :=
  iprop(grant (F := F) dir 0 c ∗ tells dir (peer dir c) 0 0)

def kpay (c : Dev nD) (k : Knd) (d : ℕ) : sProp 𝕄 :=
  match k with
  | .bar => payB c (d == 1)
  | .cr dir => payC c dir (d / 16) (d % 16)
  | .ss dir _ => payS I c dir (d / 16) (d % 16)
  | .rs dir _ => payR I c dir (d / 16) (d % 16)

theorem N_pos : 0 < N := by decide +kernel

theorem kamount_pos (k : Knd) : 0 < kamount k := by
  cases k
  · exact Nat.one_pos
  · exact Nat.one_pos
  · exact N_pos
  · exact N_pos

/-- The protocol. -/
def Rd : Schedule (GSem nD τ sig) ℕ 𝕄 where
  duties g r := match kindOf g.2 with | some k => kduties k r | none => ∅
  amount g _ _ := match kindOf g.2 with | some k => kamount k | none => 1
  payload g _ d := match kindOf g.2 with | some k => kpay I g.1.1 k d | none => iprop(emp)
  amount_pos := by
    intro g r d _
    cases kindOf g.2 with
    | none => exact Nat.one_pos
    | some k => exact kamount_pos k

theorem Rd_duties (c : Dev nD) (k : Knd) (r : ℕ) : (Rd I).duties (kcell c k) r = kduties k r := by
  show (match kindOf (semOf k) with | some k => kduties k r | none => ∅) = _
  rw [kindOf_semOf]
theorem Rd_amount (c : Dev nD) (k : Knd) (r d : ℕ) : (Rd I).amount (kcell c k) r d = kamount k := by
  show (match kindOf (semOf k) with | some k => kamount k | none => 1) = _
  rw [kindOf_semOf]
theorem Rd_payload (c : Dev nD) (k : Knd) (r d : ℕ) : (Rd I).payload (kcell c k) r d = kpay I c k d := by
  show (match kindOf (semOf k) with | some k => kpay I c k d | none => iprop(emp)) = _
  rw [kindOf_semOf]

instance tells_persistent (dir : Bool) (d : Dev nD) (p m : ℕ) : BI.Persistent (tells (F := F) dir d p m) := by
  unfold tells; infer_instance

instance grant_storable (dir : Bool) (b : Fin 3) (d : Dev nD) : Storable (upEmb : UEmb _ 𝕄) (grant (F := F) dir b d) := by
  unfold grant; infer_instance
instance tells_storable (dir : Bool) (d : Dev nD) (p m : ℕ) : Storable (upEmb : UEmb _ 𝕄) (tells (F := F) dir d p m) := by
  unfold tells; infer_instance
instance payS_storable (c : Dev nD) (dir : Bool) (p h : ℕ) : Storable (upEmb : UEmb _ 𝕄) (payS I c dir p h) := by
  unfold payS; split
  · infer_instance
  · split <;> infer_instance
instance payR_storable (c : Dev nD) (dir : Bool) (p h : ℕ) : Storable (upEmb : UEmb _ 𝕄) (payR I c dir p h) := by
  unfold payR; split
  · infer_instance
  · split <;> infer_instance
instance payC_storable (c : Dev nD) (dir : Bool) (p h : ℕ) : Storable (upEmb : UEmb _ 𝕄) (payC (F := F) c dir p h) := by
  unfold payC; split <;> infer_instance
instance payB_storable (c : Dev nD) (dir : Bool) : Storable (upEmb : UEmb _ 𝕄) (payB (F := F) c dir) := by
  unfold payB; infer_instance
instance Rd_storable (g : GSem nD τ sig) (r d : ℕ) : Storable (upEmb : UEmb _ 𝕄) ((Rd I).payload g r d) := by
  show Storable _ (match kindOf g.2 with | some k => kpay I g.1.1 k d | none => iprop(emp))
  cases kindOf g.2 with
  | none => dsimp only; infer_instance
  | some k => cases k <;> (dsimp only [kpay]; infer_instance)

/-! ## The hops' duties -/

theorem sl_hop (p h : ℕ) : sl (16 * p + h) = sl h := Fin.ext (by show (16 * p + h) % 2 = h % 2; omega)

theorem nh_le (dir : Bool) : nh dir ≤ 16 := by cases dir <;> decide

theorem rnd_inj {dir : Bool} {p h p' h' : ℕ} (hh : h < nh dir) (hh' : h' < nh dir) (hs : sl h = sl h')
    (hr : rnd dir p h = rnd dir p' h') : p = p' ∧ h = h' := by
  have e : h % 2 = h' % 2 := congrArg Fin.val hs
  unfold rnd at hr; rw [hs] at hr
  have h2 : h' % 2 = 0 ∨ h' % 2 = 1 := by omega
  cases dir
  · have a : h < 15 := hh
    have b : h' < 15 := hh'
    rcases h2 with k | k
    · have : sl h' = 0 := Fin.ext k
      rw [this] at hr; simp [cnt] at hr; omega
    · have : sl h' = 1 := Fin.ext k
      rw [this] at hr; simp [cnt] at hr; omega
  · have a : h < 16 := hh
    have b : h' < 16 := hh'
    simp [cnt] at hr; omega

theorem kduties_hop (dir : Bool) (p h : ℕ) (hp : p < 7) (hh : h < nh dir) :
    kduties (.ss dir (sl h)) (rnd dir p h) = {16 * p + h} := by
  have h16 := nh_le dir
  ext d
  simp only [kduties, Finset.mem_filter, Finset.mem_range, Finset.mem_singleton]
  constructor
  · rintro ⟨h1, h2, h3, h4⟩
    have e : sl d = sl (d % 16) := Fin.ext (by show d % 2 = d % 16 % 2; omega)
    obtain ⟨a, b⟩ := rnd_inj h2 hh (e ▸ h3) h4
    omega
  · rintro rfl
    have e1 : (16 * p + h) / 16 = p := by omega
    have e2 : (16 * p + h) % 16 = h := by omega
    refine ⟨by omega, ?_, sl_hop p h, ?_⟩
    · show _ % 16 < _; rw [e2]; exact hh
    · rw [e1, e2]
theorem kduties_hop' (dir : Bool) (p h : ℕ) (hp : p < 7) (hh : h < nh dir) :
    kduties (.rs dir (sl h)) (rnd dir p h) = {16 * p + h} := kduties_hop dir p h hp hh

theorem kduties_late (k : Knd) (r : ℕ) (hr : (match k with | .bar => 1 | .cr _ => 7 | .ss dir s => 7 * cnt dir s | .rs dir s => 7 * cnt dir s) ≤ r) :
    kduties k r = ∅ := by
  have hx : ∀ dir s d, d ∈ Finset.range 112 → isHop dir d → sl d = s → rnd dir (d / 16) (d % 16) = r → 7 * cnt dir s ≤ r → False := by
    intro dir s d h1 h2 h3 h4 h5
    have hd := Finset.mem_range.mp h1
    have e : sl (d % 16) = s := by rw [← h3]; exact Fin.ext (by show d % 16 % 2 = d % 2; omega)
    unfold rnd at h4; rw [e] at h4
    have hd2 : d % 2 = s.val := congrArg Fin.val h3
    cases dir <;> fin_cases s <;> simp [cnt, isHop, nh] at h2 h4 h5 hd2 <;> omega
  cases k with
  | bar => exact if_neg (by have : 1 ≤ r := hr; omega)
  | cr dir => exact if_neg (by have : 7 ≤ r := hr; omega)
  | ss dir s =>
    refine Finset.filter_eq_empty_iff.mpr fun d h1 h2 => hx dir s d h1 h2.1 h2.2.1 h2.2.2 hr
  | rs dir s =>
    refine Finset.filter_eq_empty_iff.mpr fun d h1 h2 => hx dir s d h1 h2.1 h2.2.1 h2.2.2 hr

/-! ## What is owed, and the levels -/

/-- The number of the send of hop `h` of phase `p`, and of its credit: what is still owed is what has a later number. -/
def tS (dir : Bool) (p h : ℕ) : ℕ := 64 * (p + 1) + 4 * h + if dir then 0 else 1
def tC (dir : Bool) (p h : ℕ) : ℕ := 64 * (p + 1) + 4 * h + if dir then 2 else 3

/-- What step `t` of device `c` pays. -/
def evT (c : Dev nD) (t : ℕ) : CellTallies nD τ sig ℕ :=
  if t < 64 then
    if t = 2 then tallyAt (kcell (peer false c) .bar) 2 1
    else if t = 3 then tallyAt (kcell (peer true c) .bar) 3 1
    else 0
  else
    let dir := t % 2 == 0
    let h := t % 64 / 4
    if h < nh dir then
      if t % 4 < 2 then tallyAt (kcell (peer dir c) (.rs dir (sl h))) t N
      else tallyAt (kcell (back dir c) (.cr dir)) t 1
    else 0

/-- What device `c` owes from step `t` on. -/
def OT (c : Dev nD) (t : ℕ) : CellTallies nD τ sig ℕ := ∑ k ∈ Finset.Ico t 512, evT c k

theorem OT_step (c : Dev nD) (t : ℕ) (ht : t < 512) : OT c t = OT c (t + 1) + evT c t := by
  unfold OT
  have e : Finset.Ico t 512 = insert t (Finset.Ico (t + 1) 512) := by
    ext x; simp only [Finset.mem_insert, Finset.mem_Ico]; omega
  rw [e, Finset.sum_insert (by simp), add_comm]

theorem evT_send (c : Dev nD) (dir : Bool) (p h : ℕ) (hh : h < nh dir) :
    evT c (tS dir p h) = tallyAt (kcell (peer dir c) (.rs dir (sl h))) (tS dir p h) N := by
  have h16 := nh_le dir
  have e1 : ¬tS dir p h < 64 := by unfold tS; omega
  have e2 : (tS dir p h % 2 == 0) = dir := by cases dir <;> simp [tS] <;> omega
  have e3 : tS dir p h % 64 / 4 = h := by cases dir <;> simp [tS] <;> omega
  have e4 : tS dir p h % 4 < 2 := by cases dir <;> simp [tS] <;> omega
  unfold evT; rw [if_neg e1]; dsimp only; rw [e2, e3, if_pos hh, if_pos e4]
theorem evT_credit (c : Dev nD) (dir : Bool) (p h : ℕ) (hh : h < nh dir) :
    evT c (tC dir p h) = tallyAt (kcell (back dir c) (.cr dir)) (tC dir p h) 1 := by
  have h16 := nh_le dir
  have e1 : ¬tC dir p h < 64 := by unfold tC; omega
  have e2 : (tC dir p h % 2 == 0) = dir := by cases dir <;> simp [tC] <;> omega
  have e3 : tC dir p h % 64 / 4 = h := by cases dir <;> simp [tC] <;> omega
  have e4 : ¬tC dir p h % 4 < 2 := by cases dir <;> simp [tC] <;> omega
  unfold evT; rw [if_neg e1]; dsimp only; rw [e2, e3, if_pos hh, if_neg e4]
theorem evT_skip (c : Dev nD) (p k : ℕ) (hk : k = 61 ∨ k = 63) : evT c (64 * (p + 1) + k) = 0 := by
  have e1 : ¬64 * (p + 1) + k < 64 := by omega
  have e2 : ((64 * (p + 1) + k) % 2 == 0) = false := by simp; omega
  have e3 : (64 * (p + 1) + k) % 64 / 4 = 15 := by omega
  unfold evT; rw [if_neg e1]; dsimp only; rw [e2, e3]; rfl
theorem evT_low (c : Dev nD) (t : ℕ) (h4 : 4 ≤ t) (h : t < 64) : evT c t = 0 := by
  unfold evT; rw [if_pos h, if_neg (by omega), if_neg (by omega)]

/-- Every index at every semaphore of a TensorCore. -/
def LL (g : GSem nD τ sig) : Finset ℕ := if g.1.2 = .tc then Finset.range 512 else ∅
def lvv (g : GSem nD τ sig) (i : ℕ) : ℕ := i

theorem LL_tc (c : Dev nD) (sm : SemLoc sig) : LL ((c : Thread nD τ), sm) = Finset.range 512 := if_pos rfl

theorem evT_pos {c : Dev nD} {t : ℕ} {g : GSem nD τ sig} {i : ℕ} (h : 0 < evT c t g i) : i = t ∧ g.1.2 = .tc := by
  have key : ∀ (d : Dev nD) (k : Knd) (t' n : ℕ), 0 < tallyAt (kcell d k) t' n g i → i = t' ∧ g.1.2 = .tc := by
    intro d k t' n h
    rw [tallyAt_apply] at h
    by_cases e : g = kcell d k ∧ i = t'
    · exact ⟨e.2, by rw [e.1]⟩
    · rw [if_neg e] at h; exact absurd h (Nat.lt_irrefl 0)
  have z : 0 < (0 : CellTallies nD τ sig ℕ) g i → i = t ∧ g.1.2 = .tc := fun h => absurd h (Nat.lt_irrefl 0)
  unfold evT at h
  split at h
  · split at h
    · next e => rw [e]; exact key _ _ _ _ h
    · split at h
      · next e => rw [e]; exact key _ _ _ _ h
      · exact z h
  · dsimp only at h
    split at h
    · split at h
      · exact key _ _ _ _ h
      · exact key _ _ _ _ h
    · exact z h

theorem OT_pos {c : Dev nD} {t : ℕ} {g : GSem nD τ sig} {i : ℕ} (h : 0 < OT c t g i) : t ≤ i ∧ i < 512 ∧ g.1.2 = .tc := by
  unfold OT at h
  rw [Finset.sum_apply, Finsupp.finsetSum_apply] at h
  obtain ⟨k, hk, hp⟩ := Finset.exists_ne_zero_of_sum_ne_zero (Nat.pos_iff_ne_zero.mp h)
  obtain ⟨e1, e2⟩ := evT_pos (Nat.pos_of_ne_zero hp)
  have := Finset.mem_Ico.mp hk
  exact ⟨e1 ▸ this.1, e1 ▸ this.2, e2⟩

theorem mayOwe (c : Dev nD) (t : ℕ) (Nw : Waits sig ℕ) (hN : ∀ x ∈ Nw, x.2 < t) (h0 : 0 < t) (ht : t ≤ 512) :
    (levAts LL lvv : sProp 𝕄) ⊢ MayOwe (c : Thread nD τ) Nw (OT c t) :=
  MayOwe.of_cut (L := LL) (lev := lvv) (t - 1)
    (fun x hx => by rw [LL_tc]; exact Finset.mem_range.mpr (by have := hN x hx; omega))
    (fun g u hg => by
      obtain ⟨_, h2, h3⟩ := OT_pos hg
      unfold LL; rw [if_pos h3]; exact Finset.mem_range.mpr h2)
    (fun x hx => by have := hN x hx; show x.2 ≤ t - 1; omega)
    (fun g u hg => by have := (OT_pos hg).1; show t - 1 < u; omega)

end Cert.KernelIdeal.Pf

end
-- ==== Proof.Ideal.Step.lean ====
/-
# Single operations: a block read, a block written, a slot read; sequencing
-/
module

public import proofs.«01_k».proof.Proof.Ideal.Sched
public import Idealize.ShloMosaic.Lib.Pipeline.Value

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What it takes to run `p` on device `c` so that `Q` holds after it. -/
abbrev WP {α : Type} (c : Dev nD) (p : PR F α) (Q : α → sProp 𝕄) : sProp 𝕄 :=
  wp frame (wpE (defs₀ (F := F)) 𝒱₀ (c : Thread nD τ) none) Set.univ p Q

variable {c : Dev nD}

/-- A program with a proved first part. -/
theorem bindF {P Q : sProp 𝕄} {p : PR F PUnit} {α : Type} {q : PUnit → PR F α} {Φ : α → sProp 𝕄} (h : P ⊢ WP c p (fun _ => Q)) :
    P ⊢ iprop((Q -∗ WP c (q ⟨⟩) Φ) -∗ WP c (p >>= q) Φ) := by
  unfold WP
  iintro HP Hk
  rw [wp_bind]
  iapply wp_wand $$ [HP]
  · iapply h; iexact HP
  · iintro %a HQ
    iapply Hk; iexact HQ

/-- The same, of a first part that returns a known value. -/
theorem bindV {β : Type} {P Q : sProp 𝕄} {p : PR F β} {v : β} {α : Type} {q : β → PR F α} {Φ : α → sProp 𝕄}
    (h : P ⊢ WP c p (fun a => iprop(⌜a = v⌝ ∗ Q))) :
    P ⊢ iprop((Q -∗ WP c (q v) Φ) -∗ WP c (p >>= q) Φ) := by
  unfold WP
  iintro HP Hk
  rw [wp_bind]
  iapply wp_wand $$ [HP]
  · iapply h; iexact HP
  · iintro %a ⟨%e, HQ⟩
    subst e
    iapply Hk; iexact HQ

theorem ret_intro {α : Type} {Q : α → sProp 𝕄} (a : α) : Q a ⊢ WP c (pure a : PR F α) Q := by
  unfold WP
  simp only [Prog.pure_eq_ret]
  rw [wp_ret]
  iintro H; imodintro; iexact H

/-! The operations' rules, by the block or slot accessed. -/

section Rules

variable (c)

theorem ld_rule (b : Fin 3) (j : Dev nD) (q : PosShare TreeShare) (f : Buf (Elt F) ((blk (bufM b) (off j)).view.loc (c : Thread nD τ)))
    {Q : Blk F → sProp 𝕄} :
    ((blk (bufM b) (off j)).view.loc (c : Thread nD τ) ↦[(blk (bufM b) (off j)).view.set]{q} f : sProp 𝕄)
      ⊢ iprop((((blk (bufM b) (off j)).view.loc (c : Thread nD τ) ↦[(blk (bufM b) (off j)).view.set]{q} f)
          -∗ WP c (.ret ((blk (bufM b) (off j)).view.read (Elt F) f)) Q) -∗ WP c (ld (bufM b) (off j)) Q) :=
  wp_load_rect (k := fun v => .ret v) 𝒱₀ (c : Thread nD τ) none Set.univ (m := bufM b)
    (r := Rect.unit (s := S8192x256) (off j).1 S256x256.size (off j).2) (fun _ h => h)

theorem st_rule (b : Fin 3) (j : Dev nD) (v : Blk F) (f : Buf (Elt F) ((blk (bufM b) (off j)).view.loc (c : Thread nD τ)))
    {Q : PUnit → sProp 𝕄} :
    ((blk (bufM b) (off j)).view.loc (c : Thread nD τ) ↦[(blk (bufM b) (off j)).view.set]{fullShare} f : sProp 𝕄)
      ⊢ iprop((((blk (bufM b) (off j)).view.loc (c : Thread nD τ) ↦[(blk (bufM b) (off j)).view.set]{fullShare}
            ((blk (bufM b) (off j)).view.write (Elt F) f v Finset.univ))
          -∗ WP c (.ret ⟨⟩) Q) -∗ WP c (st (bufM b) (off j) v) Q) := by
  have h := wp_store (defs := defs₀ (F := F)) (Γ := .empty) (Q := Q) (Ix := ℕ) (Name := ℕ) (U := UU) (Lvl := ℕ) (k := fun v => .ret v) 𝒱₀ (c : Thread nD τ) none Set.univ
    (m := bufM b)
    (r := Rect.unit (s := S8192x256) (off j).1 S256x256.size (off j).2) (w := v) (Mk := Finset.univ)
    (S := (blk (bufM b) (off j)).view.set) (f := f) (hx := View.stores_vmem_bits_univ h_S256x256 rfl) (hm := .inl rfl)
    (subset_of_eq (View.setOn_univ _))
  exact h

theorem ldSlot_rule (dir : Bool) (h : ℕ) (f : Buf (Elt F) ((slot (commM dir) h).view.loc (c : Thread nD τ)))
    {Q : FVec F S1x256x256 .f32 → sProp 𝕄} :
    ((slot (commM dir) h).view.loc (c : Thread nD τ) ↦[(slot (commM dir) h).view.set]{fullShare} f : sProp 𝕄)
      ⊢ iprop((((slot (commM dir) h).view.loc (c : Thread nD τ) ↦[(slot (commM dir) h).view.set]{fullShare} f)
          -∗ WP c (.ret ((commM dir).view.readAt (Elt F) (Rect.unit (s := S2x256x256) ![h % 2, 0, 0] S1x256x256.size (inb_comm h)).toLoadRect f)) Q)
        -∗ WP c (ldSlot (commM dir) h) Q) :=
  wp_load_rect (k := fun v => .ret v) 𝒱₀ (c : Thread nD τ) none Set.univ (m := commM dir)
    (r := Rect.unit (s := S2x256x256) ![h % 2, 0, 0] S1x256x256.size (inb_comm h))
    (by unfold slot; exact (subset_of_eq (View.set_reshape _ _).symm))

end Rules

/-- A block read. -/
theorem ld_spec (b : Fin 3) (j : Dev nD) (q : PosShare TreeShare) (X : Blk F) :
    own c b j q X ⊢ WP c (ld (bufM b) (off j)) (fun v => iprop(⌜v = X⌝ ∗ own c b j q X)) := by
  unfold own owns
  iintro ⟨%f, %hf, H⟩
  iapply (ld_rule c b j q f) $$ H
  iintro H
  unfold WP; rw [wp_ret]
  imodintro
  isplitr
  · ipureintro; exact hf
  · iexists f; isplitr
    · ipureintro; exact hf
    · iexact H

/-- A block written. -/
theorem st_spec (b : Fin 3) (j : Dev nD) (v : Blk F) :
    ownx (F := F) c b j ⊢ WP c (st (bufM b) (off j) v) (fun _ => own c b j fullShare v) := by
  unfold ownx own owns
  iintro ⟨%w, %f, %hf, H⟩
  iapply (st_rule c b j v f) $$ H
  iintro H
  unfold WP; rw [wp_ret]
  imodintro
  iexists ((blk (bufM b) (off j)).view.write (Elt F) f v Finset.univ)
  isplitr
  · ipureintro; exact View.read_write_univ _ _
  · iexact H

theorem slot_congr (M : Memref sig .tc .vmem S2x256x256 .f32) {a b : ℕ} (h : a % 2 = b % 2) : slot M a = slot M b := by
  have hg : ∀ (x y : ℕ) (hx : ∀ i, (![x, 0, 0] : Fin 3 → Nat) i + S1x256x256.size i ≤ S2x256x256.size i)
      (hy : ∀ i, (![y, 0, 0] : Fin 3 → Nat) i + S1x256x256.size i ≤ S2x256x256.size i), x = y →
      ((M.slice (Rect.unit (s := S2x256x256) ![x, 0, 0] S1x256x256.size hx) (fun _ => rfl)).squeeze S256x256
          squeezes_S1x256x256_S256x256 : Memref sig .tc .vmem S256x256 .f32)
        = (M.slice (Rect.unit (s := S2x256x256) ![y, 0, 0] S1x256x256.size hy) (fun _ => rfl)).squeeze S256x256
          squeezes_S1x256x256_S256x256 := by
    intro x y hx hy e; subst e; rfl
  exact hg _ _ _ _ h

theorem slot_sl (M : Memref sig .tc .vmem S2x256x256 .f32) (h : ℕ) : slot M (sl h).val = slot M h :=
  slot_congr M (Nat.mod_mod _ _)

/-- A landing slot read. -/
theorem ldSlot_spec (dir : Bool) (h : ℕ) (X : Blk F) :
    ownSlot c dir (sl h) X
      ⊢ WP c (ldSlot (commM dir) h) (fun v => iprop(⌜shapeCast S256x256 v shapeCasts_S1x256x256_S256x256 = X⌝ ∗ ownSlot c dir (sl h) X)) := by
  unfold ownSlot
  rw [slot_sl]
  unfold owns
  iintro ⟨%f, %hf, H⟩
  iapply (ldSlot_rule c dir h f) $$ H
  iintro H
  unfold WP; rw [wp_ret]
  imodintro
  isplitr
  · ipureintro; exact hf
  · iexists f; isplitr
    · ipureintro; exact hf
    · iexact H

/-! A layer's step on a block, and the addition after a reduce-scatter hop. -/

theorem wr_eq (b : Fin 3) (v : Blk F) : wr b v = v := by
  fin_cases b
  · exact shapeCast_self _ _
  · exact shapeCast_self _ _
  · rfl
theorem rdd_eq (b : Fin 3) (v : Blk F) : rdd b v = v := by
  fin_cases b
  · rfl
  · rfl
  · exact shapeCast_self _ _

theorem own_ownx (b : Fin 3) (j : Dev nD) (X : Blk F) : own c b j fullShare X ⊢ ownx (F := F) c b j := by
  unfold ownx; iintro H; iexists X; iexact H

theorem onChunk_spec (b b' : Fin 3) (wi : FVec F S256x512 .f32) (wo : FVec F S512x256 .f32) (j : Dev nD) (q : PosShare TreeShare) (X : Blk F) :
    iprop(own c b j q X ∗ ownx (F := F) c b' j)
      ⊢ WP c (onChunk b b' wi wo (off j)) (fun _ => iprop(own c b j q X ∗ own c b' j fullShare (part wi wo X))) := by
  unfold onChunk
  iintro ⟨H, ⟨%w, H'⟩⟩
  iapply (bindV (ld_spec b j q X)) $$ H
  iintro H
  iapply (bindV (ld_spec b' j fullShare w)) $$ H'
  iintro H'
  rw [wr_eq]
  ihave H' := (own_ownx b' j w) $$ H'
  iapply wp_wand $$ [H']
  · iapply (st_spec b' j (part wi wo X)); iexact H'
  iintro %_ H'
  isplitl [H] <;> iassumption

theorem bindS {β : Type} {P Q : sProp 𝕄} {p : PR F β} {R : β → Prop} {α : Type} {q : β → PR F α} {Φ : α → sProp 𝕄}
    (h : P ⊢ WP c p (fun a => iprop(⌜R a⌝ ∗ Q))) :
    P ⊢ iprop((∀ a, ⌜R a⌝ -∗ Q -∗ WP c (q a) Φ) -∗ WP c (p >>= q) Φ) := by
  unfold WP
  iintro HP Hk
  rw [wp_bind]
  iapply wp_wand $$ [HP]
  · iapply h; iexact HP
  · iintro %a ⟨%e, HQ⟩
    iapply Hk $$ %a %e HQ

theorem addStep_spec (b : Fin 3) (dir : Bool) (h : ℕ) (hh : h < nh dir) (X Y : Blk F) :
    iprop(own c b (rsPos dir c (h + 1)) fullShare X ∗ ownSlot c dir (sl h) Y)
      ⊢ WP c (addStep (printed c) b dir h)
          (fun _ => iprop(own c b (rsPos dir c (h + 1)) fullShare (addf X Y) ∗ ownSlot c dir (sl h) Y)) := by
  unfold addStep
  rw [ad_eq c dir h hh]
  iintro ⟨H, HS⟩
  iapply (bindV (ld_spec b _ fullShare X)) $$ H
  iintro H
  iapply (bindS (ldSlot_spec dir h Y)) $$ HS
  iintro %y %hy HS
  iapply (bindV (ld_spec b _ fullShare X)) $$ H
  iintro H
  rw [wr_eq, rdd_eq, hy]
  ihave H := (own_ownx b _ X) $$ H
  iapply wp_wand $$ [H]
  · iapply (st_spec b _ (addf X Y)); iexact H
  iintro %_ H
  isplitl [H] <;> iassumption

end Cert.KernelIdeal.Pf

end
-- ==== Proof.Ideal.Hop.lean ====
/-
# The hops' ghost state, and the steps that move it

`Gh c dir p m w g j`: device `c`, direction `dir`, phase `p`, `m` transfers sent, `w` waited for, `g` credits given, `j`
credits taken; with `Pos` the positions on the send and receive cells and `Rel` the landing slots' release counts.
-/
module

public import proofs.«01_k».proof.Proof.Ideal.Step
public import Idealize.SL.BI.BigOpNat

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Finite separating conjunctions -/

theorem bs_get {J : Type} [DecidableEq J] {s : Finset J} {i : J} (hi : i ∈ s) (Φ : J → sProp 𝕄) : bigSep s Φ ⊢ Φ i :=
  bigSep_elim hi
theorem bs_two (Φ : Fin 2 → sProp 𝕄) : bigSep Finset.univ Φ = iprop(Φ 0 ∗ Φ 1) := bigSep_fin_two Φ

/-! ## What every device knows -/

/-- A landing slot, at any contents. -/
def slotRes (k : KK) : sProp 𝕄 := iprop(∃ v : Blk F, ownSlot k.1 k.2.1 k.2.2 v)

instance slotRes_storable (k : KK) : Storable (upEmb : UEmb _ 𝕄) (slotRes (F := F) k) := by unfold slotRes; infer_instance

variable (I : Ins F) (K : Dev nD × Knd → ℕ) (KS : KK → ℕ)

/-- The invariants of all cells and slots, that every cell was funded, and the levels. -/
def Glob : sProp 𝕄 :=
  iprop(bigSep Finset.univ (fun x : Dev nD × Knd => cellInv ER (Rd I) (K x) (kcell x.1 x.2))
    ∗ bigSep Finset.univ (fun x : Dev nD × Knd => reached ER (kcell x.1 x.2) 0)
    ∗ bigSep Finset.univ (fun k : KK => Release.slotInv EL (KS k) k (slotRes (F := F) k))
    ∗ levAts LL lvv)

instance Glob_persistent : BI.Persistent (Glob I K KS) := by unfold Glob; infer_instance

theorem Glob_cell (c : Dev nD) (k : Knd) : Glob I K KS ⊢ cellInv ER (Rd I) (K (c, k)) (kcell c k) := by
  unfold Glob
  iintro ⟨H, -⟩
  iapply (bs_get (Finset.mem_univ ((c, k) : Dev nD × Knd)) (fun x : Dev nD × Knd => cellInv ER (Rd I) (K x) (kcell x.1 x.2)))
  iexact H
theorem Glob_reached (c : Dev nD) (k : Knd) : Glob I K KS ⊢ (reached ER (kcell c k) 0 : sProp 𝕄) := by
  unfold Glob
  iintro ⟨-, H, -⟩
  iapply (bs_get (Finset.mem_univ ((c, k) : Dev nD × Knd)) (fun x : Dev nD × Knd => (reached ER (kcell x.1 x.2) 0 : sProp 𝕄)))
  iexact H
theorem Glob_slot (k : KK) : Glob I K KS ⊢ Release.slotInv EL (KS k) k (slotRes (F := F) k) := by
  unfold Glob
  iintro ⟨-, -, H, -⟩
  iapply (bs_get (Finset.mem_univ k) (fun k : KK => Release.slotInv EL (KS k) k (slotRes (F := F) k)))
  iexact H
theorem Glob_lev : Glob I K KS ⊢ (levAts LL lvv : sProp 𝕄) := by
  unfold Glob
  iintro ⟨-, -, -, H⟩
  iexact H

/-- What device `c` owes from step `t` on, whatever it has waited for. -/
def OW (c : Dev nD) (t : ℕ) : sProp 𝕄 := iprop(∃ W, owes (c : Thread nD τ) (OT c t) W)

theorem OW_skip (c : Dev nD) (t : ℕ) (ht : t < 512) (h : evT c t = 0) : OW (F := F) c t ⊢ OW (F := F) c (t + 1) := by
  unfold OW; rw [OT_step c t ht, h, add_zero]

/-! ## Waits and signals at the protocol's cells -/

theorem mayOweG (c : Dev nD) (t : ℕ) (Nw : Waits sig ℕ) (hN : ∀ x ∈ Nw, x.2 < t) (h0 : 0 < t) (ht : t ≤ 512) :
    Glob I K KS ⊢ (MayOwe (c : Thread nD τ) Nw (OT c t) : sProp 𝕄) :=
  (@Glob_lev F _ I K KS).trans (mayOwe c t Nw hN h0 ht)

theorem mayWait (c : Dev nD) (sm : SemLoc sig) (i t : ℕ) (hi : i < t) (ht : t ≤ 512) :
    Glob I K KS ⊢ (MayWait (c : Thread nD τ) sm i (OT c t) : sProp 𝕄) := by
  have h1 : (levAts LL lvv : sProp 𝕄) ⊢ MayWait (c : Thread nD τ) sm i (OT c t) := by
    have h2 := mayOwe (F := F) c t {(sm, i)} (fun x hx => by rw [Finset.mem_singleton.mp hx]; exact hi) (Nat.zero_lt_of_lt hi) ht
    exact h2
  exact (@Glob_lev F _ I K KS).trans h1

/-- A wait for a whole round of one duty. -/
theorem wait_one (c : Dev nD) (k : Knd) (w : TpuEff nD τ sig (Elt F) Λ₀ (c : Thread nD τ).2 PUnit)
    (hw : ∀ Kt : PUnit → sProp 𝕄, wpE (defs₀ (F := F)) 𝒱₀ (c : Thread nD τ) none Set.univ w Kt = waitSpec (c : Thread nD τ) Set.univ (semOf k) (kamount k) Kt)
    (r d i t : ℕ) (hd : kduties k r = {d}) (hi : i < t) (ht : t ≤ 512) :
    iprop(Glob I K KS ∗ cred (tallyAt (kcell c k) i (kamount k)) ∗ OW (F := F) c t ∗ atPos ER (kcell c k) r ∅ 0)
      ⊢ WP c (.op w .ret) (fun _ => iprop(OW (F := F) c t ∗ atPos ER (kcell c k) (r + 1) ∅ 0 ∗ reached ER (kcell c k) (r + 1) ∗ kpay I c k d)) := by
  have hrest : bigSep ((Rd I).duties (kcell c k) r \ ∅) (fun d => (Rd I).payload (kcell c k) r d) = kpay I c k d := by
    rw [Rd_duties, hd, Finset.sdiff_empty, bigSep_singleton, Rd_payload]
  unfold OW
  iintro ⟨#HG, Hc, ⟨%W, HO⟩, Hat⟩
  iapply (Rounds.wp_wait_rest_token 𝒱₀ ER (Rd I) (c : Thread nD τ) none (κ := K (c, k)) (k := fun v => .ret v) hw (Set.mem_univ _) i (O := OT c t) (W := W)
    (R := r) (m := 0) (T := ∅)
    (by show 0 + kamount k = ∑ x ∈ (Rd I).duties (kcell c k) r, (Rd I).amount (kcell c k) r x
        rw [Rd_duties, hd, Finset.sum_singleton, Rd_amount, Nat.zero_add])) $$ [Hc HO Hat]
  · isplitr; · iapply (Glob_cell I K KS c k); iexact HG
    isplitl [Hc]; · iexact Hc
    isplitl [HO]; · iexact HO
    isplitr
    · iapply (mayWait I K KS c (semOf k) i t hi ht); iexact HG
    iexact Hat
  iintro ⟨HO, Hat, Hr, Hp⟩
  rw [wp_ret]; imodintro
  isplitl [HO]; · iexists _; iexact HO
  isplitl [Hat]; · iexact Hat
  isplitl [Hr]; · iexact Hr
  ihave Hp := (Entails.of_eq hrest) $$ Hp
  iexact Hp

/-- A signal of one unit. -/
theorem signal_one (c dst : Dev nD) (k : Knd) (s : Sem sig) (hs : semOf k = .reg s) (r d t : ℕ) (hd : d ∈ kduties k r) (hk : kamount k = 1)
    (he : evT c t = tallyAt (kcell dst k) t 1) (ht : t < 512) :
    iprop(Glob I K KS ∗ OW (F := F) c t ∗ dutyTok ER (kcell dst k) r d ∗ kpay I dst k d ∗ reached ER (kcell dst k) r)
      ⊢ WP c (.op (.semSignal (dst : Thread nD τ) s 1) .ret) (fun _ => OW (F := F) c (t + 1)) := by
  have hcell : ((dst : Thread nD τ), SemLoc.reg s) = kcell dst k := by unfold kcell; rw [hs]
  unfold OW
  iintro ⟨#HG, ⟨%W, HO⟩, Ht, Hp, #Hr⟩
  iapply (Rounds.wp_signal 𝒱₀ ER (Rd I) (c : Thread nD τ) none (dst := (dst : Thread nD τ)) (sem := s) (κ := K (dst, k)) (r := r) (d := d) (k' := 1) (k := fun v => .ret v)
    (by rw [hcell, Rd_duties]; exact hd) (by rw [hcell, Rd_amount]; exact hk) t (O₀ := OT c t) (OT c (t + 1)) (W := W)
    (by rw [hcell, ← he]; exact OT_step c t ht)) $$ [HO Ht Hp]
  · rw [hcell, Rd_payload]
    isplitr; · iapply (Glob_cell I K KS dst k); iexact HG
    isplitl [HO]; · iexact HO
    isplitl [Ht]; · iexact Ht
    isplitl [Hp]; · iexact Hp
    iexact Hr
  iintro HO
  rw [wp_ret]; imodintro
  iexists W; iexact HO

/-! ## The hops' state -/

section State

variable (c : Dev nD) (dir : Bool) (p : ℕ)

/-- What the transfer of hop `h` is paid with. -/
def hopTok (h : ℕ) : sProp 𝕄 :=
  iprop(dutyTok ER (kcell c (.ss dir (sl h))) (rnd dir p h) (16 * p + h)
    ∗ dutyTok ER (kcell (peer dir c) (.rs dir (sl h))) (rnd dir p h) (16 * p + h)
    ∗ if p % 2 = 1 then Release.writeTok EL ((peer dir c, dir, sl h) : KK) (1 + rnd dir (p / 2) h) else iprop(emp))
/-- What the credit of hop `h` is paid with. -/
def creTok (h : ℕ) : sProp 𝕄 := dutyTok ER (kcell (back dir c) (.cr dir)) p (16 * p + h)
/-- The right to wait for the landing of hop `h`, and for its credit. -/
def rcvCred (h : ℕ) : sProp 𝕄 := cred (tallyAt (kcell c (.rs dir (sl h))) (tS dir p h) N)
def creCred (h : ℕ) : sProp 𝕄 := cred (tallyAt (kcell c (.cr dir)) (tC dir p h) 1)
/-- The right to wait for the end of the own transfer of hop `h`. -/
def sndCred (h : ℕ) : sProp 𝕄 := cred (tallyAt (kcell c (.ss dir (sl h))) (tS dir p h) N)

/-- One parity's positions. -/
def pos1 (s : Fin 2) (r : ℕ) : sProp 𝕄 :=
  iprop((atPos ER (kcell c (.ss dir s)) r ∅ 0 ∗ reached ER (kcell c (.ss dir s)) r)
    ∗ (atPos ER (kcell c (.rs dir s)) r ∅ 0 ∗ reached ER (kcell c (.rs dir s)) r))
def Pos (m : ℕ) : sProp 𝕄 := bigSep Finset.univ fun s : Fin 2 => pos1 (F := F) c dir s (posS dir p m s)

/-- One parity's release count. -/
def rel1 (s : Fin 2) (r : ℕ) : sProp 𝕄 :=
  iprop(Release.readerAt EL ((c, dir, s) : KK) (1 + r) ∗ Release.released EL ((c, dir, s) : KK) (1 + r))
def Rel (m : ℕ) : sProp 𝕄 := bigSep Finset.univ fun s : Fin 2 => rel1 (F := F) c dir s (relS dir p m s)

/-- The credits of the phase, `j` taken. -/
def CR (j : ℕ) : sProp 𝕄 :=
  iprop(∃ T : Finset ℕ, ⌜T ⊆ kduties (.cr dir) p⌝ ∗ atPos ER (kcell c (.cr dir)) p T j
    ∗ bigSep T (fun d => kpay I c (.cr dir) d) ∗ tells (F := F) dir (peer dir c) p j ∗ reached ER (kcell c (.cr dir)) p)

/-- The tokens and rights of the hops to come: `m` sent, `w` waited for, `g` credits given, `j` taken. -/
def Tk (m w g j : ℕ) : sProp 𝕄 :=
  iprop(bigSep (Finset.Ico m (nh dir)) (fun h => hopTok (F := F) c dir p h)
    ∗ bigSep (Finset.Ico w (nh dir)) (fun h => rcvCred (F := F) c dir p h)
    ∗ bigSep (Finset.Ico g (nh dir)) (fun h => creTok (F := F) c dir p h)
    ∗ bigSep (Finset.Ico j (nh dir)) (fun h => creCred (F := F) c dir p h))

def Gh (m w g j : ℕ) : sProp 𝕄 := iprop(Tk (F := F) c dir p m w g j ∗ Pos (F := F) c dir p w ∗ CR I c dir p j)

theorem tells_intro (m : ℕ) : iprop(Pos (F := F) c dir p m ∗ Rel (F := F) c dir p m) ⊢ tells (F := F) dir c p m := by
  unfold Pos Rel tells pos1 rel1
  rw [bs_two, bs_two, bs_two]
  iintro ⟨⟨⟨-, -, H1⟩, -, -, H2⟩, ⟨-, H3⟩, -, H4⟩
  isplitl [H1 H3]
  · isplitl [H1] <;> iassumption
  · isplitl [H2] <;> iassumption

theorem tells_mono {m m' : ℕ} (h : m ≤ m') : tells (F := F) dir c p m' ⊢ tells (F := F) dir c p m := by
  unfold tells
  refine bigSep_mono fun s _ => ?_
  exact BI.sep_mono (reached_mono ER (posS_mono dir p h s)) (Release.released_mono EL (Nat.add_le_add_left (relS_mono dir p h s) 1))

theorem tells_end : tells (F := F) dir c p (nh dir) = tells (F := F) dir c (p + 1) 0 := by
  unfold tells
  exact bigSep_congr fun s _ => by rw [posS_end, relS_end]
theorem Pos_end : Pos (F := F) c dir p (nh dir) = Pos (F := F) c dir (p + 1) 0 := by
  unfold Pos
  exact bigSep_congr fun s _ => by rw [posS_end]
theorem Rel_end : Rel (F := F) c dir p (nh dir) = Rel (F := F) c dir (p + 1) 0 := by
  unfold Rel
  exact bigSep_congr fun s _ => by rw [relS_end]
theorem Rel_even (m m' : ℕ) (hp : p % 2 = 0) : Rel (F := F) c dir p m = Rel (F := F) c dir p m' := by
  unfold Rel
  exact bigSep_congr fun s _ => by rw [relS_even dir p m m' hp]

/-- Both parities, one opened: the other is untouched by the next hop. -/
theorem two_open (f : ℕ → Fin 2 → ℕ) (G : Fin 2 → ℕ → sProp 𝕄) (h : ℕ)
    (hf : ∀ s, f (h + 1) s = if s = sl h then f h (sl h) + 1 else f h s) :
    bigSep Finset.univ (fun s => G s (f h s))
      ⊢ iprop(G (sl h) (f h (sl h)) ∗ (G (sl h) (f h (sl h) + 1) -∗ bigSep Finset.univ (fun s => G s (f (h + 1) s)))) := by
  rw [bs_two, bs_two, hf 0, hf 1]
  have h2 : sl h = 0 ∨ sl h = 1 := by
    have := (sl h).isLt
    rcases Nat.lt_or_ge (sl h).val 1 with a | a
    · exact Or.inl (Fin.ext (by omega))
    · exact Or.inr (Fin.ext (by show (sl h).val = 1; omega))
  rcases h2 with e | e
  · rw [e, if_pos rfl, if_neg (by decide)]
    iintro ⟨H0, H1⟩
    isplitl [H0]; · iexact H0
    iintro H0
    isplitl [H0] <;> iassumption
  · rw [e, if_neg (by decide), if_pos rfl]
    iintro ⟨H0, H1⟩
    isplitl [H1]; · iexact H1
    iintro H1
    isplitl [H0] <;> iassumption

theorem Pos_open (h : ℕ) : Pos (F := F) c dir p h
    ⊢ iprop(pos1 (F := F) c dir (sl h) (rnd dir p h) ∗ (pos1 (F := F) c dir (sl h) (rnd dir p h + 1) -∗ Pos (F := F) c dir p (h + 1))) := by
  have := two_open (F := F) (posS dir p) (fun s r => pos1 (F := F) c dir s r) h
    (fun s => by rw [posS_succ, posS_sl])
  rw [posS_sl] at this
  exact this
theorem Rel_open (h : ℕ) (hp : p % 2 = 1) : Rel (F := F) c dir p h
    ⊢ iprop(rel1 (F := F) c dir (sl h) (rnd dir (p / 2) h) ∗ (rel1 (F := F) c dir (sl h) (rnd dir (p / 2) h + 1) -∗ Rel (F := F) c dir p (h + 1))) := by
  have := two_open (F := F) (relS dir p) (fun s r => rel1 (F := F) c dir s r) h
    (fun s => by rw [relS_succ dir p h hp, relS_sl dir p h hp])
  rw [relS_sl dir p h hp] at this
  exact this

end State

end Cert.KernelIdeal.Pf

end
-- ==== Proof.Ideal.Credit.lean ====
/-
# The credits: one taken, one given, a phase's last two
-/
module

public import proofs.«01_k».proof.Proof.Ideal.Hop

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bs_join {s t : Finset ℕ} (h : t ⊆ s) (Φ : ℕ → sProp 𝕄) : iprop(bigSep t Φ ∗ bigSep (s \ t) Φ) ⊢ bigSep s Φ :=
  Entails.of_eq (bigSep_sdiff_split h).symm

theorem takeCredit_eq (dir : Bool) : (takeCredit dir : PR F PUnit) = .op (.semWait (csem dir) 1) .ret := rfl
theorem takeTwo_eq (dir : Bool) : (takeTwo dir : PR F PUnit) = .op (.semWait (csem dir) 2) .ret := rfl
theorem giveCredit_eq (c : Dev nD) (dir : Bool) :
    (giveCredit (printed c) dir : PR F PUnit) = .op (.semSignal (back dir c : Thread nD τ) (csem dir) 1) .ret := by
  unfold giveCredit; rw [back_eq]; rfl

theorem cr_duties (dir : Bool) (p : ℕ) (hp : p < 7) : kduties (.cr dir) p = (Finset.range (nh dir)).image (16 * p + ·) := if_pos hp
theorem cr_mem {dir : Bool} {p : ℕ} (hp : p < 7) {d : ℕ} : d ∈ kduties (.cr dir) p ↔ ∃ h, h < nh dir ∧ d = 16 * p + h := by
  rw [cr_duties dir p hp, Finset.mem_image]
  constructor
  · rintro ⟨h, h1, h2⟩; exact ⟨h, Finset.mem_range.mp h1, h2.symm⟩
  · rintro ⟨h, h1, h2⟩; exact ⟨h, Finset.mem_range.mpr h1, h2.symm⟩
theorem cr_card (dir : Bool) (p : ℕ) (hp : p < 7) : (kduties (.cr dir) p).card = nh dir := by
  rw [cr_duties dir p hp, Finset.card_image_of_injective _ (fun a b h => by simpa using h), Finset.card_range]

variable (I : Ins F) (K : Dev nD × Knd → ℕ) (KS : KK → ℕ)

theorem cr_expect (c : Dev nD) (dir : Bool) (p : ℕ) (hp : p < 7) : (Rd I).expect (kcell c (.cr dir)) p = nh dir := by
  unfold Schedule.expect Schedule.amountOf
  rw [Rd_duties, Finset.sum_congr rfl (fun d _ => Rd_amount I c (.cr dir) p d)]
  show ∑ _ ∈ _, 1 = _
  rw [← Finset.card_eq_sum_ones, cr_card dir p hp]

theorem kpay_cr (c : Dev nD) (dir : Bool) (p h : ℕ) (hh : h < 16) : kpay I c (.cr dir) (16 * p + h) = payC (F := F) c dir p h := by
  show payC c dir _ _ = _
  rw [show (16 * p + h) / 16 = p by omega, show (16 * p + h) % 16 = h by omega]

/-- A set of more than `j` credits tells how far the receiver is after `j` hops more. -/
theorem tells_of (c : Dev nD) (dir : Bool) (p j : ℕ) (hp : p < 7) (S : Finset ℕ) (hS : S ⊆ kduties (.cr dir) p) (hj : j + 1 ≤ S.card) :
    bigSep S (fun d => kpay I c (.cr dir) d) ⊢ tells (F := F) dir (peer dir c) p (j + 1) := by
  have hx : ∃ d ∈ S, 16 * p + j ≤ d := by
    by_contra hn
    have hsub : S ⊆ (Finset.range j).image (16 * p + ·) := by
      intro d hd
      obtain ⟨h, h1, h2⟩ := (cr_mem hp).mp (hS hd)
      have h3 : ¬16 * p + j ≤ d := fun h => hn ⟨d, hd, h⟩
      exact Finset.mem_image.mpr ⟨h, Finset.mem_range.mpr (by omega), h2.symm⟩
    have := Finset.card_le_card hsub
    have h4 := Finset.card_image_le (s := Finset.range j) (f := (16 * p + ·))
    rw [Finset.card_range] at h4; omega
  obtain ⟨d, hd, hle⟩ := hx
  obtain ⟨h, h1, rfl⟩ := (cr_mem hp).mp (hS hd)
  have h16 := nh_le dir
  refine (bs_get hd (fun d => kpay I c (.cr dir) d)).trans ?_
  rw [kpay_cr I c dir p h (by omega)]
  unfold payC
  iintro ⟨H, -⟩
  iapply (tells_mono (F := F) (peer dir c) dir p (show j + 1 ≤ h + 1 by omega))
  iexact H

section

variable (c : Dev nD) (dir : Bool) (p : ℕ) (hp : p < 7)
include hp

/-- One credit of the phase taken. -/
theorem CR_take (j t : ℕ) (hj : j < nh dir) (ht : tC dir p j < t) (ht' : t ≤ 512) :
    iprop(Glob I K KS ∗ OW (F := F) c t ∗ CR I c dir p j ∗ creCred (F := F) c dir p j)
      ⊢ WP c (takeCredit dir) (fun _ => iprop(OW (F := F) c t ∗ CR I c dir p (j + 1))) := by
  have hdu : (Rd I).duties ((c : Thread nD τ), semOf (.cr dir)) p = kduties (.cr dir) p := Rd_duties I c (.cr dir) p
  have hpay : ∀ S T : Finset ℕ, bigSep (S \ T) (fun d => (Rd I).payload ((c : Thread nD τ), semOf (.cr dir)) p d)
      = bigSep (S \ T) (fun d => kpay I c (.cr dir) d) := fun S T => bigSep_congr fun d _ => Rd_payload I c (.cr dir) p d
  rw [takeCredit_eq]
  unfold OW CR creCred
  iintro ⟨#HG, ⟨%W, HO⟩, ⟨%T, %hT, Hat, HT, -, Hr⟩, Hc⟩
  iapply (Rounds.wp_wait 𝒱₀ ER (Rd I) (c : Thread nD τ) none (κ := K (c, .cr dir)) (sm := semOf (.cr dir)) (k' := 1) (k := fun v => .ret v)
    (wpE_semWait_eq 𝒱₀ (c : Thread nD τ) none Set.univ) (Set.mem_univ _) (cr := Finsupp.single (tC dir p j) 1) (O := OT c t) (W := W)
    {(semOf (.cr dir), tC dir p j)} (R := p) (m := j) (T := T) (by simp)
    (by
      intro x hx
      obtain ⟨i, hi, rfl⟩ := Finset.mem_image.mp hx
      rw [Finset.mem_singleton.mp (Finsupp.support_single_subset hi)]
      exact Finset.mem_singleton_self _)) $$ [Hc HO Hat]
  · isplitr; · iapply (Glob_cell I K KS c (.cr dir)); iexact HG
    isplitl [Hc]; · iexact Hc
    isplitl [HO]; · iexact HO
    isplitr
    · iapply (@mayWait F _ I K KS c (semOf (.cr dir)) (tC dir p j) t ht ht'); iexact HG
    iexact Hat
  iintro %S ⟨%hS, HO, Hat, HS⟩
  obtain ⟨h1, h2, h3⟩ := hS
  rw [wp_ret]; imodintro
  isplitl [HO]; · iexists _; iexact HO
  ihave HS := (Entails.of_eq (hpay S T)) $$ HS
  ihave HS := (bs_join h1 (fun d => kpay I c (.cr dir) d)) $$ [HT HS]
  · isplitl [HT] <;> iassumption
  ihave HS := (persistent_entails_right (tells_of I c dir p j hp S (hdu ▸ h2) (by
    rw [hdu, cr_expect I c dir p hp] at h3
    have hc := Finset.card_sdiff_add_card_eq_card (hdu ▸ h2 : S ⊆ kduties (.cr dir) p)
    rw [cr_card dir p hp] at hc
    omega))) $$ HS
  icases HS with ⟨Ht, HS⟩
  iexists S
  isplitr; · ipureintro; exact hdu ▸ h2
  isplitl [Hat]; · iexact Hat
  isplitl [HS]; · iexact HS
  isplitl [Ht]; · iexact Ht
  iexact Hr

theorem take_step (m w g j t : ℕ) (hj : j < nh dir) (ht : tC dir p j < t) (ht' : t ≤ 512) :
    iprop(Glob I K KS ∗ OW (F := F) c t ∗ Gh I c dir p m w g j)
      ⊢ WP c (takeCredit dir) (fun _ => iprop(OW (F := F) c t ∗ Gh I c dir p m w g (j + 1))) := by
  unfold Gh Tk
  rw [bigSep_Ico_succ_bot hj]
  iintro ⟨#HG, HO, ⟨H1, H2, H3, Hc, H4⟩, HP, HC⟩
  iapply wp_wand $$ [HO HC Hc]
  · iapply (CR_take I K KS c dir p hp j t hj ht ht')
    isplitr; · iexact HG
    isplitl [HO]; · iexact HO
    isplitl [HC] <;> iassumption
  iintro %_ ⟨HO, HC⟩
  isplitl [HO]; · iexact HO
  isplitl [H1 H2 H3 H4]
  · isplitl [H1]; · iexact H1
    isplitl [H2]; · iexact H2
    isplitl [H3] <;> iassumption
  isplitl [HP] <;> iassumption

/-- A credit given, for hop `h`. -/
theorem give_step (m j h : ℕ) (hh : h < nh dir) :
    iprop(Glob I K KS ∗ OW (F := F) c (tC dir p h) ∗ Gh I c dir p m (h + 1) h j ∗ Rel (F := F) c dir p (h + 1)
        ∗ reached ER (kcell (back dir c) (.cr dir)) p
        ∗ if dir = true ∧ p % 2 = 1 ∧ h = 15 then grant (F := F) true (bOf p) (back dir c) else iprop(emp))
      ⊢ WP c (giveCredit (printed c) dir)
          (fun _ => iprop(OW (F := F) c (tC dir p h + 1) ∗ Gh I c dir p m (h + 1) (h + 1) j ∗ Rel (F := F) c dir p (h + 1))) := by
  have h16 := nh_le dir
  rw [giveCredit_eq]
  unfold Gh Tk
  rw [bigSep_Ico_succ_bot hh]
  iintro ⟨#HG, HO, ⟨⟨H1, H2, ⟨Ht, H3⟩, H4⟩, HP, HC⟩, HR, #Hr, Hx⟩
  ihave HPR := (persistent_entails_right (tells_intro (F := F) c dir p (h + 1))) $$ [HP HR]
  · isplitl [HP] <;> iassumption
  icases HPR with ⟨#HT, HP, HR⟩
  iapply wp_wand $$ [HO Ht Hx]
  · iapply (signal_one I K KS c (back dir c) (.cr dir) (csem dir) rfl p (16 * p + h) (tC dir p h)
      ((cr_mem hp).mpr ⟨h, hh, rfl⟩) rfl (evT_credit c dir p h hh) (by unfold tC; split <;> omega))
    rw [kpay_cr I (back dir c) dir p h (by omega)]
    unfold payC creTok
    rw [peer_back]
    isplitr; · iexact HG
    isplitl [HO]; · iexact HO
    isplitl [Ht]; · iexact Ht
    isplitl [Hx]
    · isplitr; · iexact HT
      iexact Hx
    iexact Hr
  iintro %_ HO
  isplitl [HO]; · iexact HO
  isplitr [HR]
  · isplitl [H1 H2 H3 H4]
    · isplitl [H1]; · iexact H1
      isplitl [H2]; · iexact H2
      isplitl [H3] <;> iassumption
    isplitl [HP] <;> iassumption
  iexact HR

/-- All credits of the phase: how far the receiver is, and the grant that came with the last. -/
theorem all_credits :
    bigSep (kduties (.cr dir) p) (fun d => kpay I c (.cr dir) d)
      ⊢ iprop(tells (F := F) dir (peer dir c) (p + 1) 0
          ∗ if dir = true ∧ p % 2 = 1 then grant (F := F) true (bOf p) c else iprop(emp)) := by
  have h16 := nh_le dir
  have hn : nh dir - 1 + 1 = nh dir := by cases dir <;> rfl
  have h1 := tells_of I c dir p (nh dir - 1) hp (kduties (.cr dir) p) (Finset.Subset.refl _) (by rw [cr_card dir p hp, hn])
  rw [hn, tells_end (F := F)] at h1
  refine (persistent_entails_right h1).trans ?_
  refine BI.sep_mono (BI.Entails.refl _) ?_
  refine (bs_get ((cr_mem hp).mpr ⟨nh dir - 1, by omega, rfl⟩) (fun d => kpay I c (.cr dir) d)).trans ?_
  rw [kpay_cr I c dir p _ (by omega)]
  unfold payC
  by_cases e : dir = true ∧ p % 2 = 1
  · obtain ⟨rfl, e⟩ := e
    rw [if_pos ⟨rfl, e, rfl⟩, if_pos ⟨rfl, e⟩]
    iintro ⟨-, H⟩; iexact H
  · rw [if_neg e]
    iintro -; iempintro

/-- The wait for the last two credits of the phase. -/
theorem drain_step (t : ℕ) (ht : tC dir p (nh dir - 1) < t) (ht' : t ≤ 512) :
    iprop(Glob I K KS ∗ OW (F := F) c t ∗ Gh I c dir p (nh dir) (nh dir) (nh dir) (nh dir - 2))
      ⊢ WP c (takeTwo dir) (fun _ => iprop(OW (F := F) c t ∗ Pos (F := F) c dir (p + 1) 0 ∗ CR I c dir (p + 1) 0
          ∗ if dir = true ∧ p % 2 = 1 then grant (F := F) true (bOf p) c else iprop(emp))) := by
  have hdu : (Rd I).duties ((c : Thread nD τ), semOf (.cr dir)) p = kduties (.cr dir) p := Rd_duties I c (.cr dir) p
  have hpay : ∀ T : Finset ℕ, bigSep ((Rd I).duties ((c : Thread nD τ), semOf (.cr dir)) p \ T) (fun d => (Rd I).payload ((c : Thread nD τ), semOf (.cr dir)) p d)
      = bigSep (kduties (.cr dir) p \ T) (fun d => kpay I c (.cr dir) d) := fun T => by
    rw [hdu]; exact bigSep_congr fun d _ => Rd_payload I c (.cr dir) p d
  have hcr : (cred (tallyOn (kcell c (.cr dir)) (Finsupp.single (tC dir p (nh dir - 2)) 1 + Finsupp.single (tC dir p (nh dir - 1)) 1)) : sProp 𝕄)
      = iprop(creCred (F := F) c dir p (nh dir - 2) ∗ creCred (F := F) c dir p (nh dir - 1)) := by
    rw [tallyOn_add]
    exact BI.Entails.antisymm (cred_add _ _).1 (cred_add _ _).2
  have hn : nh dir - 2 < nh dir := by cases dir <;> decide
  have hn1 : nh dir - 2 + 1 = nh dir - 1 := by cases dir <;> rfl
  have hn1' : nh dir - 1 < nh dir := by cases dir <;> decide
  have hn2 : nh dir - 1 + 1 = nh dir := by cases dir <;> rfl
  have hlt : tC dir p (nh dir - 2) < t := lt_of_le_of_lt (by unfold tC; omega) ht
  rw [takeTwo_eq]
  unfold Gh Tk
  rw [bigSep_Ico_succ_bot hn, hn1, bigSep_Ico_succ_bot hn1', hn2, Pos_end]
  unfold OW CR
  iintro ⟨#HG, ⟨%W, HO⟩, ⟨-, -, -, Hc1, Hc2, -⟩, HP, ⟨%T, %hT, Hat, HT, -, -⟩⟩
  iapply (Rounds.wp_wait_rest 𝒱₀ ER (Rd I) (c : Thread nD τ) none (κ := K (c, .cr dir)) (sm := semOf (.cr dir)) (k' := 2) (k := fun v => .ret v)
    (wpE_semWait_eq 𝒱₀ (c : Thread nD τ) none Set.univ) (Set.mem_univ _)
    (cr := Finsupp.single (tC dir p (nh dir - 2)) 1 + Finsupp.single (tC dir p (nh dir - 1)) 1) (O := OT c t) (W := W)
    {(semOf (.cr dir), tC dir p (nh dir - 2)), (semOf (.cr dir), tC dir p (nh dir - 1))} (R := p) (m := nh dir - 2) (T := T)
    (by rw [show (Rd I).expect ((c : Thread nD τ), semOf (.cr dir)) p = nh dir from cr_expect I c dir p hp]; omega)
    (by rw [Util.total_add, Util.total_single, Util.total_single])
    (by
      intro x hx
      obtain ⟨i, hi, rfl⟩ := Finset.mem_image.mp hx
      rcases Finset.mem_union.mp (Finsupp.support_add hi) with h | h
      · rw [Finset.mem_singleton.mp (Finsupp.support_single_subset h)]
        exact Finset.mem_insert_self _ _
      · rw [Finset.mem_singleton.mp (Finsupp.support_single_subset h)]
        exact Finset.mem_insert_of_mem (Finset.mem_singleton_self _))) $$ [Hc1 Hc2 HO Hat]
  · isplitr; · iapply (Glob_cell I K KS c (.cr dir)); iexact HG
    isplitl [Hc1 Hc2]
    · iapply (Entails.of_eq hcr.symm)
      isplitl [Hc1] <;> iassumption
    isplitl [HO]; · iexact HO
    isplitr
    · iapply (@mayOweG F _ I K KS c t _ (by
        intro x hx
        rcases Finset.mem_insert.mp hx with rfl | hx
        · exact hlt
        · rw [Finset.mem_singleton.mp hx]; exact ht) (by omega) ht'); iexact HG
    iexact Hat
  iintro ⟨HO, Hat, Hr, HS⟩
  rw [wp_ret]; imodintro
  isplitl [HO]; · iexists _; iexact HO
  isplitl [HP]; · iexact HP
  ihave HS := (Entails.of_eq (hpay T)) $$ HS
  ihave HS := (bs_join hT (fun d => kpay I c (.cr dir) d)) $$ [HT HS]
  · isplitl [HT] <;> iassumption
  ihave HS := (all_credits I c dir p hp) $$ HS
  icases HS with ⟨Ht, Hg⟩
  isplitr [Hg]
  · iexists ∅
    isplitr; · ipureintro; exact Finset.empty_subset _
    isplitl [Hat]; · iexact Hat
    isplitr
    · rw [bigSep_empty]; iempintro
    isplitl [Ht] <;> iassumption
  iexact Hg

end

end Cert.KernelIdeal.Pf

end
-- ==== Proof.Ideal.Send.lean ====
/-
# The transfers and their waits
-/
module

public import proofs.«01_k».proof.Proof.Ideal.Credit

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

/-! ## The operations, at the protocol's cells and blocks -/

/-- A transfer of `src` to `dst` on `c'`. -/
def sendOp (c' : Dev nD) (src dst : Memref sig .tc .vmem S256x256 .f32) (h1 : src.view.WordExact) (h2 : dst.view.WordExact) (dir : Bool) (s : Fin 2) :
    PR F PUnit :=
  .op (.enqueueDma src (.remote (c' : Thread nD τ) dst (.dma (ssem dir s.val))) (.dma (rsem dir s.val)) h1 h2 ⟨⟨rfl, Or.inl rfl⟩, trivial⟩) .ret

theorem sendOp_congr {c₁ c₂ : Dev nD} {s₁ s₂ d₁ d₂ : Memref sig .tc .vmem S256x256 .f32} (hc : c₁ = c₂) (hs : s₁ = s₂) (hd : d₁ = d₂)
    (h1 : s₁.view.WordExact) (h2 : d₁.view.WordExact) (dir : Bool) (s : ℕ) (s' : Fin 2) (hs' : s % 2 = s'.val) :
    (.op (.enqueueDma s₁ (.remote (c₁ : Thread nD τ) d₁ (.dma (ssem dir s))) (.dma (rsem dir s)) h1 h2 ⟨⟨rfl, Or.inl rfl⟩, trivial⟩) .ret : PR F PUnit)
      = sendOp c₂ s₂ d₂ (hs ▸ h1) (hd ▸ h2) dir s' := by
  subst hc; subst hs; subst hd
  unfold sendOp
  have e1 : ssem dir s = ssem dir s'.val := by cases dir <;> exact semAt_congr _ (by have := s'.isLt; omega)
  have e2 : rsem dir s = rsem dir s'.val := by cases dir <;> exact semAt_congr _ (by have := s'.isLt; omega)
  rw [e1, e2]

theorem agSend_eq (c : Dev nD) (b : Fin 3) (dir : Bool) (h : ℕ) (hh : h < nh dir) : ∃ h1 h2,
    agSend (F := F) (printed c) b dir h
      = sendOp (peer dir c) (blk (bufM b) (off (pos dir c h))) (blk (bufM b) (off (pos dir c h))) h1 h2 dir (sl h) :=
  ⟨_, _, sendOp_congr (peer_eq c dir) (congrArg (blk (bufM b)) (ag_eq c dir h hh)) (congrArg (blk (bufM b)) (ag_eq c dir h hh)) _ _ dir h (sl h) rfl⟩

theorem rsSend_eq (c : Dev nD) (b : Fin 3) (dir : Bool) (h : ℕ) (hh : h < nh dir) : ∃ h1 h2,
    rsSend (F := F) (printed c) b dir h
      = sendOp (peer dir c) (blk (bufM b) (off (rsPos dir c h))) (slot (commM dir) (sl h).val) h1 h2 dir (sl h) :=
  ⟨_, _, sendOp_congr (peer_eq c dir) (congrArg (blk (bufM b)) (rs_eq c dir h hh)) (slot_sl (commM dir) h).symm _ _ dir h (sl h) rfl⟩

theorem N_blk (b : Fin 3) (j : Dev nD) (sm : SemLoc sig) (hs : ∃ x, sm = .dma x) : (blk (bufM b) (off j)).view.amount sm = N := by
  obtain ⟨x, rfl⟩ := hs
  fin_cases b <;> rfl
theorem N_slot (dir : Bool) (h : ℕ) (sm : SemLoc sig) (hs : ∃ x, sm = .dma x) : (slot (commM dir) h).view.amount sm = N := by
  obtain ⟨x, rfl⟩ := hs
  cases dir <;> rfl
theorem N_blk' (b : Fin 3) (j : Off) : (blk (bufM b) j).view.dmaCredit = N := by
  fin_cases b <;> rfl
theorem N_slot' (dir : Bool) (h : ℕ) : (slot (commM dir) h).view.dmaCredit = N := by
  cases dir <;> rfl

theorem owns_intro (c : Dev nD) (m : Memref sig .tc .vmem S256x256 .f32) (q : PosShare TreeShare) (f : Buf (Elt F) (m.view.loc (c : Thread nD τ)))
    (X : Blk F) (hf : m.view.read (Elt F) f = X) :
    (m.view.loc (c : Thread nD τ) ↦[m.view.set]{q} f : sProp 𝕄) ⊢ owns (c : Thread nD τ) m q X := by
  unfold owns
  iintro H; iexists f; isplitr
  · ipureintro; exact hf
  · iexact H

theorem sep_regroup {A B C : sProp 𝕄} : iprop((A ∗ B) ∗ C) ⊢ iprop(A ∗ B ∗ C) := by
  iintro ⟨⟨HA, HB⟩, HC⟩
  isplitl [HA]; · iexact HA
  isplitl [HB] <;> iassumption

/-- The tokens of a transfer, ready for use. -/
def fired (c : Dev nD) (dir : Bool) (p h : ℕ) : sProp 𝕄 :=
  iprop((dutyTok ER (kcell c (.ss dir (sl h))) (rnd dir p h) (16 * p + h) ∗ reached ER (kcell c (.ss dir (sl h))) (rnd dir p h))
    ∗ (dutyTok ER (kcell (peer dir c) (.rs dir (sl h))) (rnd dir p h) (16 * p + h) ∗ reached ER (kcell (peer dir c) (.rs dir (sl h))) (rnd dir p h)))

section

variable (c : Dev nD) (dir : Bool) (p h : ℕ) (hp : p < 7) (hh : h < nh dir)
include hp hh

theorem mem_hop : 16 * p + h ∈ (Rd I).duties ((c : Thread nD τ), semOf (.ss dir (sl h))) (rnd dir p h) := by
  rw [show (Rd I).duties ((c : Thread nD τ), semOf (.ss dir (sl h))) _ = _ from Rd_duties I c _ _, kduties_hop dir p h hp hh]
  exact Finset.mem_singleton_self _
theorem mem_hop' : 16 * p + h ∈ (Rd I).duties ((c : Thread nD τ), semOf (.rs dir (sl h))) (rnd dir p h) := by
  rw [show (Rd I).duties ((c : Thread nD τ), semOf (.rs dir (sl h))) _ = _ from Rd_duties I c _ _, kduties_hop' dir p h hp hh]
  exact Finset.mem_singleton_self _
theorem pay_hop : (Rd I).payload ((c : Thread nD τ), semOf (.ss dir (sl h))) (rnd dir p h) (16 * p + h) = payS I c dir p h := by
  have h16 := nh_le dir
  rw [show (Rd I).payload ((c : Thread nD τ), semOf (.ss dir (sl h))) _ _ = _ from Rd_payload I c _ _ _]
  show payS I c dir ((16 * p + h) / 16) ((16 * p + h) % 16) = _
  rw [show (16 * p + h) / 16 = p by omega, show (16 * p + h) % 16 = h by omega]
theorem pay_hop' : (Rd I).payload ((c : Thread nD τ), semOf (.rs dir (sl h))) (rnd dir p h) (16 * p + h) = payR I c dir p h := by
  have h16 := nh_le dir
  rw [show (Rd I).payload ((c : Thread nD τ), semOf (.rs dir (sl h))) _ _ = _ from Rd_payload I c _ _ _]
  show payR I c dir ((16 * p + h) / 16) ((16 * p + h) % 16) = _
  rw [show (16 * p + h) / 16 = p by omega, show (16 * p + h) % 16 = h by omega]

/-- A transfer whose source comes back when it has been read. -/
theorem send_one (src dst : Memref sig .tc .vmem S256x256 .f32) (h1 : src.view.WordExact) (h2 : dst.view.WordExact)
    (hN : dst.view.amount (semOf (.rs dir (sl h))) = N) (q : PosShare TreeShare) (X : Blk F) (G : sProp 𝕄)
    (hpay₁ : owns (c : Thread nD τ) src q X ⊢ payS I c dir p h)
    (hpay₂ : iprop(owns (peer dir c : Thread nD τ) dst fullShare X ∗ G) ⊢ payR I (peer dir c) dir p h) :
    iprop(Glob I K KS ∗ OW (F := F) c (tS dir p h) ∗ owns (c : Thread nD τ) src q X ∗ (∃ v : Blk F, owns (peer dir c : Thread nD τ) dst fullShare v) ∗ G
        ∗ fired (F := F) c dir p h)
      ⊢ WP c (sendOp (peer dir c) src dst h1 h2 dir (sl h)) (fun _ => iprop(OW (F := F) c (tS dir p h + 1) ∗ sndCred (F := F) c dir p h)) := by
  have h16 := nh_le dir
  unfold OW owns sendOp fired
  iintro ⟨#HG, ⟨%W, HO⟩, ⟨%fs, %hfs, Hs⟩, ⟨%v, %fd, -, Hd⟩, HGG, ⟨Ht1, #Hr1⟩, ⟨Ht2, #Hr2⟩⟩
  iapply (Rounds.wp_send_pointsTo_with 𝒱₀ ER (Rd I) (c : Thread nD τ) none (c' := (peer dir c : Thread nD τ)) (src := src) (dst := dst)
    (sS := semOf (.ss dir (sl h))) (sem := semOf (.rs dir (sl h))) (κ₁ := K (c, .ss dir (sl h))) (κ₂ := K (peer dir c, .rs dir (sl h)))
    (k := fun v => .ret v) (q := q) (fs := fs) (fd := fd) (F := G) (r₁ := rnd dir p h) (r₂ := rnd dir p h) (d₁ := 16 * p + h) (d₂ := 16 * p + h)
    (mem_hop I c dir p h hp hh) (mem_hop' I (peer dir c) dir p h hp hh) (tS dir p h) (tS dir p h) N hN (Rd_amount I c _ _ _) (Rd_amount I (peer dir c) _ _ _)
    (O₀ := OT c (tS dir p h)) (OT c (tS dir p h + 1)) (by rw [OT_step c _ (by unfold tS; split <;> omega), evT_send c dir p h hh]) (W := W)
    (by
      rw [pay_hop I c dir p h hp hh]
      exact (owns_intro c src q fs X hfs).trans hpay₁)
    (by
      rw [pay_hop' I (peer dir c) dir p h hp hh]
      exact (BI.sep_mono (owns_intro (peer dir c) dst fullShare _ X ((View.read_write_univ _ _).trans hfs)) (BI.Entails.refl _)).trans hpay₂)) $$ [HO Hs Hd HGG Ht1 Ht2]
  · isplitr; · iapply (Glob_cell I K KS c (.ss dir (sl h))); iexact HG
    isplitr; · iapply (Glob_cell I K KS (peer dir c) (.rs dir (sl h))); iexact HG
    isplitl [Hs]; · iexact Hs
    isplitl [Hd HGG]; · isplitl [Hd] <;> iassumption
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]
  · iexists W; iexact HO
  · unfold sndCred; iexact Hc

/-- A transfer whose source goes to the receiver. -/
theorem send_give (src dst : Memref sig .tc .vmem S256x256 .f32) (h1 : src.view.WordExact) (h2 : dst.view.WordExact)
    (hN : dst.view.amount (semOf (.rs dir (sl h))) = N) (q : PosShare TreeShare) (X : Blk F) (G : sProp 𝕄)
    (hpay₁ : iprop(emp) ⊢ payS I c dir p h)
    (hpay₂ : iprop(owns (peer dir c : Thread nD τ) dst fullShare X ∗ G ∗ owns (c : Thread nD τ) src q X) ⊢ payR I (peer dir c) dir p h) :
    iprop(Glob I K KS ∗ OW (F := F) c (tS dir p h) ∗ owns (c : Thread nD τ) src q X ∗ (∃ v : Blk F, owns (peer dir c : Thread nD τ) dst fullShare v) ∗ G
        ∗ fired (F := F) c dir p h)
      ⊢ WP c (sendOp (peer dir c) src dst h1 h2 dir (sl h)) (fun _ => iprop(OW (F := F) c (tS dir p h + 1) ∗ sndCred (F := F) c dir p h)) := by
  have h16 := nh_le dir
  unfold OW owns sendOp fired
  iintro ⟨#HG, ⟨%W, HO⟩, ⟨%fs, %hfs, Hs⟩, ⟨%v, %fd, -, Hd⟩, HGG, ⟨Ht1, #Hr1⟩, ⟨Ht2, #Hr2⟩⟩
  iapply (Rounds.wp_send_landing_pointsTo_with 𝒱₀ ER (Rd I) (c : Thread nD τ) none (c' := (peer dir c : Thread nD τ)) (src := src) (dst := dst)
    (sS := semOf (.ss dir (sl h))) (sem := semOf (.rs dir (sl h))) (κ₁ := K (c, .ss dir (sl h))) (κ₂ := K (peer dir c, .rs dir (sl h)))
    (k := fun v => .ret v) (q := q) (fs := fs) (fd := fd) (F := G) (r₁ := rnd dir p h) (r₂ := rnd dir p h) (d₁ := 16 * p + h) (d₂ := 16 * p + h)
    (mem_hop I c dir p h hp hh) (mem_hop' I (peer dir c) dir p h hp hh) (tS dir p h) (tS dir p h) N hN (Rd_amount I c _ _ _) (Rd_amount I (peer dir c) _ _ _)
    (O₀ := OT c (tS dir p h)) (OT c (tS dir p h + 1)) (by rw [OT_step c _ (by unfold tS; split <;> omega), evT_send c dir p h hh]) (W := W)
    (by rw [pay_hop I c dir p h hp hh]; exact hpay₁)
    (by
      rw [pay_hop' I (peer dir c) dir p h hp hh]
      exact ((BI.sep_mono (BI.sep_mono (owns_intro (peer dir c) dst fullShare _ X ((View.read_write_univ _ _).trans hfs)) (BI.Entails.refl _))
        (owns_intro c src q fs X hfs)).trans sep_regroup).trans hpay₂)) $$ [HO Hs Hd HGG Ht1 Ht2]
  · isplitr; · iapply (Glob_cell I K KS c (.ss dir (sl h))); iexact HG
    isplitr; · iapply (Glob_cell I K KS (peer dir c) (.rs dir (sl h))); iexact HG
    isplitl [Hs]; · iexact Hs
    isplitl [Hd HGG]; · isplitl [Hd] <;> iassumption
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]
  · iexists W; iexact HO
  · unfold sndCred; iexact Hc

end

end Cert.KernelIdeal.Pf

end
-- ==== Proof.Ideal.Flight.lean ====
/-
# Hops in flight: sending, and waiting for what was sent and what comes

`M` is the state of a direction before hop `h`, `Fl` with hop `h` in flight.
-/
module

public import proofs.«01_k».proof.Proof.Ideal.Send

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

theorem sep_swap {A B : sProp 𝕄} : iprop(A ∗ B) ⊢ iprop(B ∗ A) := by
  iintro ⟨HA, HB⟩
  isplitl [HB] <;> iassumption
theorem sep_swap_emp {A B : sProp 𝕄} : iprop(A ∗ B) ⊢ iprop(B ∗ A ∗ emp) := by
  iintro ⟨HA, HB⟩
  isplitl [HB]; · iexact HB
  isplitl [HA]; · iexact HA
  iempintro
theorem give_mono {A B C D E : sProp 𝕄} (h : iprop(C ∗ D) ⊢ E) : iprop(A ∗ (B ∗ C) ∗ D) ⊢ iprop(B ∗ A ∗ E) := by
  iintro ⟨HA, ⟨HB, HC⟩, HD⟩
  isplitl [HB]; · iexact HB
  isplitl [HA]; · iexact HA
  iapply h
  isplitl [HC] <;> iassumption

section

variable (c : Dev nD) (dir : Bool) (p : ℕ)

theorem posS_pre (h : ℕ) : posS dir p (h - 1) (sl h) = rnd dir p h := by
  unfold posS rnd sl; first | omega | (simp only; omega) | simp only
theorem relS_pre (h : ℕ) (hp : p % 2 = 1) : relS dir p (h - 1) (sl h) = rnd dir (p / 2) h := by
  unfold relS; rw [if_pos hp]; unfold rnd sl; first | (simp only; omega) | simp only

/-- The peer's cell and slot are ready for hop `h`. -/
theorem tells_ready (d : Dev nD) (h j : ℕ) (hj : h ≤ j + 1) :
    tells (F := F) dir d p j ⊢ iprop(reached ER (kcell d (.rs dir (sl h))) (rnd dir p h)
      ∗ if p % 2 = 1 then Release.released EL ((d, dir, sl h) : KK) (1 + rnd dir (p / 2) h) else iprop(emp)) := by
  refine (tells_mono (F := F) d dir p (show h - 1 ≤ j by omega)).trans ?_
  unfold tells
  refine (bs_get (Finset.mem_univ (sl h)) (fun s : Fin 2 =>
    iprop(reached ER (kcell d (.rs dir s)) (posS dir p (h - 1) s) ∗ Release.released EL (d, dir, s) (1 + relS dir p (h - 1) s)))).trans ?_
  rw [posS_pre]
  by_cases e : p % 2 = 1
  · rw [if_pos e, relS_pre dir p h e]
  · rw [if_neg e]
    iintro ⟨H, -⟩
    isplitl [H]; · iexact H
    iempintro

theorem Pos_reached (h : ℕ) : Pos (F := F) c dir p h ⊢ reached ER (kcell c (.ss dir (sl h))) (rnd dir p h) := by
  unfold Pos
  refine (bs_get (Finset.mem_univ (sl h)) (fun s : Fin 2 => pos1 (F := F) c dir s (posS dir p h s))).trans ?_
  rw [posS_sl]
  unfold pos1
  iintro ⟨⟨-, H⟩, -⟩
  iexact H

/-- The tokens of hop `h` taken out. -/
theorem fire (h g j : ℕ) (hh : h < nh dir) (hj : h ≤ j + 1) :
    Gh I c dir p h h g j
      ⊢ iprop(fired (F := F) c dir p h ∗ (if p % 2 = 1 then iprop(Release.released EL ((peer dir c, dir, sl h) : KK) (1 + rnd dir (p / 2) h)
            ∗ Release.writeTok EL ((peer dir c, dir, sl h) : KK) (1 + rnd dir (p / 2) h)) else iprop(emp))
        ∗ Gh I c dir p (h + 1) h g j) := by
  unfold Gh Tk CR fired
  rw [bigSep_Ico_succ_bot hh]
  iintro ⟨⟨⟨Ht, H1⟩, H2⟩, HP, ⟨%T, %hT, Hat, HT, #Htell, Hr⟩⟩
  unfold hopTok
  icases Ht with ⟨Ht1, Ht2, Hw⟩
  ihave Hrd := (tells_ready (F := F) dir p (peer dir c) h j hj) $$ Htell
  icases Hrd with ⟨Hr1, Hrel⟩
  ihave HPo := (persistent_entails_right (Pos_reached (F := F) c dir p h)) $$ HP
  icases HPo with ⟨#Hra1, HP⟩
  isplitl [Ht1 Ht2 Hr1]
  · isplitl [Ht1]
    · isplitl [Ht1]; · iexact Ht1
      iexact Hra1
    · isplitl [Ht2] <;> iassumption
  isplitl [Hw Hrel]
  · by_cases e : p % 2 = 1
    · simp only [if_pos e]
      isplitl [Hrel] <;> iassumption
    · simp only [if_neg e]; iempintro
  isplitl [H1 H2]
  · isplitl [H1] <;> iassumption
  isplitl [HP]; · iexact HP
  iexists T
  isplitr; · ipureintro; exact hT
  isplitl [Hat]; · iexact Hat
  isplitl [HT]; · iexact HT
  isplitr; · iexact Htell
  iexact Hr

/-- What a direction's credits say: the cell's round is open. -/
theorem Gh_credits (m w g j : ℕ) : Gh I c dir p m w g j ⊢ iprop(reached ER (kcell c (.cr dir)) p ∗ Gh I c dir p m w g j) := by
  unfold Gh CR
  iintro ⟨HT, HP, ⟨%T, %hT, Hat, Hd, Htell, #Hr⟩⟩
  isplitr; · iexact Hr
  isplitl [HT]; · iexact HT
  isplitl [HP]; · iexact HP
  iexists T
  isplitr; · ipureintro; exact hT
  isplitl [Hat]; · iexact Hat
  isplitl [Hd]; · iexact Hd
  isplitl [Htell]; · iexact Htell
  iexact Hr

end

/-! ## Waits of transfers -/

theorem wait_dma (c : Dev nD) (k : Knd) (s : DmaSem sig) (hs : semOf k = .dma s) (src dst : Memref sig .tc .vmem S256x256 .f32)
    (h1 : src.view.WordExact) (h2 : dst.view.WordExact) (hN : dst.view.dmaCredit = kamount k)
    (r d i t : ℕ) (hd : kduties k r = {d}) (hi : i < t) (ht : t ≤ 512) :
    iprop(Glob I K KS ∗ cred (tallyAt (kcell c k) i (kamount k)) ∗ OW (F := F) c t ∗ atPos ER (kcell c k) r ∅ 0)
      ⊢ WP c (Prog.lift (.waitDma2 s src dst h1 h2))
          (fun _ => iprop(OW (F := F) c t ∗ atPos ER (kcell c k) (r + 1) ∅ 0 ∗ reached ER (kcell c k) (r + 1) ∗ kpay I c k d)) :=
  wait_one I K KS c k (.waitDma2 s src dst h1 h2) (fun Kt => by
    rw [hs, ← hN]; exact wpE_waitDma2_eq 𝒱₀ (c : Thread nD τ) none Set.univ Kt) r d i t hd hi ht

section

variable (c : Dev nD) (dir : Bool) (p h : ℕ) (hp : p < 7) (hh : h < nh dir)
include hp hh

theorem kpay_ss : kpay I c (.ss dir (sl h)) (16 * p + h) = payS I c dir p h := by
  have := pay_hop I c dir p h hp hh
  rw [show (Rd I).payload ((c : Thread nD τ), semOf (.ss dir (sl h))) _ _ = _ from Rd_payload I c _ _ _] at this
  exact this
theorem kpay_rs : kpay I c (.rs dir (sl h)) (16 * p + h) = payR I c dir p h := by
  have := pay_hop' I c dir p h hp hh
  rw [show (Rd I).payload ((c : Thread nD τ), semOf (.rs dir (sl h))) _ _ = _ from Rd_payload I c _ _ _] at this
  exact this

/-- Both waits of a hop. -/
theorem wait_step (s1 d1 s2 d2 : Memref sig .tc .vmem S256x256 .f32) (hs1 : s1.view.WordExact) (hd1 : d1.view.WordExact)
    (hs2 : s2.view.WordExact) (hd2 : d2.view.WordExact) (hN1 : d1.view.dmaCredit = N) (hN2 : d2.view.dmaCredit = N)
    (m g j t : ℕ) (ht : tS dir p h < t) (ht' : t ≤ 512) :
    iprop(Glob I K KS ∗ OW (F := F) c t ∗ Gh I c dir p m h g j ∗ sndCred (F := F) c dir p h)
      ⊢ WP c (Prog.lift (.waitDma2 (ssem dir h) s1 d1 hs1 hd1) >>= fun _ => Prog.lift (.waitDma2 (rsem dir h) s2 d2 hs2 hd2))
          (fun _ => iprop(OW (F := F) c t ∗ Gh I c dir p m (h + 1) g j ∗ payS I c dir p h ∗ payR I c dir p h)) := by
  unfold Gh Tk
  rw [bigSep_Ico_succ_bot hh]
  unfold sndCred rcvCred
  iintro ⟨#HG, HO, ⟨⟨H1, ⟨Hc2, H2⟩, H3⟩, HP, HC⟩, Hc1⟩
  ihave HPo := (Pos_open (F := F) c dir p h) $$ HP
  icases HPo with ⟨Hp1, Hback⟩
  unfold pos1
  icases Hp1 with ⟨⟨Ha1, -⟩, ⟨Ha2, -⟩⟩
  iapply (bindF (wait_dma I K KS c (.ss dir (sl h)) (ssem dir h) (ssem_sl dir h).symm s1 d1 hs1 hd1 hN1 (rnd dir p h) (16 * p + h) (tS dir p h) t
    (kduties_hop dir p h hp hh) ht ht')) $$ [HO Ha1 Hc1]
  · isplitr; · iexact HG
    isplitl [Hc1]; · iexact Hc1
    isplitl [HO] <;> iassumption
  rw [kpay_ss I c dir p h hp hh]
  iintro ⟨HO, Ha1, #Hr1, HS⟩
  iapply wp_wand $$ [HO Ha2 Hc2]
  · iapply (wait_dma I K KS c (.rs dir (sl h)) (rsem dir h) (rsem_sl dir h).symm s2 d2 hs2 hd2 hN2 (rnd dir p h) (16 * p + h) (tS dir p h) t
      (kduties_hop' dir p h hp hh) ht ht')
    isplitr; · iexact HG
    isplitl [Hc2]; · iexact Hc2
    isplitl [HO] <;> iassumption
  rw [kpay_rs I c dir p h hp hh]
  iintro %_ ⟨HO, Ha2, #Hr2, HR⟩
  isplitl [HO]; · iexact HO
  isplitr [HS HR]
  · isplitl [H1 H2 H3]
    · isplitl [H1]; · iexact H1
      isplitl [H2] <;> iassumption
    isplitr [HC]
    · iapply Hback
      isplitl [Ha1]
      · isplitl [Ha1]; · iexact Ha1
        iexact Hr1
      · isplitl [Ha2]; · iexact Ha2
        iexact Hr2
    · iexact HC
  isplitl [HS] <;> iassumption

end

/-! ## Sends -/

section

variable (c : Dev nD) (dir : Bool) (p h : ℕ) (hp : p < 7) (hh : h < nh dir)
include hp hh

/-- A gather's transfer: half of the block's share travels, the other half stays for the layer's step. -/
theorem ag_send (he : p % 2 = 0) (g j : ℕ) (hj : h ≤ j + 1) :
    iprop(Glob I K KS ∗ OW (F := F) c (tS dir p h) ∗ Gh I c dir p h h g j
        ∗ own c (bOf p) (pos dir c h) (qq dir h) (Xs I (p / 2) (pos dir c h)) ∗ ownx (F := F) (peer dir c) (bOf p) (pos dir c h))
      ⊢ WP c (agSend (printed c) (bOf p) dir h) (fun _ => iprop(OW (F := F) c (tS dir p h + 1) ∗ Gh I c dir p (h + 1) h g j
          ∗ sndCred (F := F) c dir p h ∗ own c (bOf p) (pos dir c h) (qq dir h).right (Xs I (p / 2) (pos dir c h)))) := by
  obtain ⟨h1, h2, e⟩ := agSend_eq (F := F) c (bOf p) dir h hh
  rw [e]
  have hno : ¬p % 2 = 1 := by omega
  have hf := fire I c dir p h g j hh hj
  rw [if_neg hno] at hf
  iintro ⟨#HG, HO, HGh, Ho, Hx⟩
  ihave HGh := (Gh_credits I c dir p h h g j) $$ HGh
  icases HGh with ⟨#Hcr, HGh⟩
  ihave HGh := hf $$ HGh
  icases HGh with ⟨Hf, -, HGh⟩
  ihave Ho := (owns_halves (c : Thread nD τ) (blk (bufM (bOf p)) (off (pos dir c h))) (qq dir h) (Xs I (p / 2) (pos dir c h))).1 $$ Ho
  icases Ho with ⟨Hl, Hr⟩
  iapply wp_wand $$ [HO Hf Hl Hx]
  · iapply (send_one I K KS c dir p h hp hh (blk (bufM (bOf p)) (off (pos dir c h))) (blk (bufM (bOf p)) (off (pos dir c h))) h1 h2
      (N_blk _ _ _ ⟨_, rfl⟩) (qq dir h).left (Xs I (p / 2) (pos dir c h)) (reached ER (kcell c (.cr dir)) p)
      (by unfold payS; rw [if_pos he])
      (by
        unfold payR
        rw [if_pos he, back_peer, ← pos_back, back_peer]
        exact sep_swap))
    isplitr; · iexact HG
    isplitl [HO]; · iexact HO
    isplitl [Hl]; · iexact Hl
    isplitl [Hx]; · iexact Hx
    isplitr; · iexact Hcr
    iexact Hf
  iintro %_ ⟨HO, Hs⟩
  isplitl [HO]; · iexact HO
  isplitl [HGh]; · iexact HGh
  isplitl [Hs] <;> iassumption

/-- The slot a reduce-scatter's transfer writes, taken. -/
theorem take_slot (ho : p % 2 = 1) :
    iprop(Glob I K KS ∗ Release.released EL ((peer dir c, dir, sl h) : KK) (1 + rnd dir (p / 2) h)
        ∗ Release.writeTok EL ((peer dir c, dir, sl h) : KK) (1 + rnd dir (p / 2) h))
      ⊢ iprop(|={Set.univ}=> slotRes (F := F) (peer dir c, dir, sl h)) := by
  iintro ⟨#HG, H1, H2⟩
  iapply (Release.slot_take EL (ι := KS (peer dir c, dir, sl h)) (Set.mem_univ _) (1 + rnd dir (p / 2) h))
  isplitr; · iapply (Glob_slot I K KS (peer dir c, dir, sl h)); iexact HG
  isplitl [H1] <;> iassumption

/-- A reduce-scatter's transfer. -/
theorem rs_send (ho : p % 2 = 1) (hl : ¬(dir = true ∧ h = 15)) (g j : ℕ) (hj : h ≤ j + 1) :
    iprop(Glob I K KS ∗ OW (F := F) c (tS dir p h) ∗ Gh I c dir p h h g j
        ∗ own c (bOf p) (rsPos dir c h) fullShare (sent I (p / 2) dir c h))
      ⊢ WP c (rsSend (printed c) (bOf p) dir h) (fun _ => iprop(OW (F := F) c (tS dir p h + 1) ∗ Gh I c dir p (h + 1) h g j
          ∗ sndCred (F := F) c dir p h)) := by
  obtain ⟨h1, h2, e⟩ := rsSend_eq (F := F) c (bOf p) dir h hh
  rw [e]
  have hno : ¬p % 2 = 0 := by omega
  have hf := fire I c dir p h g j hh hj
  rw [if_pos ho] at hf
  iintro ⟨#HG, HO, HGh, Ho⟩
  ihave HGh := (Gh_credits I c dir p h h g j) $$ HGh
  icases HGh with ⟨#Hcr, HGh⟩
  ihave HGh := hf $$ HGh
  icases HGh with ⟨Hf, Hw, HGh⟩
  imod (take_slot I K KS c dir p h hp hh ho) $$ [Hw] with Hx
  · isplitr; · iexact HG
    iexact Hw
  iapply wp_wand $$ [HO Hf Ho Hx]
  · iapply (send_one I K KS c dir p h hp hh (blk (bufM (bOf p)) (off (rsPos dir c h))) (slot (commM dir) (sl h).val) h1 h2
      (N_slot _ _ _ ⟨_, rfl⟩) fullShare (sent I (p / 2) dir c h) (reached ER (kcell c (.cr dir)) p)
      (by unfold payS; rw [if_neg hno, if_neg hl]; exact own_ownx _ _ _)
      (by
        unfold payR
        rw [if_neg hno, if_neg hl, back_peer]
        exact sep_swap_emp))
    isplitr; · iexact HG
    isplitl [HO]; · iexact HO
    isplitl [Ho]; · iexact Ho
    isplitl [Hx]; · unfold slotRes; iexact Hx
    isplitr; · iexact Hcr
    iexact Hf
  iintro %_ ⟨HO, Hs⟩
  isplitl [HO]; · iexact HO
  isplitl [HGh] <;> iassumption

end

/-- The last transfer of a reduce-scatter hands on the blocks that the next gather writes from the other side. -/
theorem rs_last (c : Dev nD) (p : ℕ) (hp : p < 7) (ho : p % 2 = 1) (J : sProp 𝕄) (g j : ℕ) (hj : 15 ≤ j + 1)
    (hJ : iprop(J ∗ ownx (F := F) c (bOf p) (rsPos true c 15)) ⊢ grant (F := F) false (bOf p) (peer true c)) :
    iprop(Glob I K KS ∗ OW (F := F) c (tS true p 15) ∗ Gh I c true p 15 15 g j
        ∗ own c (bOf p) (rsPos true c 15) fullShare (sent I (p / 2) true c 15) ∗ J)
      ⊢ WP c (rsSend (printed c) (bOf p) true 15) (fun _ => iprop(OW (F := F) c (tS true p 15 + 1) ∗ Gh I c true p (15 + 1) 15 g j
          ∗ sndCred (F := F) c true p 15)) := by
  have hh : 15 < nh true := by decide
  obtain ⟨h1, h2, e⟩ := rsSend_eq (F := F) c (bOf p) true 15 hh
  rw [e]
  have hno : ¬p % 2 = 0 := by omega
  have hf := fire I c true p 15 g j hh hj
  rw [if_pos ho] at hf
  iintro ⟨#HG, HO, HGh, Ho, HJ⟩
  ihave HGh := (Gh_credits I c true p 15 15 g j) $$ HGh
  icases HGh with ⟨#Hcr, HGh⟩
  ihave HGh := hf $$ HGh
  icases HGh with ⟨Hf, Hw, HGh⟩
  imod (take_slot I K KS c true p 15 hp hh ho) $$ [Hw] with Hx
  · isplitr; · iexact HG
    iexact Hw
  iapply wp_wand $$ [HO Hf Ho Hx HJ]
  · iapply (send_give I K KS c true p 15 hp hh (blk (bufM (bOf p)) (off (rsPos true c 15))) (slot (commM true) (sl 15).val) h1 h2
      (N_slot _ _ _ ⟨_, rfl⟩) fullShare (sent I (p / 2) true c 15) (iprop(reached ER (kcell c (.cr true)) p ∗ J))
      (by unfold payS; rw [if_neg hno, if_pos ⟨rfl, rfl⟩])
      (by
        unfold payR
        rw [if_neg hno, if_pos ⟨rfl, rfl⟩, back_peer]
        exact give_mono ((BI.sep_mono (BI.Entails.refl _) (own_ownx _ _ _)).trans hJ)))
    isplitr; · iexact HG
    isplitl [HO]; · iexact HO
    isplitl [Ho]; · iexact Ho
    isplitl [Hx]; · unfold slotRes; iexact Hx
    isplitl [HJ]
    · isplitr; · iexact Hcr
      iexact HJ
    iexact Hf
  iintro %_ ⟨HO, Hs⟩
  isplitl [HO]; · iexact HO
  isplitl [HGh] <;> iassumption

end Cert.KernelIdeal.Pf

end
-- ==== Proof.Ideal.Phase.lean ====
/-
# A phase's frame: the start of a hop, the loop, the blocks along the ring, the end
-/
module

public import proofs.«01_k».proof.Proof.Ideal.Flight

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

/-! ## The blocks, along the two directions -/

theorem ag_all : ∀ c : Dev nD, (Finset.univ : Finset (Dev nD))
    = insert c ((Finset.range 16).image (fun k => pos true c (k + 1)) ∪ (Finset.range 15).image (fun k => pos false c (k + 1))) := by
  decide +kernel
theorem rs_all : ∀ c : Dev nD, (Finset.univ : Finset (Dev nD))
    = insert c ((Finset.range 16).image (fun k => rsPos true c k) ∪ (Finset.range 15).image (fun k => rsPos false c k)) := by
  decide +kernel
theorem ag_out : ∀ c : Dev nD, c ∉ ((Finset.range 16).image (fun k => pos true c (k + 1)) ∪ (Finset.range 15).image (fun k => pos false c (k + 1))) := by
  decide +kernel
theorem rs_out : ∀ c : Dev nD, c ∉ ((Finset.range 16).image (fun k => rsPos true c k) ∪ (Finset.range 15).image (fun k => rsPos false c k)) := by
  decide +kernel
theorem ag_dis : ∀ c : Dev nD, Disjoint ((Finset.range 16).image (fun k => pos true c (k + 1))) ((Finset.range 15).image (fun k => pos false c (k + 1))) := by
  decide +kernel
theorem rs_dis : ∀ c : Dev nD, Disjoint ((Finset.range 16).image (fun k => rsPos true c k)) ((Finset.range 15).image (fun k => rsPos false c k)) := by
  decide +kernel
theorem pos_inj (dir : Bool) (c : Dev nD) {a b : ℕ} (ha : a < 32) (hb : b < 32) (h : pos dir c a = pos dir c b) : a = b := by
  have := congrArg Fin.val h
  have hc := c.isLt
  cases dir <;> simp [pos] at this <;> omega

theorem image_pos (dir : Bool) (c : Dev nD) (n : ℕ) (hn : n < 31) (Φ : Dev nD → sProp 𝕄) :
    bigSep ((Finset.range n).image (fun k => pos dir c (k + 1))) Φ = bigSep (Finset.range n) (fun k => Φ (pos dir c (k + 1))) :=
  bigSep_image_of_injOn (fun a ha b hb h => by
    have ha' := Finset.mem_range.mp ha
    have hb' := Finset.mem_range.mp hb
    have := pos_inj dir c (by omega) (by omega) h
    omega) Φ
theorem image_rs (dir : Bool) (c : Dev nD) (Φ : Dev nD → sProp 𝕄) :
    bigSep ((Finset.range (nh dir)).image (fun k => rsPos dir c k)) Φ = bigSep (Finset.range (nh dir)) (fun k => Φ (rsPos dir c k)) :=
  bigSep_image_of_injOn (fun a ha b hb h => by
    have h16 := nh_le dir
    have ha' := Finset.mem_range.mp ha
    have hb' := Finset.mem_range.mp hb
    have := pos_inj (!dir) c (by omega) (by omega) h
    omega) Φ

theorem split_ag (c : Dev nD) (Φ : Dev nD → sProp 𝕄) : bigSep Finset.univ Φ
    = iprop(Φ c ∗ bigSep (Finset.range 16) (fun k => Φ (pos true c (k + 1))) ∗ bigSep (Finset.range 15) (fun k => Φ (pos false c (k + 1)))) := by
  rw [ag_all c, bigSep_insert (ag_out c), bigSep_union (ag_dis c), image_pos true c 16 (by omega), image_pos false c 15 (by omega)]
  rfl
theorem split_rs (c : Dev nD) (Φ : Dev nD → sProp 𝕄) : bigSep Finset.univ Φ
    = iprop(Φ c ∗ bigSep (Finset.range 16) (fun k => Φ (rsPos true c k)) ∗ bigSep (Finset.range 15) (fun k => Φ (rsPos false c k))) := by
  rw [rs_all c, bigSep_insert (rs_out c), bigSep_union (rs_dis c), show (16 : ℕ) = nh true from rfl, show (15 : ℕ) = nh false from rfl,
    image_rs true c, image_rs false c]
  rfl

/-- The grant that goes with the last transfer of a reduce-scatter. -/
theorem grant_false_im : ∀ c : Dev nD, (Finset.range 15).image (fun k => pos false (peer true c) k)
    = insert (rsPos true c 15) ((Finset.Ico 1 15).image (fun k => rsPos true c k)) := by decide +kernel
theorem grant_false_out : ∀ c : Dev nD, rsPos true c 15 ∉ ((Finset.Ico 1 15).image (fun k => rsPos true c k)) := by decide +kernel
theorem grant_true_im : ∀ c : Dev nD, (Finset.range 16).image (fun k => pos true (back true c) k)
    = insert (rsPos true c 0) ((Finset.range 15).image (fun k => rsPos false c k)) := by decide +kernel
theorem grant_true_out : ∀ c : Dev nD, rsPos true c 0 ∉ ((Finset.range 15).image (fun k => rsPos false c k)) := by decide +kernel
theorem peer_false_peer : ∀ c : Dev nD, peer false (peer true c) = c := by decide +kernel

theorem grant_false (c : Dev nD) (b : Fin 3) : grant (F := F) false b (peer true c)
    = iprop(ownx (F := F) c b (rsPos true c 15) ∗ bigSep (Finset.Ico 1 15) (fun k => ownx (F := F) c b (rsPos true c k))) := by
  unfold grant
  rw [peer_false_peer, show nh false = 15 from rfl,
    ← bigSep_image_of_injOn (f := fun k => pos false (peer true c) k) (s := Finset.range 15) (fun a ha b hb h => by
      have ha' := Finset.mem_range.mp ha
      have hb' := Finset.mem_range.mp hb
      exact pos_inj false _ (by omega) (by omega) h) (fun j => ownx (F := F) c b j),
    grant_false_im, bigSep_insert (grant_false_out c), bigSep_image_of_injOn (fun a ha b hb h => by
      have ha' := Finset.mem_Ico.mp ha
      have hb' := Finset.mem_Ico.mp hb
      have := pos_inj false c (show 16 - a < 32 by omega) (show 16 - b < 32 by omega) h
      omega)]
  rfl
theorem grant_true (c : Dev nD) (b : Fin 3) : grant (F := F) true b (back true c)
    = iprop(ownx (F := F) c b (rsPos true c 0) ∗ bigSep (Finset.range 15) (fun k => ownx (F := F) c b (rsPos false c k))) := by
  unfold grant
  rw [peer_back, show nh true = 16 from rfl,
    ← bigSep_image_of_injOn (f := fun k => pos true (back true c) k) (s := Finset.range 16) (fun a ha b hb h => by
      have ha' := Finset.mem_range.mp ha
      have hb' := Finset.mem_range.mp hb
      exact pos_inj true _ (by omega) (by omega) h) (fun j => ownx (F := F) c b j),
    grant_true_im, bigSep_insert (grant_true_out c), show (15 : ℕ) = nh false from rfl, image_rs false c]
  rfl

theorem bs_snoc (n : ℕ) (A : ℕ → sProp 𝕄) : iprop(bigSep (Finset.range n) A ∗ A n) ⊢ bigSep (Finset.range (n + 1)) A := by
  rw [bigSep_range_succ]
  first | exact BI.Entails.refl _ | exact sep_swap
theorem bs_last (n : ℕ) (A : ℕ → sProp 𝕄) : bigSep (Finset.range (n + 1)) A ⊢ iprop(bigSep (Finset.range n) A ∗ A n) := by
  rw [bigSep_range_succ]
  first | exact BI.Entails.refl _ | exact sep_swap
theorem bs_cons {a b : ℕ} (h : a < b) (A : ℕ → sProp 𝕄) : bigSep (Finset.Ico a b) A ⊢ iprop(A a ∗ bigSep (Finset.Ico (a + 1) b) A) := by
  rw [bigSep_Ico_succ_bot h]
theorem bs_range (n : ℕ) (A : ℕ → sProp 𝕄) : bigSep (Finset.range n) A = bigSep (Finset.Ico 0 n) A := by rw [Finset.range_eq_Ico]

theorem bs_first (n : ℕ) (A : ℕ → sProp 𝕄) :
    bigSep (Finset.range (n + 1)) A = iprop(A 0 ∗ bigSep (Finset.range n) (fun k => A (k + 1))) := by
  have e : Finset.range (n + 1) = insert 0 ((Finset.range n).image (· + 1)) := by
    ext x
    simp only [Finset.mem_range, Finset.mem_insert, Finset.mem_image]
    constructor
    · intro h
      rcases Nat.eq_zero_or_pos x with rfl | hx
      · exact Or.inl rfl
      · exact Or.inr ⟨x - 1, by omega, by omega⟩
    · rintro (rfl | ⟨a, h1, rfl⟩) <;> omega
  rw [e, bigSep_insert (fun h => by
      obtain ⟨a, _, h2⟩ := Finset.mem_image.mp h
      exact absurd h2 (Nat.succ_ne_zero a)), bigSep_image_of_injOn (fun a _ b _ h => Nat.succ.inj h)]
  rfl

/-! ## Steps taken or left out, and loops -/

theorem opt_spec {c : Dev nD} {P Q : sProp 𝕄} (b : Bool) {q : PR F PUnit} (h1 : b = true → P ⊢ WP c q (fun _ => Q)) (h0 : b = false → P ⊢ Q) :
    P ⊢ WP c (opt b q) (fun _ => Q) := by
  cases b
  · exact (h0 rfl).trans (ret_intro (F := F) (c := c) (Q := fun _ => Q) PUnit.unit)
  · exact h1 rfl

theorem opt_true {c : Dev nD} {P Q : sProp 𝕄} {q : PR F PUnit} (h : P ⊢ WP c q (fun _ => Q)) : P ⊢ WP c (opt true q) (fun _ => Q) := h
theorem opt_skip {c : Dev nD} {q : PR F PUnit} : (iprop(emp) : sProp 𝕄) ⊢ WP c (opt false q) (fun _ => iprop(emp)) :=
  ret_intro (F := F) (c := c) (Q := fun _ => iprop(emp)) PUnit.unit
theorem tS_lt (dir : Bool) (p h : ℕ) : tS dir p h < 64 * (p + 1) + 4 * h + 2 := by unfold tS; split <;> omega

theorem loop_spec {c : Dev nD} (Inv : ℕ → sProp 𝕄) (f : ℕ → PR F PUnit) : ∀ (n i : ℕ)
    (H : ∀ k, i ≤ k → k < i + n → Inv k ⊢ WP c (f k) (fun _ => Inv (k + 1))), Inv i ⊢ WP c (loop f n i) (fun _ => Inv (i + n))
  | 0, i, _ => ret_intro (F := F) (c := c) (Q := fun _ => Inv i) PUnit.unit
  | n + 1, i, H => by
    unfold loop
    have h1 := loop_spec Inv f n (i + 1) (fun k hk hk' => H k (by omega) (by omega))
    rw [show i + 1 + n = i + (n + 1) by omega] at h1
    iintro HI
    iapply (bindF (H i (le_refl _) (by omega))) $$ HI
    iintro HI
    iapply h1; iexact HI

/-! ## The start of a hop -/

section Start

variable (c : Dev nD) (p : ℕ) (hp : p < 7)

/-- Before hop `h`. -/
def MM (A : Bool → ℕ → sProp (MT nD τ sig ℕ (Elt F) ℕ UU ℕ)) (dir : Bool) (h : ℕ) : sProp 𝕄 := iprop(Gh I c dir p h h h (h - 2) ∗ Rel (F := F) c dir p h ∗ A dir h)
/-- With hop `h` in flight. -/
def FF (B : Bool → ℕ → sProp (MT nD τ sig ℕ (Elt F) ℕ UU ℕ)) (dir : Bool) (h : ℕ) : sProp 𝕄 :=
  iprop(Gh I c dir p (h + 1) h h (h - 1) ∗ Rel (F := F) c dir p h ∗ sndCred (F := F) c dir p h ∗ B dir h)
/-- The shorter direction, when the longer one has hop `h` in flight. -/
def LF (A B : Bool → ℕ → sProp (MT nD τ sig ℕ (Elt F) ℕ UU ℕ)) (h : ℕ) : sProp (MT nD τ sig ℕ (Elt F) ℕ UU ℕ) := if h < 15 then FF I c p B false h else MM I c p A false 15

include hp in
theorem take_opt (dir : Bool) (h : ℕ) (hh : h < nh dir) :
    iprop(Glob I K KS ∗ OW (F := F) c (64 * (p + 1) + 4 * h) ∗ Gh I c dir p h h h (h - 2))
      ⊢ WP c (opt (Nat.ble 2 h) (takeCredit dir)) (fun _ => iprop(OW (F := F) c (64 * (p + 1) + 4 * h) ∗ Gh I c dir p h h h (h - 1))) := by
  have h16 := nh_le dir
  refine opt_spec _ (fun e => ?_) (fun e => ?_)
  · have h2 : 2 ≤ h := Nat.le_of_ble_eq_true e
    have := take_step I K KS c dir p hp h h h (h - 2) (64 * (p + 1) + 4 * h) (by omega) (by unfold tC; split <;> omega) (by omega)
    rw [show h - 2 + 1 = h - 1 by omega] at this
    exact this
  · have h2 : ¬2 ≤ h := fun hl => by rw [Nat.ble_eq_true_of_le hl] at e; exact absurd e (by decide)
    rw [show h - 2 = h - 1 by omega]
    iintro ⟨-, H⟩; iexact H

include hp in
theorem start_step (A B : Bool → ℕ → sProp 𝕄) (send : Bool → ℕ → PR F PUnit)
    (hsend : ∀ dir h, h < nh dir → iprop(Glob I K KS ∗ OW (F := F) c (tS dir p h) ∗ Gh I c dir p h h h (h - 1) ∗ A dir h)
      ⊢ WP c (send dir h) (fun _ => iprop(OW (F := F) c (tS dir p h + 1) ∗ Gh I c dir p (h + 1) h h (h - 1) ∗ sndCred (F := F) c dir p h ∗ B dir h)))
    (h : ℕ) (hh : h < 16) :
    iprop(Glob I K KS ∗ OW (F := F) c (64 * (p + 1) + 4 * h) ∗ MM I c p A true h ∗ MM I c p A false h)
      ⊢ WP c (startHop send h) (fun _ => iprop(OW (F := F) c (64 * (p + 1) + 4 * h + 2) ∗ FF I c p B true h ∗ LF I c p A B h)) := by
  have e0 : tS true p h = 64 * (p + 1) + 4 * h := rfl
  have e1 : tS false p h = 64 * (p + 1) + 4 * h + 1 := rfl
  have hs1 := hsend true h hh
  rw [e0] at hs1
  unfold startHop MM LF
  iintro ⟨#HG, HO, ⟨HGr, HRr, HAr⟩, ⟨HGl, HRl, HAl⟩⟩
  iapply (bindF (take_opt I K KS c p hp true h hh)) $$ [HO HGr]
  · isplitr; · iexact HG
    isplitl [HO] <;> iassumption
  iintro ⟨HO, HGr⟩
  by_cases hl : h < 15
  · have hbl : Nat.blt h 15 = true := Nat.ble_eq_true_of_le hl
    have hs2 := hsend false h hl
    rw [e1] at hs2
    rw [hbl, Bool.and_true, if_pos hl]
    iapply (bindF (take_opt I K KS c p hp false h hl)) $$ [HO HGl]
    · isplitr; · iexact HG
      isplitl [HO] <;> iassumption
    iintro ⟨HO, HGl⟩
    iapply (bindF hs1) $$ [HO HGr HAr]
    · isplitr; · iexact HG
      isplitl [HO]; · iexact HO
      isplitl [HGr] <;> iassumption
    iintro ⟨HO, HGr, HBr⟩
    iapply wp_wand $$ [HO HGl HAl]
    · iapply (opt_spec (c := c) true (q := send false h) (fun _ => hs2) (fun e => absurd e (by decide)))
      isplitr; · iexact HG
      isplitl [HO]; · iexact HO
      isplitl [HGl] <;> iassumption
    iintro %_ ⟨HO, HGl, HBl⟩
    unfold FF
    isplitl [HO]; · iexact HO
    isplitl [HGr HRr HBr]
    · isplitl [HGr]; · iexact HGr
      isplitl [HRr] <;> iassumption
    · isplitl [HGl]; · iexact HGl
      isplitl [HRl] <;> iassumption
  · have h15 : h = 15 := by omega
    have hbl : Nat.blt h 15 = false := by subst h15; rfl
    rw [hbl, Bool.and_false, if_neg hl]
    iapply (bindF (opt_spec (c := c) false (q := takeCredit false) (P := iprop(emp)) (Q := iprop(emp)) (fun e => absurd e (by decide)) (fun _ => BI.Entails.refl _))) $$ []
    · iempintro
    iintro -
    iapply (bindF hs1) $$ [HO HGr HAr]
    · isplitr; · iexact HG
      isplitl [HO]; · iexact HO
      isplitl [HGr] <;> iassumption
    iintro ⟨HO, HGr, HBr⟩
    ihave HO := (OW_skip (F := F) c (64 * (p + 1) + 4 * h + 1) (by omega) (by rw [h15]; exact evT_skip c p 61 (Or.inl rfl))) $$ HO
    unfold FF MM
    subst h15
    iapply (ret_intro (c := c) (F := F) PUnit.unit)
    isplitl [HO]; · iexact HO
    isplitl [HGr HRr HBr]
    · isplitl [HGr]; · iexact HGr
      isplitl [HRr] <;> iassumption
    · isplitl [HGl]; · iexact HGl
      isplitl [HRl] <;> iassumption

/-! ## Between phases -/

/-- A direction between phases. -/
def Ne (dir : Bool) (q : ℕ) : sProp 𝕄 := iprop(Pos (F := F) c dir q 0 ∗ CR I c dir q 0 ∗ Rel (F := F) c dir q 0)

theorem Ne_open (dir : Bool) : iprop(Ne I c dir p ∗ Tk (F := F) c dir p 0 0 0 0) ⊢ iprop(Gh I c dir p 0 0 0 0 ∗ Rel (F := F) c dir p 0) := by
  unfold Ne Gh
  iintro ⟨⟨HP, HC, HR⟩, HT⟩
  isplitr [HR]
  · isplitl [HT]; · iexact HT
    isplitl [HP] <;> iassumption
  iexact HR

include hp in
theorem drain_spec :
    iprop(Glob I K KS ∗ OW (F := F) c (64 * (p + 2)) ∗ (Gh I c true p 16 16 16 14 ∗ Rel (F := F) c true p 16)
        ∗ (Gh I c false p 15 15 15 13 ∗ Rel (F := F) c false p 15))
      ⊢ WP c drain (fun _ => iprop(OW (F := F) c (64 * (p + 2)) ∗ Ne I c true (p + 1) ∗ Ne I c false (p + 1)
          ∗ if p % 2 = 1 then grant (F := F) true (bOf p) c else iprop(emp))) := by
  have h1 := drain_step I K KS c true p hp (64 * (p + 2)) (by show tC true p 15 < _; unfold tC; simp only [if_true]; omega) (by omega)
  have h2 := drain_step I K KS c false p hp (64 * (p + 2)) (by show tC false p 14 < _; unfold tC; simp; omega) (by omega)
  have hR1 : Rel (F := F) c true p 16 = Rel (F := F) c true (p + 1) 0 := Rel_end (F := F) c true p
  have hR2 : Rel (F := F) c false p 15 = Rel (F := F) c false (p + 1) 0 := Rel_end (F := F) c false p
  rw [hR1, hR2]
  rw [if_neg (fun h => absurd h.1 (by decide))] at h2
  have hg : (if true = true ∧ p % 2 = 1 then grant (F := F) true (bOf p) c else iprop(emp)) = if p % 2 = 1 then grant (F := F) true (bOf p) c else iprop(emp) := by
    by_cases e : p % 2 = 1
    · rw [if_pos ⟨rfl, e⟩, if_pos e]
    · rw [if_neg (fun h => e h.2), if_neg e]
  unfold drain Ne
  iintro ⟨#HG, HO, ⟨HGr, HRr⟩, ⟨HGl, HRl⟩⟩
  iapply (bindF h1) $$ [HO HGr]
  · isplitr; · iexact HG
    isplitl [HO]; · iexact HO
    iexact HGr
  iintro ⟨HO, HPr, HCr, Hg⟩
  ihave Hg := (Entails.of_eq hg) $$ Hg
  iapply wp_wand $$ [HO HGl]
  · iapply h2
    isplitr; · iexact HG
    isplitl [HO]; · iexact HO
    iexact HGl
  iintro %_ ⟨HO, HPl, HCl, -⟩
  isplitl [HO]; · iexact HO
  isplitl [HPr HCr HRr]
  · isplitl [HPr]; · iexact HPr
    isplitl [HCr]; · iexact HCr
    iexact HRr
  isplitl [HPl HCl HRl]
  · isplitl [HPl]; · iexact HPl
    isplitl [HCl]; · iexact HCl
    iexact HRl
  iexact Hg

end Start

end Cert.KernelIdeal.Pf

end
-- ==== Proof.Ideal.Gather.lean ====
/-
# A gather, with a step on every block
-/
module

public import proofs.«01_k».proof.Proof.Ideal.Phase

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section

variable (c : Dev nD) (p : ℕ) (hp : p < 7) (he : p % 2 = 0)

/-- What the gather has: the blocks that came, and the right to write the peer's to come. -/
def agA (dir : Bool) (h : ℕ) : sProp 𝕄 :=
  iprop(bigSep (Finset.range (h + 1)) (fun k => own c (bOf p) (pos dir c k) (qq dir k) (Xs I (p / 2) (pos dir c k)))
    ∗ bigSep (Finset.Ico h (nh dir)) (fun k => ownx (F := F) (peer dir c) (bOf p) (pos dir c k)))
def agB (dir : Bool) (h : ℕ) : sProp 𝕄 :=
  iprop(bigSep (Finset.range h) (fun k => own c (bOf p) (pos dir c k) (qq dir k) (Xs I (p / 2) (pos dir c k)))
    ∗ own c (bOf p) (pos dir c h) (qq dir h).right (Xs I (p / 2) (pos dir c h))
    ∗ bigSep (Finset.Ico (h + 1) (nh dir)) (fun k => ownx (F := F) (peer dir c) (bOf p) (pos dir c k)))

/-- A hop waited for, its credit not yet given. -/
def Wt (dir : Bool) (h : ℕ) : sProp 𝕄 :=
  iprop(Gh I c dir p (h + 1) (h + 1) h (h - 1) ∗ Rel (F := F) c dir p h ∗ reached ER (kcell (back dir c) (.cr dir)) p)

include hp he in
theorem ag_hsend (dir : Bool) (h : ℕ) (hh : h < nh dir) :
    iprop(Glob I K KS ∗ OW (F := F) c (tS dir p h) ∗ Gh I c dir p h h h (h - 1) ∗ agA I c p dir h)
      ⊢ WP c (agSend (printed c) (bOf p) dir h) (fun _ => iprop(OW (F := F) c (tS dir p h + 1) ∗ Gh I c dir p (h + 1) h h (h - 1)
          ∗ sndCred (F := F) c dir p h ∗ agB I c p dir h)) := by
  unfold agA agB
  iintro ⟨#HG, HO, HGh, H1, H2⟩
  ihave H1 := (bs_last h (fun k => own c (bOf p) (pos dir c k) (qq dir k) (Xs I (p / 2) (pos dir c k)))) $$ H1
  icases H1 with ⟨H1, Hl⟩
  ihave H2 := (bs_cons hh (fun k => ownx (F := F) (peer dir c) (bOf p) (pos dir c k))) $$ H2
  icases H2 with ⟨Hx, H2⟩
  iapply wp_wand $$ [HO HGh Hl Hx]
  · iapply (ag_send I K KS c dir p h hp hh he h (h - 1) (by omega))
    isplitr; · iexact HG
    isplitl [HO]; · iexact HO
    isplitl [HGh]; · iexact HGh
    isplitl [Hl] <;> iassumption
  iintro %_ ⟨HO, HGh, Hs, Hr⟩
  isplitl [HO]; · iexact HO
  isplitl [HGh]; · iexact HGh
  isplitl [Hs]; · iexact Hs
  isplitl [H1]; · iexact H1
  isplitl [Hr] <;> iassumption

include hp he in
theorem ag_wait (dir : Bool) (h t : ℕ) (hh : h < nh dir) (ht : tS dir p h < t) (ht' : t ≤ 512) :
    iprop(Glob I K KS ∗ OW (F := F) c t ∗ FF I c p (agB I c p) dir h)
      ⊢ WP c (agWait (printed c) (bOf p) dir h) (fun _ => iprop(OW (F := F) c t ∗ Wt I c p dir h ∗ agA I c p dir (h + 1))) := by
  unfold FF agB agA Wt agWait
  iintro ⟨#HG, HO, HGh, HR, Hs, H1, Hr, H2⟩
  iapply wp_wand $$ [HO HGh Hs]
  · iapply (wait_step I K KS c dir p h hp hh _ _ _ _ _ _ _ _ (N_blk' _ _) (N_blk' _ _) (h + 1) h (h - 1) t ht ht')
    isplitr; · iexact HG
    isplitl [HO]; · iexact HO
    isplitl [HGh] <;> iassumption
  unfold payS payR
  rw [if_pos he, if_pos he]
  iintro %_ ⟨HO, HGh, Hl, Hcr, Hn⟩
  isplitl [HO]; · iexact HO
  isplitl [HGh HR Hcr]
  · isplitl [HGh]; · iexact HGh
    isplitl [HR] <;> iassumption
  ihave Hm := (owns_halves (c : Thread nD τ) (blk (bufM (bOf p)) (off (pos dir c h))) (qq dir h) (Xs I (p / 2) (pos dir c h))).2 $$ [Hl Hr]
  · isplitl [Hl] <;> iassumption
  isplitr [H2]
  · iapply (bs_snoc (h + 1) (fun k => own c (bOf p) (pos dir c k) (qq dir k) (Xs I (p / 2) (pos dir c k))))
    isplitl [H1 Hm]
    · iapply (bs_snoc h (fun k => own c (bOf p) (pos dir c k) (qq dir k) (Xs I (p / 2) (pos dir c k))))
      isplitl [H1] <;> iassumption
    · iexact Hn
  iexact H2

include hp he in
theorem ag_give (dir : Bool) (h : ℕ) (hh : h < nh dir) :
    iprop(Glob I K KS ∗ OW (F := F) c (tC dir p h) ∗ Wt I c p dir h ∗ agA I c p dir (h + 1))
      ⊢ WP c (giveCredit (printed c) dir) (fun _ => iprop(OW (F := F) c (tC dir p h + 1) ∗ MM I c p (agA I c p) dir (h + 1))) := by
  have hg := give_step I K KS c dir p hp (h + 1) (h - 1) h hh
  rw [if_neg (fun x => by omega)] at hg
  unfold Wt MM
  rw [Rel_even (F := F) c dir p h (h + 1) he]
  iintro ⟨#HG, HO, ⟨HGh, HR, Hcr⟩, HA⟩
  iapply wp_wand $$ [HO HGh HR Hcr]
  · iapply hg
    isplitr; · iexact HG
    isplitl [HO]; · iexact HO
    isplitl [HGh]; · iexact HGh
    isplitl [HR]; · iexact HR
    isplitl [Hcr]; · iexact Hcr
    iempintro
  iintro %_ ⟨HO, HGh, HR⟩
  isplitl [HO]; · iexact HO
  isplitl [HGh]; · iexact HGh
  isplitl [HR] <;> iassumption

/-! The step on the blocks. -/

section Oc

variable (O₀ O₁ : Dev nD → sProp (MT nD τ sig ℕ (Elt F) ℕ UU ℕ)) (oc : Off → PR F PUnit)
  (hoc : ∀ (j : Dev nD) (q : PosShare TreeShare), iprop(own c (bOf p) j q (Xs I (p / 2) j) ∗ O₀ j)
    ⊢ WP c (oc (off j)) (fun _ => iprop(own c (bOf p) j q (Xs I (p / 2) j) ∗ O₁ j)))

/-- The blocks done and to do after `h` hops. -/
def agC (dir : Bool) (h : ℕ) : sProp (MT nD τ sig ℕ (Elt F) ℕ UU ℕ) :=
  iprop(bigSep (Finset.range h) (fun k => O₁ (pos dir c (k + 1))) ∗ bigSep (Finset.Ico h (nh dir)) (fun k => O₀ (pos dir c (k + 1))))

include hoc in
theorem oc_step (dir : Bool) (h : ℕ) (hh : h < nh dir) (q : PosShare TreeShare) :
    iprop(own c (bOf p) (pos dir c (h + 1)) q (Xs I (p / 2) (pos dir c (h + 1))) ∗ agC c O₀ O₁ dir h)
      ⊢ WP c (oc ((printed c).oc dir h))
          (fun _ => iprop(own c (bOf p) (pos dir c (h + 1)) q (Xs I (p / 2) (pos dir c (h + 1))) ∗ agC c O₀ O₁ dir (h + 1))) := by
  rw [oc_eq c dir h hh]
  unfold agC
  iintro ⟨Ho, H1, H2⟩
  ihave H2 := (bs_cons hh (fun k => O₀ (pos dir c (k + 1)))) $$ H2
  icases H2 with ⟨Hx, H2⟩
  iapply wp_wand $$ [Ho Hx]
  · iapply (hoc (pos dir c (h + 1)) q)
    isplitl [Ho] <;> iassumption
  iintro %_ ⟨Ho, Hx⟩
  isplitl [Ho]; · iexact Ho
  isplitr [H2]
  · iapply (bs_snoc h (fun k => O₁ (pos dir c (k + 1))))
    isplitl [H1] <;> iassumption
  iexact H2

include hoc in
theorem oc_F (dir : Bool) (h : ℕ) (hh : h < nh dir) :
    iprop(FF I c p (agB I c p) dir (h + 1) ∗ agC c O₀ O₁ dir h)
      ⊢ WP c (oc ((printed c).oc dir h)) (fun _ => iprop(FF I c p (agB I c p) dir (h + 1) ∗ agC c O₀ O₁ dir (h + 1))) := by
  unfold FF agB
  iintro ⟨⟨H1, H2, H3, H4, Ho, H5⟩, HC⟩
  iapply wp_wand $$ [Ho HC]
  · iapply (oc_step I c p O₀ O₁ oc hoc dir h hh _)
    isplitl [Ho] <;> iassumption
  iintro %_ ⟨Ho, HC⟩
  isplitr [HC]
  · isplitl [H1]; · iexact H1
    isplitl [H2]; · iexact H2
    isplitl [H3]; · iexact H3
    isplitl [H4]; · iexact H4
    isplitl [Ho] <;> iassumption
  iexact HC

include hoc in
theorem oc_M (dir : Bool) (h : ℕ) (hh : h < nh dir) :
    iprop(MM I c p (agA I c p) dir (h + 1) ∗ agC c O₀ O₁ dir h)
      ⊢ WP c (oc ((printed c).oc dir h)) (fun _ => iprop(MM I c p (agA I c p) dir (h + 1) ∗ agC c O₀ O₁ dir (h + 1))) := by
  unfold MM agA
  iintro ⟨⟨H1, H2, H3, H4⟩, HC⟩
  ihave H3 := (bs_last (h + 1) (fun k => own c (bOf p) (pos dir c k) (qq dir k) (Xs I (p / 2) (pos dir c k)))) $$ H3
  icases H3 with ⟨H3, Ho⟩
  iapply wp_wand $$ [Ho HC]
  · iapply (oc_step I c p O₀ O₁ oc hoc dir h hh _)
    isplitl [Ho] <;> iassumption
  iintro %_ ⟨Ho, HC⟩
  isplitr [HC]
  · isplitl [H1]; · iexact H1
    isplitl [H2]; · iexact H2
    isplitr [H4]
    · iapply (bs_snoc (h + 1) (fun k => own c (bOf p) (pos dir c k) (qq dir k) (Xs I (p / 2) (pos dir c k))))
      isplitl [H3] <;> iassumption
    iexact H4
  iexact HC

include hoc in
theorem oc_L (h : ℕ) (hl : h < 15) :
    iprop(LF I c p (agA I c p) (agB I c p) (h + 1) ∗ agC c O₀ O₁ false h)
      ⊢ WP c (oc ((printed c).oc false h)) (fun _ => iprop(LF I c p (agA I c p) (agB I c p) (h + 1) ∗ agC c O₀ O₁ false (h + 1))) := by
  unfold LF
  by_cases hl' : h + 1 < 15
  · rw [if_pos hl']
    exact oc_F I c p O₀ O₁ oc hoc false h hl
  · rw [if_neg hl']
    obtain rfl : h = 14 := by omega
    exact oc_M I c p O₀ O₁ oc hoc false 14 hl

/-- The gather's loop: hop `h` in flight. -/
def agInv (h : ℕ) : sProp (MT nD τ sig ℕ (Elt F) ℕ UU ℕ) :=
  if h < 16 then
    iprop(OW (F := F) c (64 * (p + 1) + 4 * h + 2) ∗ FF I c p (agB I c p) true h ∗ LF I c p (agA I c p) (agB I c p) h
      ∗ agC c O₀ O₁ true h ∗ agC c O₀ O₁ false (min h 15))
  else
    iprop(OW (F := F) c (64 * (p + 2)) ∗ MM I c p (agA I c p) true 16 ∗ MM I c p (agA I c p) false 15
      ∗ agC c O₀ O₁ true 16 ∗ agC c O₀ O₁ false 15)

include hp he hoc in
theorem ag_hop (h : ℕ) (hh : h < 16) :
    iprop(Glob I K KS ∗ agInv I c p O₀ O₁ h)
      ⊢ WP c (agHop (printed c) (bOf p) oc h) (fun _ => iprop(agInv I c p O₀ O₁ (h + 1))) := by
  have hw := ag_wait I K KS c p hp he true h (64 * (p + 1) + 4 * h + 2) hh (tS_lt _ _ _) (by omega)
  have hg := ag_give I K KS c p hp he true h hh
  have e0 : tC true p h = 64 * (p + 1) + 4 * h + 2 := rfl
  rw [e0] at hg
  unfold agHop agInv
  rw [if_pos hh]
  by_cases hl : h < 15
  · have hw' := ag_wait I K KS c p hp he false h (64 * (p + 1) + 4 * h + 2) hl (tS_lt _ _ _) (by omega)
    have hg' := ag_give I K KS c p hp he false h hl
    have e1 : tC false p h = 64 * (p + 1) + 4 * h + 2 + 1 := rfl
    rw [e1, show 64 * (p + 1) + 4 * h + 2 + 1 + 1 = 64 * (p + 1) + 4 * (h + 1) by omega] at hg'
    rw [show Nat.blt h 15 = true from Nat.ble_eq_true_of_le hl, show min h 15 = h by omega, if_pos (show h + 1 < 16 by omega),
      show min (h + 1) 15 = h + 1 by omega, show LF I c p (agA I c p) (agB I c p) h = FF I c p (agB I c p) false h from if_pos hl]
    iintro ⟨#HG, HO, HF, HL, HC, HC'⟩
    iapply (bindF hw) $$ [HO HF]
    · isplitr; · iexact HG
      isplitl [HO] <;> iassumption
    iintro ⟨HO, HW, HA⟩
    iapply (bindF (opt_true hw')) $$ [HO HL]
    · isplitr; · iexact HG
      isplitl [HO] <;> iassumption
    iintro ⟨HO, HW', HA'⟩
    iapply (bindF hg) $$ [HO HW HA]
    · isplitr; · iexact HG
      isplitl [HO]; · iexact HO
      isplitl [HW] <;> iassumption
    iintro ⟨HO, HM⟩
    iapply (bindF (opt_true hg')) $$ [HO HW' HA']
    · isplitr; · iexact HG
      isplitl [HO]; · iexact HO
      isplitl [HW'] <;> iassumption
    iintro ⟨HO, HM'⟩
    iapply (bindF (opt_true (start_step I K KS c p hp (agA I c p) (agB I c p) (agSend (printed c) (bOf p))
      (ag_hsend I K KS c p hp he) (h + 1) (by omega)))) $$ [HO HM HM']
    · isplitr; · iexact HG
      isplitl [HO]; · iexact HO
      isplitl [HM] <;> iassumption
    iintro ⟨HO, HF, HL⟩
    iapply (bindF (oc_F I c p O₀ O₁ oc hoc true h hh)) $$ [HF HC]
    · isplitl [HF] <;> iassumption
    iintro ⟨HF, HC⟩
    iapply wp_wand $$ [HL HC']
    · iapply (opt_true (oc_L I c p O₀ O₁ oc hoc h hl))
      isplitl [HL] <;> iassumption
    iintro %_ ⟨HL, HC'⟩
    isplitl [HO]; · iexact HO
    isplitl [HF]; · iexact HF
    isplitl [HL]; · iexact HL
    isplitl [HC] <;> iassumption
  · obtain rfl : h = 15 := by omega
    rw [if_neg (show ¬15 + 1 < 16 by omega), show Nat.blt 15 15 = false from rfl, show min 15 15 = 15 from rfl,
      show LF I c p (agA I c p) (agB I c p) 15 = MM I c p (agA I c p) false 15 from if_neg hl]
    iintro ⟨#HG, HO, HF, HL, HC, HC'⟩
    iapply (bindF hw) $$ [HO HF]
    · isplitr; · iexact HG
      isplitl [HO] <;> iassumption
    iintro ⟨HO, HW, HA⟩
    iapply (bindF opt_skip) $$ []
    · iempintro
    iintro -
    iapply (bindF hg) $$ [HO HW HA]
    · isplitr; · iexact HG
      isplitl [HO]; · iexact HO
      isplitl [HW] <;> iassumption
    iintro ⟨HO, HM⟩
    ihave HO := (OW_skip (F := F) c (64 * (p + 1) + 4 * 15 + 2 + 1) (by omega) (evT_skip c p 63 (Or.inr rfl))) $$ HO
    iapply (bindF opt_skip) $$ []
    · iempintro
    iintro -
    iapply (bindF opt_skip) $$ []
    · iempintro
    iintro -
    iapply (bindF (oc_M I c p O₀ O₁ oc hoc true 15 hh)) $$ [HM HC]
    · isplitl [HM] <;> iassumption
    iintro ⟨HM, HC⟩
    iapply (ret_intro (c := c) (F := F) PUnit.unit)
    isplitl [HO]; · iexact HO
    isplitl [HM]; · iexact HM
    isplitl [HL]; · iexact HL
    isplitl [HC] <;> iassumption

include hp he hoc in
/-- The gather. -/
theorem ag_spec :
    iprop(Glob I K KS ∗ OW (F := F) c (64 * (p + 1)) ∗ (Ne I c true p ∗ Tk (F := F) c true p 0 0 0 0) ∗ (Ne I c false p ∗ Tk (F := F) c false p 0 0 0 0)
        ∗ own c (bOf p) c fullShare (Xs I (p / 2) c) ∗ grant (F := F) true (bOf p) c ∗ grant (F := F) false (bOf p) c
        ∗ bigSep Finset.univ O₀)
      ⊢ WP c (agPhase (printed c) (bOf p) oc) (fun _ => iprop(OW (F := F) c (64 * (p + 2)) ∗ Ne I c true (p + 1) ∗ Ne I c false (p + 1)
          ∗ bigSep Finset.univ (fun j => own c (bOf p) j fullShare (Xs I (p / 2) j)) ∗ bigSep Finset.univ O₁)) := by
  have hstart := start_step I K KS c p hp (agA I c p) (agB I c p) (agSend (printed c) (bOf p)) (ag_hsend I K KS c p hp he) 0 (by omega)
  have hA : ∀ dir, iprop(own c (bOf p) c (qq dir 0) (Xs I (p / 2) c) ∗ grant (F := F) dir (bOf p) c) ⊢ agA I c p dir 0 := by
    intro dir
    unfold agA grant
    rw [← bs_range, show 0 + 1 = 1 from rfl, Finset.range_one, bigSep_singleton, pos_zero]
  have hC : ∀ dir n, n = nh dir → bigSep (Finset.range n) (fun k => O₀ (pos dir c (k + 1))) ⊢ agC c O₀ O₁ dir 0 := by
    rintro dir n rfl
    unfold agC
    rw [← bs_range, Finset.range_zero, bigSep_empty]
    iintro H; isplitr
    · iempintro
    · iexact H
  have hI : agInv I c p O₀ O₁ 0 = iprop(OW (F := F) c (64 * (p + 1) + 4 * 0 + 2) ∗ FF I c p (agB I c p) true 0 ∗ LF I c p (agA I c p) (agB I c p) 0
      ∗ agC c O₀ O₁ true 0 ∗ agC c O₀ O₁ false 0) := if_pos (by omega)
  have hI' : agInv I c p O₀ O₁ 16 = iprop(OW (F := F) c (64 * (p + 2)) ∗ MM I c p (agA I c p) true 16 ∗ MM I c p (agA I c p) false 15
      ∗ agC c O₀ O₁ true 16 ∗ agC c O₀ O₁ false 15) := if_neg (by omega)
  have hloop := loop_spec (c := c) (fun h => iprop(Glob I K KS ∗ agInv I c p O₀ O₁ h)) (agHop (printed c) (bOf p) oc) 16 0 (fun k _ hk => by
    iintro ⟨#HG, H⟩
    iapply wp_wand $$ [H]
    · iapply (ag_hop I K KS c p hp he O₀ O₁ oc hoc k (by omega))
      isplitr; · iexact HG
      iexact H
    iintro %_ H
    isplitr; · iexact HG
    iexact H)
  have hC0 : ∀ dir n, n = nh dir → agC c O₀ O₁ dir n ⊢ bigSep (Finset.range n) (fun k => O₁ (pos dir c (k + 1))) := by
    rintro dir n rfl
    unfold agC
    iintro ⟨H, -⟩; iexact H
  have hAn : ∀ dir n, n = nh dir → agA I c p dir n ⊢ iprop(own c (bOf p) c (qq dir 0) (Xs I (p / 2) c)
      ∗ bigSep (Finset.range n) (fun k => own c (bOf p) (pos dir c (k + 1)) fullShare (Xs I (p / 2) (pos dir c (k + 1))))) := by
    rintro dir n rfl
    unfold agA
    have hq : ∀ k, qq dir (k + 1) = fullShare := fun k => if_neg (Nat.succ_ne_zero k)
    rw [bs_first, pos_zero]
    simp only [hq]
    iintro ⟨H, -⟩; iexact H
  unfold agPhase
  rw [split_ag c O₀, split_ag c O₁, split_ag c (fun j => own c (bOf p) j fullShare (Xs I (p / 2) j)), own'_eq]
  iintro ⟨#HG, HO, HNr, HNl, Hown, Hgr, Hgl, Hc, Hcr, Hcl⟩
  ihave HNr := (Ne_open I c p true) $$ HNr
  icases HNr with ⟨HGr, HRr⟩
  ihave HNl := (Ne_open I c p false) $$ HNl
  icases HNl with ⟨HGl, HRl⟩
  ihave Hown := (owns_halves (c : Thread nD τ) (blk (bufM (bOf p)) (off c)) fullShare (Xs I (p / 2) c)).1 $$ Hown
  icases Hown with ⟨Hl, Hr⟩
  iapply (bindF hstart) $$ [HO HGr HRr HGl HRl Hl Hr Hgr Hgl]
  · unfold MM
    isplitr; · iexact HG
    isplitl [HO]; · iexact HO
    isplitl [HGr HRr Hl Hgr]
    · isplitl [HGr]; · iexact HGr
      isplitl [HRr]; · iexact HRr
      iapply (hA true)
      isplitl [Hl]; · iexact Hl
      iexact Hgr
    · isplitl [HGl]; · iexact HGl
      isplitl [HRl]; · iexact HRl
      iapply (hA false)
      isplitl [Hr]; · iexact Hr
      iexact Hgl
  iintro ⟨HO, HF, HL⟩
  unfold FF agB
  icases HF with ⟨HF1, HF2, HF3, HF4, Ho, HF5⟩
  ihave Ho := (Entails.of_eq (show own c (bOf p) (pos true c 0) (qq true 0).right (Xs I (p / 2) (pos true c 0)) = own c (bOf p) c (qq true 0).right (Xs I (p / 2) c) by
    rw [pos_zero])) $$ Ho
  iapply (bindF (hoc c (qq true 0).right)) $$ [Ho Hc]
  · isplitl [Ho] <;> iassumption
  iintro ⟨Ho, Hc⟩
  iapply (bindF hloop) $$ [HO HF1 HF2 HF3 HF4 Ho HF5 HL Hcr Hcl]
  · isplitr; · iexact HG
    iapply (Entails.of_eq hI.symm)
    unfold FF agB
    isplitl [HO]; · iexact HO
    isplitl [HF1 HF2 HF3 HF4 Ho HF5]
    · isplitl [HF1]; · iexact HF1
      isplitl [HF2]; · iexact HF2
      isplitl [HF3]; · iexact HF3
      isplitl [HF4]; · iexact HF4
      isplitl [Ho]
      · iapply (Entails.of_eq (show own c (bOf p) c (qq true 0).right (Xs I (p / 2) c) = own c (bOf p) (pos true c 0) (qq true 0).right (Xs I (p / 2) (pos true c 0)) by
          rw [pos_zero])); iexact Ho
      · iexact HF5
    isplitl [HL]; · iexact HL
    isplitl [Hcr]
    · iapply (hC true 16 rfl); iexact Hcr
    · iapply (hC false 15 rfl); iexact Hcl
  iintro ⟨-, HI⟩
  ihave HI := (Entails.of_eq hI') $$ HI
  unfold MM
  icases HI with ⟨HO, ⟨HGr, HRr, HAr⟩, ⟨HGl, HRl, HAl⟩, Hcr, Hcl⟩
  iapply wp_wand $$ [HO HGr HRr HGl HRl]
  · iapply (drain_spec I K KS c p hp)
    isplitr; · iexact HG
    isplitl [HO]; · iexact HO
    isplitl [HGr HRr]
    · isplitl [HGr] <;> iassumption
    · isplitl [HGl] <;> iassumption
  iintro %_ ⟨HO, HNr, HNl, -⟩
  isplitl [HO]; · iexact HO
  isplitl [HNr]; · iexact HNr
  isplitl [HNl]; · iexact HNl
  ihave HAr := (hAn true 16 rfl) $$ HAr
  icases HAr with ⟨Hl, HAr⟩
  ihave HAl := (hAn false 15 rfl) $$ HAl
  icases HAl with ⟨Hr, HAl⟩
  isplitl [Hl Hr HAr HAl]
  · isplitl [Hl Hr]
    · iapply (owns_halves (c : Thread nD τ) (blk (bufM (bOf p)) (off c)) fullShare (Xs I (p / 2) c)).2
      isplitl [Hl]; · iexact Hl
      iexact Hr
    isplitl [HAr] <;> iassumption
  isplitl [Hc]; · iexact Hc
  isplitl [Hcr]
  · iapply (hC0 true 16 rfl); iexact Hcr
  · iapply (hC0 false 15 rfl); iexact Hcl

end Oc

end

end Cert.KernelIdeal.Pf

end
-- ==== Proof.Ideal.Scatter.lean ====
/-
# A reduce-scatter
-/
module

public import proofs.«01_k».proof.Proof.Ideal.Gather

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section

variable (c : Dev nD) (p : ℕ) (hp : p < 7) (ho : p % 2 = 1)

/-- A block still to be added to and sent. -/
abbrev pend (dir : Bool) (k : ℕ) : sProp (MT nD τ sig ℕ (Elt F) ℕ UU ℕ) :=
  own c (bOf p) (rsPos dir c k) fullShare (Part I (p / 2) c (rsPos dir c k))
/-- A block sent: at any contents. -/
abbrev junk (dir : Bool) (k : ℕ) : sProp (MT nD τ sig ℕ (Elt F) ℕ UU ℕ) := ownx (F := F) c (bOf p) (rsPos dir c k)

/-- Before hop `h`: the blocks sent, the one to send, those to come; at the end the longer direction has what the
    last landing brought. -/
def rsA (dir : Bool) (h : ℕ) : sProp (MT nD τ sig ℕ (Elt F) ℕ UU ℕ) :=
  if dir = true ∧ h = 16 then grant (F := F) false (bOf p) c
  else iprop(bigSep (Finset.range h) (fun k => junk (F := F) c p dir k)
    ∗ (if h < nh dir then own c (bOf p) (rsPos dir c h) fullShare (sent I (p / 2) dir c h) else iprop(emp))
    ∗ bigSep (Finset.Ico (h + 1) (nh dir)) (fun k => pend I c p dir k))
def rsB (dir : Bool) (h : ℕ) : sProp (MT nD τ sig ℕ (Elt F) ℕ UU ℕ) :=
  if dir = true ∧ h = 15 then junk (F := F) c p true 0
  else iprop(bigSep (Finset.range h) (fun k => junk (F := F) c p dir k) ∗ bigSep (Finset.Ico (h + 1) (nh dir)) (fun k => pend I c p dir k))
/-- Hop `h` waited for. -/
def rsE (dir : Bool) (h : ℕ) : sProp (MT nD τ sig ℕ (Elt F) ℕ UU ℕ) :=
  iprop((if dir = true ∧ h = 15 then iprop(junk (F := F) c p true 0 ∗ grant (F := F) false (bOf p) c)
    else iprop(bigSep (Finset.range (h + 1)) (fun k => junk (F := F) c p dir k) ∗ bigSep (Finset.Ico (h + 1) (nh dir)) (fun k => pend I c p dir k)))
    ∗ ownSlot c dir (sl h) (sent I (p / 2) dir (back dir c) h))

include hp ho in
theorem rs_hsend (dir : Bool) (h : ℕ) (hh : h < nh dir) :
    iprop(Glob I K KS ∗ OW (F := F) c (tS dir p h) ∗ Gh I c dir p h h h (h - 1) ∗ rsA I c p dir h)
      ⊢ WP c (rsSend (printed c) (bOf p) dir h) (fun _ => iprop(OW (F := F) c (tS dir p h + 1) ∗ Gh I c dir p (h + 1) h h (h - 1)
          ∗ sndCred (F := F) c dir p h ∗ rsB I c p dir h)) := by
  have h16 := nh_le dir
  unfold rsA rsB
  rw [if_neg (show ¬(dir = true ∧ h = 16) by omega), if_pos hh]
  by_cases hl : dir = true ∧ h = 15
  · obtain ⟨rfl, rfl⟩ := hl
    rw [if_pos ⟨rfl, rfl⟩]
    have hJ : iprop(bigSep (Finset.Ico 1 15) (fun k => junk (F := F) c p true k) ∗ ownx (F := F) c (bOf p) (rsPos true c 15))
        ⊢ grant (F := F) false (bOf p) (peer true c) := by rw [grant_false]; exact sep_swap
    rw [bs_range]
    iintro ⟨#HG, HO, HGh, H1, Ho, -⟩
    ihave H1 := (bs_cons (show 0 < 15 by omega) (fun k => junk (F := F) c p true k)) $$ H1
    icases H1 with ⟨H0, H1⟩
    iapply wp_wand $$ [HO HGh H1 Ho]
    · iapply (rs_last I K KS c p hp ho (bigSep (Finset.Ico 1 15) (fun k => junk (F := F) c p true k)) 15 14 (by omega) hJ)
      isplitr; · iexact HG
      isplitl [HO]; · iexact HO
      isplitl [HGh]; · iexact HGh
      isplitl [Ho]; · iexact Ho
      iexact H1
    iintro %_ ⟨HO, HGh, Hs⟩
    isplitl [HO]; · iexact HO
    isplitl [HGh]; · iexact HGh
    isplitl [Hs] <;> iassumption
  · rw [if_neg hl]
    iintro ⟨#HG, HO, HGh, H1, Ho, H2⟩
    iapply wp_wand $$ [HO HGh Ho]
    · iapply (rs_send I K KS c dir p h hp hh ho hl h (h - 1) (by omega))
      isplitr; · iexact HG
      isplitl [HO]; · iexact HO
      isplitl [HGh] <;> iassumption
    iintro %_ ⟨HO, HGh, Hs⟩
    isplitl [HO]; · iexact HO
    isplitl [HGh]; · iexact HGh
    isplitl [Hs]; · iexact Hs
    isplitl [H1] <;> iassumption

include hp ho in
theorem rs_wait (dir : Bool) (h t : ℕ) (hh : h < nh dir) (ht : tS dir p h < t) (ht' : t ≤ 512) :
    iprop(Glob I K KS ∗ OW (F := F) c t ∗ FF I c p (rsB I c p) dir h)
      ⊢ WP c (rsWait (printed c) (bOf p) dir h) (fun _ => iprop(OW (F := F) c t ∗ Wt I c p dir h ∗ rsE I c p dir h)) := by
  have hno : ¬p % 2 = 0 := by omega
  have hw := wait_step I K KS c dir p h hp hh (slot (commM dir) h) (blk (bufM (bOf p)) ((printed c).rs dir h)) (blk (bufM (bOf p)) ((printed c).rs dir h))
    (slot (commM dir) h) ((View.wordExact_bits rfl).reshape _ _) (View.wordExact_bits rfl) (View.wordExact_bits rfl) ((View.wordExact_bits rfl).reshape _ _)
    (N_blk' _ _) (N_slot' _ _) (h + 1) h (h - 1) t ht ht'
  unfold payS payR at hw
  rw [if_neg hno, if_neg hno] at hw
  unfold FF rsB rsE Wt rsWait
  by_cases hl : dir = true ∧ h = 15
  · obtain ⟨rfl, rfl⟩ := hl
    rw [if_pos ⟨rfl, rfl⟩, if_pos ⟨rfl, rfl⟩] at hw
    rw [if_pos ⟨rfl, rfl⟩, if_pos ⟨rfl, rfl⟩]
    iintro ⟨#HG, HO, HGh, HR, Hs, H1⟩
    iapply wp_wand $$ [HO HGh Hs]
    · iapply hw
      isplitr; · iexact HG
      isplitl [HO]; · iexact HO
      isplitl [HGh] <;> iassumption
    iintro %_ ⟨HO, HGh, -, Hcr, Hsl, Hg⟩
    isplitl [HO]; · iexact HO
    isplitl [HGh HR Hcr]
    · isplitl [HGh]; · iexact HGh
      isplitl [HR] <;> iassumption
    isplitr [Hsl]
    · isplitl [H1] <;> iassumption
    iexact Hsl
  · rw [if_neg hl, if_neg hl] at hw
    rw [if_neg hl, if_neg hl]
    iintro ⟨#HG, HO, HGh, HR, Hs, H1, H2⟩
    iapply wp_wand $$ [HO HGh Hs]
    · iapply hw
      isplitr; · iexact HG
      isplitl [HO]; · iexact HO
      isplitl [HGh] <;> iassumption
    iintro %_ ⟨HO, HGh, Hj, Hcr, Hsl, -⟩
    isplitl [HO]; · iexact HO
    isplitl [HGh HR Hcr]
    · isplitl [HGh]; · iexact HGh
      isplitl [HR] <;> iassumption
    isplitr [Hsl]
    · isplitr [H2]
      · iapply (bs_snoc h (fun k => junk (F := F) c p dir k))
        isplitl [H1] <;> iassumption
      iexact H2
    iexact Hsl

/-- Two owners of a view with an element there cannot be. -/
theorem owns_excl (d : Thread nD τ) {sp : Space} {sh : Shape} {e : EltTy} (m : Memref sig d.2.kind sp sh e) (i : sh.Idx)
    (X Y : sh.Idx → Elt F e) : iprop(owns d m fullShare X ∗ owns d m fullShare Y) ⊢ (False : sProp 𝕄) := by
  have hi : m.view.emb i ∈ m.view.set := Finset.mem_map_of_mem m.view.emb (Finset.mem_univ i)
  unfold owns
  iintro ⟨⟨%f, -, H⟩, ⟨%g, -, H'⟩⟩
  iapply (pointsTo_overlap_false (ℓ := m.view.loc d) (q := fullShare) (f := f) (g := g) (I := m.view.set) (J := m.view.set) hi hi)
  isplitl [H] <;> iassumption

/-- Two owners of a slot there cannot be. -/
theorem slot_excl (k : KK) : iprop(slotRes (F := F) k ∗ slotRes (F := F) k) ⊢ (False : sProp 𝕄) := by
  unfold slotRes ownSlot
  iintro ⟨⟨%v, H⟩, ⟨%w, H'⟩⟩
  iapply (owns_excl (sh := S256x256) (e := .f32) _ _ (show S256x256.Idx from fun a => ⟨0, by revert a; decide⟩) v w)
  isplitl [H] <;> iassumption

include ho in
theorem rs_add (dir : Bool) (h : ℕ) (hh : h < nh dir) (X Y : Blk F) :
    iprop(Glob I K KS ∗ Rel (F := F) c dir p h ∗ own c (bOf p) (rsPos dir c (h + 1)) fullShare X ∗ ownSlot c dir (sl h) Y)
      ⊢ WP c (addStep (printed c) (bOf p) dir h)
          (fun _ => iprop(Rel (F := F) c dir p (h + 1) ∗ own c (bOf p) (rsPos dir c (h + 1)) fullShare (addf X Y))) := by
  iintro ⟨#HG, HR, Ho, Hs⟩
  ihave HR := (Rel_open (F := F) c dir p h ho) $$ HR
  icases HR with ⟨Hr1, Hback⟩
  unfold rel1
  icases Hr1 with ⟨Ha, -⟩
  iapply (wp_fupd _ _ _ _ _)
  iapply wp_wand $$ [Ho Hs]
  · iapply (addStep_spec (c := c) (bOf p) dir h hh X Y)
    isplitl [Ho] <;> iassumption
  iintro %_ ⟨Ho, Hs⟩
  imod (Release.slot_release EL (ι := KS (c, dir, sl h)) (Set.mem_univ _) (slot_excl (c, dir, sl h)) (1 + rnd dir (p / 2) h)) $$ [Ha Hs] with ⟨Ha, Hr⟩
  · isplitr; · iapply (Glob_slot I K KS (c, dir, sl h)); iexact HG
    isplitl [Ha]; · iexact Ha
    unfold slotRes
    iexists Y; iexact Hs
  imodintro
  isplitl [Ha Hr Hback]
  · iapply Hback
    isplitl [Ha] <;> iassumption
  iexact Ho

/-- A hop waited for and added, its credit not yet given. -/
def Wu (dir : Bool) (h : ℕ) : sProp (MT nD τ sig ℕ (Elt F) ℕ UU ℕ) :=
  iprop(Gh I c dir p (h + 1) (h + 1) h (h - 1) ∗ Rel (F := F) c dir p (h + 1) ∗ reached ER (kcell (back dir c) (.cr dir)) p)

include ho in
theorem rs_addM (dir : Bool) (h : ℕ) (hh : h + 1 < nh dir) :
    iprop(Glob I K KS ∗ Wt I c p dir h ∗ rsE I c p dir h)
      ⊢ WP c (addStep (printed c) (bOf p) dir h) (fun _ => iprop(Wu I c p dir h ∗ rsA I c p dir (h + 1))) := by
  have h16 := nh_le dir
  have h17 : ¬(dir = true ∧ h + 1 = 16) := by cases dir <;> simp [nh] at hh ⊢ <;> omega
  unfold Wt Wu rsE rsA
  rw [if_neg (show ¬(dir = true ∧ h = 15) by omega), if_neg (show ¬(dir = true ∧ h + 1 = 16) by omega), if_pos hh, sent_succ]
  iintro ⟨#HG, ⟨HGh, HR, Hcr⟩, ⟨H1, H2⟩, Hs⟩
  ihave H2 := (bs_cons hh (fun k => pend I c p dir k)) $$ H2
  icases H2 with ⟨Ho, H2⟩
  iapply wp_wand $$ [HR Ho Hs]
  · iapply (rs_add I K KS c p ho dir h (by omega) _ _)
    isplitr; · iexact HG
    isplitl [HR]; · iexact HR
    isplitl [Ho] <;> iassumption
  iintro %_ ⟨HR, Ho⟩
  isplitl [HGh HR Hcr]
  · isplitl [HGh]; · iexact HGh
    isplitl [HR] <;> iassumption
  isplitl [H1]; · iexact H1
  isplitl [Ho] <;> iassumption

include ho in
theorem rs_addE (dir : Bool) (h : ℕ) (hh : h + 1 = nh dir) (V : Blk F) (E' : sProp 𝕄) (hE : rsE I c p dir h ⊢ iprop(E' ∗ ownSlot c dir (sl h) (sent I (p / 2) dir (back dir c) h))) :
    iprop(Glob I K KS ∗ Wt I c p dir h ∗ rsE I c p dir h ∗ own c (bOf p) c fullShare V)
      ⊢ WP c (addStep (printed c) (bOf p) dir h)
        (fun _ => iprop(Wu I c p dir h ∗ E' ∗ own c (bOf p) c fullShare (addf V (sent I (p / 2) dir (back dir c) h)))) := by
  have hj : rsPos dir c (h + 1) = c := by rw [hh]; exact rsPos_last dir c
  have ha := rs_add I K KS c p ho dir h (by omega) V (sent I (p / 2) dir (back dir c) h)
  rw [hj] at ha
  unfold Wt Wu
  iintro ⟨#HG, ⟨HGh, HR, Hcr⟩, HE, Ho⟩
  ihave HE := hE $$ HE
  icases HE with ⟨HE, Hs⟩
  iapply wp_wand $$ [HR Ho Hs]
  · iapply ha
    isplitr; · iexact HG
    isplitl [HR]; · iexact HR
    isplitl [Ho] <;> iassumption
  iintro %_ ⟨HR, Ho⟩
  isplitl [HGh HR Hcr]
  · isplitl [HGh]; · iexact HGh
    isplitl [HR] <;> iassumption
  isplitl [HE] <;> iassumption

include hp in
/-- A credit given, but for the last one. -/
theorem rs_give (dir : Bool) (h : ℕ) (hh : h < nh dir) (X G : sProp 𝕄)
    (hX : X ⊢ iprop((if dir = true ∧ p % 2 = 1 ∧ h = 15 then grant (F := F) true (bOf p) (back dir c) else iprop(emp)) ∗ G)) :
    iprop(Glob I K KS ∗ OW (F := F) c (tC dir p h) ∗ Wu I c p dir h ∗ X)
      ⊢ WP c (giveCredit (printed c) dir) (fun _ => iprop(OW (F := F) c (tC dir p h + 1)
        ∗ (Gh I c dir p (h + 1) (h + 1) (h + 1) (h + 1 - 2) ∗ Rel (F := F) c dir p (h + 1)) ∗ G)) := by
  have hg := give_step I K KS c dir p hp (h + 1) (h - 1) h hh
  unfold Wu
  iintro ⟨#HG, HO, ⟨HGh, HR, Hcr⟩, HX⟩
  ihave HX := hX $$ HX
  icases HX with ⟨HX, HGG⟩
  iapply wp_wand $$ [HO HGh HR Hcr HX]
  · iapply hg
    isplitr; · iexact HG
    isplitl [HO]; · iexact HO
    isplitl [HGh]; · iexact HGh
    isplitl [HR]; · iexact HR
    isplitl [Hcr]; · iexact Hcr
    iexact HX
  iintro %_ ⟨HO, HGh, HR⟩
  isplitl [HO]; · iexact HO
  isplitr [HGG]
  · isplitl [HGh]; · iexact HGh
    iexact HR
  iexact HGG

include hp in
theorem rs_giveM (dir : Bool) (h : ℕ) (hh : h < nh dir) (hl : ¬(dir = true ∧ h = 15)) :
    iprop(Glob I K KS ∗ OW (F := F) c (tC dir p h) ∗ Wu I c p dir h ∗ rsA I c p dir (h + 1))
      ⊢ WP c (giveCredit (printed c) dir) (fun _ => iprop(OW (F := F) c (tC dir p h + 1) ∗ MM I c p (rsA I c p) dir (h + 1))) := by
  have hg := rs_give I K KS c p hp dir h hh (rsA I c p dir (h + 1)) (rsA I c p dir (h + 1)) (by
    rw [if_neg (show ¬(dir = true ∧ p % 2 = 1 ∧ h = 15) from fun x => hl ⟨x.1, x.2.2⟩)]
    iintro H; isplitr
    · iempintro
    · iexact H)
  unfold MM
  iintro H
  iapply wp_wand $$ [H]
  · iapply hg; iexact H
  iintro %_ ⟨HO, ⟨HGh, HR⟩, HA⟩
  isplitl [HO]; · iexact HO
  isplitl [HGh]; · iexact HGh
  isplitl [HR] <;> iassumption

/-- The own block's contents while hop `h` is in flight. -/
def ownAt (h : ℕ) : Blk F :=
  if h < 15 then Part I (p / 2) c c else addf (Part I (p / 2) c c) (sent I (p / 2) false (back false c) 14)

/-- The loop: hop `h` in flight. -/
def rsInv (h : ℕ) : sProp (MT nD τ sig ℕ (Elt F) ℕ UU ℕ) :=
  if h < 16 then
    iprop(OW (F := F) c (64 * (p + 1) + 4 * h + 2) ∗ FF I c p (rsB I c p) true h ∗ LF I c p (rsA I c p) (rsB I c p) h
      ∗ own c (bOf p) c fullShare (ownAt I c p h))
  else
    iprop(OW (F := F) c (64 * (p + 2)) ∗ (Gh I c true p 16 16 16 14 ∗ Rel (F := F) c true p 16) ∗ (Gh I c false p 15 15 15 13 ∗ Rel (F := F) c false p 15)
      ∗ own c (bOf p) c fullShare (Xs I (p / 2 + 1) c) ∗ grant (F := F) false (bOf p) c)

include hp ho in
/-- The shorter direction's part of a hop's end. -/
theorem rs_left (h : ℕ) (hl : h < 15) :
    iprop(Glob I K KS ∗ OW (F := F) c (tC false p h) ∗ Wt I c p false h ∗ rsE I c p false h ∗ own c (bOf p) c fullShare (ownAt I c p h))
      ⊢ WP c (addStep (printed c) (bOf p) false h >>= fun _ => giveCredit (printed c) false)
          (fun _ => iprop(OW (F := F) c (tC false p h + 1) ∗ MM I c p (rsA I c p) false (h + 1) ∗ own c (bOf p) c fullShare (ownAt I c p (h + 1)))) := by
  have hg := rs_giveM I K KS c p hp false h hl (by simp)
  by_cases hl' : h + 1 < 15
  · have ha := rs_addM I K KS c p ho false h hl'
    rw [show ownAt I c p h = ownAt I c p (h + 1) by unfold ownAt; rw [if_pos hl, if_pos hl']]
    iintro ⟨#HG, HO, HW, HE, Ho⟩
    iapply (bindF ha) $$ [HW HE]
    · isplitr; · iexact HG
      isplitl [HW] <;> iassumption
    iintro ⟨HW, HA⟩
    iapply wp_wand $$ [HO HW HA]
    · iapply hg
      isplitr; · iexact HG
      isplitl [HO]; · iexact HO
      isplitl [HW] <;> iassumption
    iintro %_ ⟨HO, HM⟩
    isplitl [HO]; · iexact HO
    isplitl [HM] <;> iassumption
  · obtain rfl : h = 14 := by omega
    have ha := rs_addE I K KS c p ho false 14 rfl (ownAt I c p 14) (rsA I c p false (14 + 1)) (by
      unfold rsE rsA
      rw [if_neg (show ¬(false = true ∧ 14 = 15) by simp), if_neg (show ¬(false = true ∧ 14 + 1 = 16) by simp), if_neg (show ¬14 + 1 < nh false by decide)]
      have e1 : Finset.Ico (14 + 1) (nh false) = ∅ := by decide
      have e2 : Finset.Ico (14 + 1 + 1) (nh false) = ∅ := by decide
      rw [e1, e2, bigSep_empty]
      iintro ⟨⟨H, -⟩, Hs⟩
      isplitl [H]
      · isplitl [H]; · iexact H
        isplitr <;> iempintro
      iexact Hs)
    have e : addf (ownAt I c p 14) (sent I (p / 2) false (back false c) 14) = ownAt I c p (14 + 1) := rfl
    rw [e] at ha
    iintro ⟨#HG, HO, HW, HE, Ho⟩
    iapply (bindF ha) $$ [HW HE Ho]
    · isplitr; · iexact HG
      isplitl [HW]; · iexact HW
      isplitl [HE] <;> iassumption
    iintro ⟨HW, HA, Ho⟩
    iapply wp_wand $$ [HO HW HA]
    · iapply hg
      isplitr; · iexact HG
      isplitl [HO]; · iexact HO
      isplitl [HW] <;> iassumption
    iintro %_ ⟨HO, HM⟩
    isplitl [HO]; · iexact HO
    isplitl [HM] <;> iassumption

include hp ho in
theorem rs_hop (h : ℕ) (hh : h < 16) :
    iprop(Glob I K KS ∗ rsInv I c p h)
      ⊢ WP c (rsHop (printed c) (bOf p) h) (fun _ => iprop(rsInv I c p (h + 1))) := by
  have hw := rs_wait I K KS c p hp ho true h (64 * (p + 1) + 4 * h + 2) hh (tS_lt _ _ _) (by omega)
  have e0 : tC true p h = 64 * (p + 1) + 4 * h + 2 := rfl
  unfold rsHop rsInv
  rw [if_pos hh]
  by_cases hl : h < 15
  · have hw' := rs_wait I K KS c p hp ho false h (64 * (p + 1) + 4 * h + 2) hl (tS_lt _ _ _) (by omega)
    have ha := rs_addM I K KS c p ho true h (show h + 1 < 16 by omega)
    have hg := rs_giveM I K KS c p hp true h hh (by omega)
    rw [e0] at hg
    have hg' := rs_left I K KS c p hp ho h hl
    have e1 : tC false p h = 64 * (p + 1) + 4 * h + 2 + 1 := rfl
    rw [e1, show 64 * (p + 1) + 4 * h + 2 + 1 + 1 = 64 * (p + 1) + 4 * (h + 1) by omega] at hg'
    rw [show Nat.blt h 15 = true from Nat.ble_eq_true_of_le hl, if_pos (show h + 1 < 16 by omega),
      show LF I c p (rsA I c p) (rsB I c p) h = FF I c p (rsB I c p) false h from if_pos hl]
    iintro ⟨#HG, HO, HF, HL, Ho⟩
    iapply (bindF hw) $$ [HO HF]
    · isplitr; · iexact HG
      isplitl [HO] <;> iassumption
    iintro ⟨HO, HW, HE⟩
    iapply (bindF (opt_true hw')) $$ [HO HL]
    · isplitr; · iexact HG
      isplitl [HO] <;> iassumption
    iintro ⟨HO, HW', HE'⟩
    iapply (bindF ha) $$ [HW HE]
    · isplitr; · iexact HG
      isplitl [HW] <;> iassumption
    iintro ⟨HW, HA⟩
    iapply (bindF hg) $$ [HO HW HA]
    · isplitr; · iexact HG
      isplitl [HO]; · iexact HO
      isplitl [HW] <;> iassumption
    iintro ⟨HO, HM⟩
    iapply (bindF (opt_true hg')) $$ [HO HW' HE' Ho]
    · isplitr; · iexact HG
      isplitl [HO]; · iexact HO
      isplitl [HW']; · iexact HW'
      isplitl [HE'] <;> iassumption
    iintro ⟨HO, HM', Ho⟩
    iapply wp_wand $$ [HO HM HM']
    · iapply (opt_true (start_step I K KS c p hp (rsA I c p) (rsB I c p) (rsSend (printed c) (bOf p))
        (rs_hsend I K KS c p hp ho) (h + 1) (by omega)))
      isplitr; · iexact HG
      isplitl [HO]; · iexact HO
      isplitl [HM] <;> iassumption
    iintro %_ ⟨HO, HF, HL⟩
    isplitl [HO]; · iexact HO
    isplitl [HF]; · iexact HF
    isplitl [HL] <;> iassumption
  · obtain rfl : h = 15 := by omega
    rw [if_neg (show ¬15 + 1 < 16 by omega), show Nat.blt 15 15 = false from rfl,
      show LF I c p (rsA I c p) (rsB I c p) 15 = MM I c p (rsA I c p) false 15 from if_neg hl]
    have ha := rs_addE I K KS c p ho true 15 rfl (ownAt I c p 15) (iprop(junk (F := F) c p true 0 ∗ grant (F := F) false (bOf p) c)) (by
      unfold rsE
      rw [if_pos ⟨rfl, rfl⟩])
    have e : addf (ownAt I c p 15) (sent I (p / 2) true (back true c) 15) = Xs I (p / 2 + 1) c := by rw [Xs_succ]; rfl
    rw [e] at ha
    have hA : rsA I c p false 15 ⊢ bigSep (Finset.range 15) (fun k => junk (F := F) c p false k) := by
      unfold rsA
      rw [if_neg (show ¬(false = true ∧ 15 = 16) by simp)]
      iintro ⟨H, -⟩; iexact H
    have hg := rs_give I K KS c p hp true 15 hh
      (iprop(junk (F := F) c p true 0 ∗ bigSep (Finset.range 15) (fun k => junk (F := F) c p false k))) (iprop(emp)) (by
        rw [if_pos ⟨rfl, ho, rfl⟩, grant_true]
        iintro H
        isplitl [H]
        · iexact H
        · iempintro)
    rw [e0] at hg
    unfold MM
    iintro ⟨#HG, HO, HF, ⟨HGl, HRl, HAl⟩, Ho⟩
    iapply (bindF hw) $$ [HO HF]
    · isplitr; · iexact HG
      isplitl [HO] <;> iassumption
    iintro ⟨HO, HW, HE⟩
    iapply (bindF opt_skip) $$ []
    · iempintro
    iintro -
    iapply (bindF ha) $$ [HW HE Ho]
    · isplitr; · iexact HG
      isplitl [HW]; · iexact HW
      isplitl [HE] <;> iassumption
    iintro ⟨HW, ⟨Hj, Hg⟩, Ho⟩
    ihave HAl := hA $$ HAl
    iapply (bindF hg) $$ [HO HW Hj HAl]
    · isplitr; · iexact HG
      isplitl [HO]; · iexact HO
      isplitl [HW]; · iexact HW
      isplitl [Hj] <;> iassumption
    iintro ⟨HO, HGr, -⟩
    ihave HO := (OW_skip (F := F) c (64 * (p + 1) + 4 * 15 + 2 + 1) (by omega) (evT_skip c p 63 (Or.inr rfl))) $$ HO
    iapply (bindF opt_skip) $$ []
    · iempintro
    iintro -
    iapply wp_wand $$ []
    · iapply opt_skip; iempintro
    iintro %_ -
    isplitl [HO]; · iexact HO
    isplitl [HGr]; · iexact HGr
    isplitl [HGl HRl]
    · isplitl [HGl]; · iexact HGl
      iexact HRl
    isplitl [Ho]; · iexact Ho
    iexact Hg

include hp ho in
/-- The reduce-scatter. -/
theorem rs_spec :
    iprop(Glob I K KS ∗ OW (F := F) c (64 * (p + 1)) ∗ (Ne I c true p ∗ Tk (F := F) c true p 0 0 0 0) ∗ (Ne I c false p ∗ Tk (F := F) c false p 0 0 0 0)
        ∗ bigSep Finset.univ (fun j => own c (bOf p) j fullShare (Part I (p / 2) c j)))
      ⊢ WP c (rsPhase (printed c) (bOf p)) (fun _ => iprop(OW (F := F) c (64 * (p + 2)) ∗ Ne I c true (p + 1) ∗ Ne I c false (p + 1)
          ∗ own c (bOf p) c fullShare (Xs I (p / 2 + 1) c) ∗ grant (F := F) true (bOf p) c ∗ grant (F := F) false (bOf p) c)) := by
  have hstart := start_step I K KS c p hp (rsA I c p) (rsB I c p) (rsSend (printed c) (bOf p)) (rs_hsend I K KS c p hp ho) 0 (by omega)
  have hA : ∀ dir n, n = nh dir → bigSep (Finset.range n) (fun k => pend I c p dir k) ⊢ rsA I c p dir 0 := by
    rintro dir n rfl
    unfold rsA
    have hn : 0 < nh dir := by cases dir <;> decide
    rw [if_neg (show ¬(dir = true ∧ 0 = 16) by omega), if_pos hn, Finset.range_zero, bigSep_empty, bs_range, sent_zero]
    iintro H
    ihave H := (bs_cons hn (fun k => pend I c p dir k)) $$ H
    icases H with ⟨H1, H2⟩
    isplitr; · iempintro
    isplitl [H1] <;> iassumption
  have hloop := loop_spec (c := c) (fun h => iprop(Glob I K KS ∗ rsInv I c p h)) (rsHop (printed c) (bOf p)) 16 0 (fun k _ hk => by
    iintro ⟨#HG, H⟩
    iapply wp_wand $$ [H]
    · iapply (rs_hop I K KS c p hp ho k (by omega))
      isplitr; · iexact HG
      iexact H
    iintro %_ H
    isplitr; · iexact HG
    iexact H)
  have hI : rsInv I c p 0 = iprop(OW (F := F) c (64 * (p + 1) + 4 * 0 + 2) ∗ FF I c p (rsB I c p) true 0 ∗ LF I c p (rsA I c p) (rsB I c p) 0
      ∗ own c (bOf p) c fullShare (Part I (p / 2) c c)) := if_pos (by omega)
  have hI' : rsInv I c p 16 = iprop(OW (F := F) c (64 * (p + 2)) ∗ (Gh I c true p 16 16 16 14 ∗ Rel (F := F) c true p 16) ∗ (Gh I c false p 15 15 15 13 ∗ Rel (F := F) c false p 15)
      ∗ own c (bOf p) c fullShare (Xs I (p / 2 + 1) c) ∗ grant (F := F) false (bOf p) c) := if_neg (by omega)
  have hd := drain_spec I K KS c p hp
  rw [if_pos ho] at hd
  unfold rsPhase
  rw [split_rs c (fun j => own c (bOf p) j fullShare (Part I (p / 2) c j))]
  iintro ⟨#HG, HO, HNr, HNl, Ho, Hr, Hl⟩
  ihave HNr := (Ne_open I c p true) $$ HNr
  icases HNr with ⟨HGr, HRr⟩
  ihave HNl := (Ne_open I c p false) $$ HNl
  icases HNl with ⟨HGl, HRl⟩
  ihave Hr := (hA true 16 rfl) $$ Hr
  ihave Hl := (hA false 15 rfl) $$ Hl
  iapply (bindF hstart) $$ [HO HGr HRr HGl HRl Hl Hr]
  · unfold MM
    isplitr; · iexact HG
    isplitl [HO]; · iexact HO
    isplitl [HGr HRr Hr]
    · isplitl [HGr]; · iexact HGr
      isplitl [HRr] <;> iassumption
    · isplitl [HGl]; · iexact HGl
      isplitl [HRl] <;> iassumption
  iintro ⟨HO, HF, HL⟩
  iapply (bindF hloop) $$ [HO HF HL Ho]
  · isplitr; · iexact HG
    iapply (Entails.of_eq hI.symm)
    isplitl [HO]; · iexact HO
    isplitl [HF]; · iexact HF
    isplitl [HL] <;> iassumption
  iintro ⟨-, HI⟩
  ihave HI := (Entails.of_eq hI') $$ HI
  icases HI with ⟨HO, HGr, HGl, Ho, Hg⟩
  iapply wp_wand $$ [HO HGr HGl]
  · iapply hd
    isplitr; · iexact HG
    isplitl [HO]; · iexact HO
    isplitl [HGr] <;> iassumption
  iintro %_ ⟨HO, HNr, HNl, Hgt⟩
  isplitl [HO]; · iexact HO
  isplitl [HNr]; · iexact HNr
  isplitl [HNl]; · iexact HNl
  isplitl [Ho]; · iexact Ho
  isplitl [Hgt] <;> iassumption

end

end Cert.KernelIdeal.Pf

end
-- ==== Proof.Ideal.Layer.lean ====
/-
# A layer, and the body without its entry and its exit
-/
module

public import proofs.«01_k».proof.Proof.Ideal.Scatter
public import Idealize.ShloMosaic.Lib.VecWindow

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section

variable (c : Dev nD)

/-- A whole buffer read. -/
theorem ldw_spec {s : Shape} (m : Memref sig .tc .vmem s .f32) (off : Fin s.rank → ℕ) (inb : ∀ a, off a + s.size a ≤ s.size a)
    (hl : m.view.LoadsAt (Rect.unit off s.size inb).toLoadRect) (X : s.Idx → Elt F .f32) :
    owns (c : Thread nD τ) m fullShare X
      ⊢ WP c (Prog.lift (E := TpuEff nD τ sig (Elt F) Λ₀ .tc) (.load m (Rect.unit off s.size inb).toLoadRect hl))
          (fun v => iprop(⌜v = X⌝ ∗ owns (c : Thread nD τ) m fullShare X)) := by
  have hS : m.view.setOn (Rect.unit off s.size inb).toLoadRect.set ⊆ m.view.set := Finset.map_subset_map.mpr (Finset.subset_univ _)
  have hr := fun f => wp_load (defs := defs₀ (F := F)) (Γ := .empty) (Ix := ℕ) (Name := ℕ) (U := UU) (Lvl := ℕ) (k := fun v => .ret v)
    (Q := fun v => iprop(⌜v = X⌝ ∗ owns (c : Thread nD τ) m fullShare X)) (hl := hl) (q := fullShare) (f := f) 𝒱₀ (c : Thread nD τ) none Set.univ hS
  unfold owns at hr ⊢
  iintro ⟨%f, %hf, H⟩
  iapply (hr f) $$ H
  iintro H
  rw [wp_ret]
  imodintro
  isplitr
  · ipureintro; rw [View.readAt_full]; exact hf
  · iexists f; isplitr
    · ipureintro; exact hf
    · iexact H

/-- The two weights of a layer, staged. -/
def wts (l : Fin 3) : sProp (MT nD τ sig ℕ (Elt F) ℕ UU ℕ) :=
  iprop(owns (c : Thread nD τ) (winM l) fullShare (I.wi l.val c) ∗ owns (c : Thread nD τ) (woutM l) fullShare (I.wo l.val c))

theorem ldIn_spec (l : Fin 3) (X : FVec F S256x512 .f32) : owns (c : Thread nD τ) (winM l) fullShare X
    ⊢ WP c (ldIn l) (fun v => iprop(⌜v = X⌝ ∗ owns (c : Thread nD τ) (winM l) fullShare X)) := ldw_spec c (winM l) _ _ _ X
theorem ldOut_spec (l : Fin 3) (X : FVec F S512x256 .f32) : owns (c : Thread nD τ) (woutM l) fullShare X
    ⊢ WP c (ldOut l) (fun v => iprop(⌜v = X⌝ ∗ owns (c : Thread nD τ) (woutM l) fullShare X)) := ldw_spec c (woutM l) _ _ _ X

/-- Between phases: what the phases from `p` on are run with. -/
def NT (p : ℕ) : sProp (MT nD τ sig ℕ (Elt F) ℕ UU ℕ) :=
  iprop(Ne I c true p ∗ Ne I c false p
    ∗ bigSep (Finset.Ico p 7) (fun q => iprop(Tk (F := F) c true q 0 0 0 0 ∗ Tk (F := F) c false q 0 0 0 0)))

theorem NT_open (p : ℕ) (hp : p < 7) :
    NT I c p ⊢ iprop((Ne I c true p ∗ Tk (F := F) c true p 0 0 0 0) ∗ (Ne I c false p ∗ Tk (F := F) c false p 0 0 0 0)
      ∗ bigSep (Finset.Ico (p + 1) 7) (fun q => iprop(Tk (F := F) c true q 0 0 0 0 ∗ Tk (F := F) c false q 0 0 0 0))) := by
  unfold NT
  iintro ⟨H1, H2, H⟩
  ihave H := (bs_cons hp (fun q => iprop(Tk (F := F) c true q 0 0 0 0 ∗ Tk (F := F) c false q 0 0 0 0))) $$ H
  icases H with ⟨⟨Ht, Hf⟩, H⟩
  isplitl [H1 Ht]
  · isplitl [H1] <;> iassumption
  isplitl [H2 Hf]
  · isplitl [H2] <;> iassumption
  iexact H

/-- The blocks of buffer `b`, all at known contents. -/
abbrev ownAll (b : Fin 3) (X : Dev nD → Blk F) : sProp (MT nD τ sig ℕ (Elt F) ℕ UU ℕ) :=
  bigSep Finset.univ (fun j => own c b j fullShare (X j))
abbrev ownxAll (b : Fin 3) : sProp (MT nD τ sig ℕ (Elt F) ℕ UU ℕ) := bigSep Finset.univ (fun j => ownx (F := F) c b j)

theorem ownAll_ownx (b : Fin 3) (X : Dev nD → Blk F) : ownAll c b X ⊢ ownxAll (F := F) c b :=
  bigSep_mono fun j _ => own_ownx b j (X j)

/-- What a layer starts and ends with, its input in buffer `b`. -/
def Lay (l : ℕ) (b : Fin 3) : sProp (MT nD τ sig ℕ (Elt F) ℕ UU ℕ) :=
  iprop(OW (F := F) c (64 * (2 * l + 1)) ∗ NT I c (2 * l) ∗ own c b c fullShare (Xs I l c)
    ∗ grant (F := F) true b c ∗ grant (F := F) false b c)

theorem layer_spec (l : Fin 3) (b b' : Fin 3) (hb : bOf (2 * l.val) = b) (hb' : bOf (2 * l.val + 1) = b') :
    iprop(Glob I K KS ∗ Lay I c l.val b ∗ wts I c l ∗ ownxAll (F := F) c b')
      ⊢ WP c (layer (printed c) l b b') (fun _ => iprop(Lay I c (l.val + 1) b' ∗ wts I c l ∗ ownAll c b (Xs I l.val))) := by
  have hl := l.isLt
  have e1 : 2 * l.val / 2 = l.val := by omega
  have e2 : (2 * l.val + 1) / 2 = l.val := by omega
  have hag := ag_spec I K KS c (2 * l.val) (by omega) (by omega) (fun j => ownx (F := F) c b' j) (fun j => own c b' j fullShare (Part I l.val c j))
    (onChunk b b' (I.wi l.val c) (I.wo l.val c)) (fun j q => by
      rw [hb, e1]
      exact onChunk_spec b b' (I.wi l.val c) (I.wo l.val c) j q (Xs I l.val j))
  rw [hb, e1] at hag
  have hrs := rs_spec I K KS c (2 * l.val + 1) (by omega) (by omega)
  rw [hb', e2] at hrs
  unfold layer Lay wts
  iintro ⟨#HG, ⟨HO, HN, Ho, Hgt, Hgf⟩, ⟨Hwi, Hwo⟩, Hx⟩
  ihave HN := (NT_open I c (2 * l.val) (by omega)) $$ HN
  icases HN with ⟨HNt, HNf, HT⟩
  ihave HT := (bs_cons (show 2 * l.val + 1 < 7 by omega) (fun q => iprop(Tk (F := F) c true q 0 0 0 0 ∗ Tk (F := F) c false q 0 0 0 0))) $$ HT
  icases HT with ⟨⟨HTt, HTf⟩, HT⟩
  iapply (bindV (ldIn_spec c l (I.wi l.val c))) $$ Hwi
  iintro Hwi
  iapply (bindV (ldOut_spec c l (I.wo l.val c))) $$ Hwo
  iintro Hwo
  rw [shapeCast_self, shapeCast_self]
  iapply (bindF hag) $$ [HO HNt HNf Ho Hgt Hgf Hx]
  · isplitr; · iexact HG
    isplitl [HO]; · iexact HO
    isplitl [HNt]; · iexact HNt
    isplitl [HNf]; · iexact HNf
    isplitl [Ho]; · iexact Ho
    isplitl [Hgt]; · iexact Hgt
    isplitl [Hgf]; · iexact Hgf
    iexact Hx
  iintro ⟨HO, HNt, HNf, HX, HP⟩
  iapply wp_wand $$ [HO HNt HNf HTt HTf HP]
  · iapply hrs
    isplitr; · iexact HG
    isplitl [HO]; · iexact HO
    isplitl [HNt HTt]
    · isplitl [HNt] <;> iassumption
    isplitl [HNf HTf]
    · isplitl [HNf] <;> iassumption
    iexact HP
  iintro %_ ⟨HO, HNt, HNf, Ho, Hgt, Hgf⟩
  isplitl [HO HNt HNf HT Ho Hgt Hgf]
  · isplitl [HO]; · iexact HO
    isplitl [HNt HNf HT]
    · unfold NT
      isplitl [HNt]; · iexact HNt
      isplitl [HNf]; · iexact HNf
      iexact HT
    isplitl [Ho]; · iexact Ho
    isplitl [Hgt] <;> iassumption
  isplitl [Hwi Hwo]
  · isplitl [Hwi] <;> iassumption
  iexact HX

theorem last_spec :
    iprop(Glob I K KS ∗ Lay I c 3 2)
      ⊢ WP c (agPhase (printed c) 2 (fun _ => pure ⟨⟩)) (fun _ => iprop(OW (F := F) c 512 ∗ NT I c 7 ∗ ownAll c 2 (Xs I 3))) := by
  have hag := ag_spec I K KS c 6 (by omega) (by omega) (fun j => iprop(emp)) (fun j => iprop(emp)) (fun _ => pure ⟨⟩) (fun j q =>
    ret_intro (F := F) (c := c) (Q := fun _ => iprop(own c (bOf 6) j q (Xs I (6 / 2) j) ∗ emp)) PUnit.unit)
  unfold Lay
  iintro ⟨#HG, HO, HN, Ho, Hgt, Hgf⟩
  ihave HN := (NT_open I c (2 * 3) (by omega)) $$ HN
  icases HN with ⟨HNt, HNf, HT⟩
  iapply wp_wand $$ [HO HNt HNf Ho Hgt Hgf]
  · iapply hag
    isplitr; · iexact HG
    isplitl [HO]; · iexact HO
    isplitl [HNt]; · iexact HNt
    isplitl [HNf]; · iexact HNf
    isplitl [Ho]; · iexact Ho
    isplitl [Hgt]; · iexact Hgt
    isplitl [Hgf]; · iexact Hgf
    iapply (Entails.of_eq (bigSep_emp_const Finset.univ).symm); iempintro
  iintro %_ ⟨HO, HNt, HNf, HX, -⟩
  isplitl [HO]; · iexact HO
  isplitl [HNt HNf HT]
  · unfold NT
    isplitl [HNt]; · iexact HNt
    isplitl [HNf]; · iexact HNf
    iexact HT
  iexact HX

/-- All the layers, and the last gather. -/
theorem layers_spec :
    iprop(Glob I K KS ∗ Lay I c 0 0 ∗ (wts I c 0 ∗ wts I c 1 ∗ wts I c 2) ∗ ownxAll (F := F) c 1 ∗ ownxAll (F := F) c 2)
      ⊢ WP c (layer (printed c) 0 0 1 >>= fun _ => layer (printed c) 1 1 0 >>= fun _ => layer (printed c) 2 0 2 >>= fun _ =>
          agPhase (printed c) 2 (fun _ => pure ⟨⟩))
          (fun _ => iprop(OW (F := F) c 512 ∗ NT I c 7 ∗ (wts I c 0 ∗ wts I c 1 ∗ wts I c 2)
            ∗ ownxAll (F := F) c 0 ∗ ownxAll (F := F) c 1 ∗ ownAll c 2 (Xs I 3))) := by
  have h0 := layer_spec I K KS c 0 0 1 rfl rfl
  have h1 := layer_spec I K KS c 1 1 0 rfl rfl
  have h2 := layer_spec I K KS c 2 0 2 rfl rfl
  iintro ⟨#HG, HL, ⟨Hw0, Hw1, Hw2⟩, Hx1, Hx2⟩
  iapply (bindF h0) $$ [HL Hw0 Hx1]
  · isplitr; · iexact HG
    isplitl [HL]; · iexact HL
    isplitl [Hw0] <;> iassumption
  iintro ⟨HL, Hw0, HX0⟩
  ihave HX0 := (ownAll_ownx c 0 _) $$ HX0
  iapply (bindF h1) $$ [HL Hw1 HX0]
  · isplitr; · iexact HG
    isplitl [HL]; · iexact HL
    isplitl [Hw1] <;> iassumption
  iintro ⟨HL, Hw1, HX1⟩
  iapply (bindF h2) $$ [HL Hw2 Hx2]
  · isplitr; · iexact HG
    isplitl [HL]; · iexact HL
    isplitl [Hw2] <;> iassumption
  iintro ⟨HL, Hw2, HX0⟩
  iapply wp_wand $$ [HL]
  · iapply (last_spec I K KS c)
    isplitr; · iexact HG
    iexact HL
  iintro %_ ⟨HO, HN, HX2⟩
  isplitl [HO]; · iexact HO
  isplitl [HN]; · iexact HN
  isplitl [Hw0 Hw1 Hw2]
  · isplitl [Hw0]; · iexact Hw0
    isplitl [Hw1] <;> iassumption
  isplitl [HX0]
  · iapply (ownAll_ownx c 0 _); iexact HX0
  isplitl [HX1]
  · iapply (ownAll_ownx c 1 _); iexact HX1
  iexact HX2

end

end Cert.KernelIdeal.Pf

end
-- ==== Proof.Ideal.Entry.lean ====
/-
# The entry: the first releases, the handshake, the device's block of the input
-/
module

public import proofs.«01_k».proof.Proof.Ideal.Layer

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section

variable (c : Dev nD)

/-- What a direction's landing side starts with, by parity. -/
def D0 (dir : Bool) : sProp (MT nD τ sig ℕ (Elt F) ℕ UU ℕ) :=
  bigSep Finset.univ fun s : Fin 2 => iprop((atPos ER (kcell c (.ss dir s)) 0 ∅ 0 ∗ atPos ER (kcell c (.rs dir s)) 0 ∅ 0)
    ∗ Release.readerAt EL ((c, dir, s) : KK) 0 ∗ slotRes (F := F) (c, dir, s))

theorem posS_zero (dir : Bool) (s : Fin 2) : posS dir 0 0 s = 0 := by unfold posS; have := s.isLt; omega
theorem relS_zero (dir : Bool) (s : Fin 2) : relS dir 0 0 s = 0 := by unfold relS; simp

/-- Its slots released for the first time. -/
theorem D0_open (dir : Bool) :
    iprop(Glob I K KS ∗ D0 (F := F) c dir) ⊢ |={Set.univ}=> iprop(Pos (F := F) c dir 0 0 ∗ Rel (F := F) c dir 0 0) := by
  unfold D0 Pos Rel pos1 rel1
  rw [bs_two, bs_two, bs_two, posS_zero, posS_zero, relS_zero, relS_zero]
  iintro ⟨#HG, ⟨⟨Hs0, Hr0⟩, Ha0, HS0⟩, ⟨Hs1, Hr1⟩, Ha1, HS1⟩
  imod (Release.slot_release EL (ι := KS (c, dir, 0)) (Set.mem_univ _) (slot_excl (c, dir, 0)) 0) $$ [Ha0 HS0] with ⟨Ha0, Hl0⟩
  · isplitr; · iapply (Glob_slot I K KS (c, dir, 0)); iexact HG
    isplitl [Ha0] <;> iassumption
  imod (Release.slot_release EL (ι := KS (c, dir, 1)) (Set.mem_univ _) (slot_excl (c, dir, 1)) 0) $$ [Ha1 HS1] with ⟨Ha1, Hl1⟩
  · isplitr; · iapply (Glob_slot I K KS (c, dir, 1)); iexact HG
    isplitl [Ha1] <;> iassumption
  imodintro
  isplitl [Hs0 Hr0 Hs1 Hr1]
  · isplitl [Hs0 Hr0]
    · isplitl [Hs0]
      · isplitl [Hs0]; · iexact Hs0
        iapply (Glob_reached I K KS c (.ss dir 0)); iexact HG
      · isplitl [Hr0]; · iexact Hr0
        iapply (Glob_reached I K KS c (.rs dir 0)); iexact HG
    · isplitl [Hs1]
      · isplitl [Hs1]; · iexact Hs1
        iapply (Glob_reached I K KS c (.ss dir 1)); iexact HG
      · isplitl [Hr1]; · iexact Hr1
        iapply (Glob_reached I K KS c (.rs dir 1)); iexact HG
  · isplitl [Ha0 Hl0]
    · isplitl [Ha0] <;> iassumption
    · isplitl [Ha1] <;> iassumption

/-- What the handshake is paid with, and waits with. -/
def Hs0 : sProp (MT nD τ sig ℕ (Elt F) ℕ UU ℕ) :=
  iprop(atPos ER (kcell c .bar) 0 ∅ 0 ∗ dutyTok ER (kcell (peer false c) .bar) 0 1 ∗ dutyTok ER (kcell (peer true c) .bar) 0 0
    ∗ cred (tallyAt (kcell c .bar) 2 1) ∗ cred (tallyAt (kcell c .bar) 3 1))

theorem sig_eq (d e : Dev nD) (he : d = e) : (semSignalWord d bsem 1#32 : PR F PUnit) = .op (.semSignal (e : Thread nD τ) bsem 1) .ret := by
  subst he; rfl
theorem barWait_eq : (semWaitWord bsem 2#32 : PR F PUnit) = .op (.semWait bsem 2) .ret := rfl

theorem peer_false (c : Dev nD) : peer false c = back true c := rfl
theorem peer_true (c : Dev nD) : peer true c = back false c := rfl

/-- The own blocks of the first buffer, dealt to the two neighbours. -/
theorem deal (b : Fin 3) : ownxAll (F := F) c b
    ⊢ iprop(ownx (F := F) c b c ∗ grant (F := F) true b (peer false c) ∗ grant (F := F) false b (peer true c)) := by
  have e15 : bigSep (Finset.Ico (0 + 1) 16) (fun k => ownx (F := F) c b (rsPos true c k))
      = iprop(ownx (F := F) c b (rsPos true c 15) ∗ bigSep (Finset.Ico 1 15) (fun k => ownx (F := F) c b (rsPos true c k))) := by
    rw [show Finset.Ico (0 + 1) 16 = insert 15 (Finset.Ico 1 15) by decide, bigSep_insert (by decide)]
    rfl
  unfold ownxAll
  rw [split_rs c (fun j => ownx (F := F) c b j), grant_false, peer_false, grant_true, bs_range, show Finset.range 15 = Finset.range (14 + 1) from rfl]
  iintro ⟨Hc, Hr, Hl⟩
  ihave Hr := (bs_cons (show 0 < 16 by omega) (fun k => ownx (F := F) c b (rsPos true c k))) $$ Hr
  icases Hr with ⟨H0, Hr⟩
  ihave Hr := (Entails.of_eq e15) $$ Hr
  icases Hr with ⟨H15, Hr⟩
  isplitl [Hc]; · iexact Hc
  isplitl [H0 Hl]
  · isplitl [H0] <;> iassumption
  · isplitl [H15] <;> iassumption

theorem handshake_spec :
    iprop(Glob I K KS ∗ OW (F := F) c 2 ∗ Hs0 (F := F) c ∗ (grant (F := F) true 0 (peer false c) ∗ tells (F := F) true c 0 0)
        ∗ (grant (F := F) false 0 (peer true c) ∗ tells (F := F) false c 0 0))
      ⊢ WP c (handshake (printed c)) (fun _ => iprop(OW (F := F) c 64 ∗ atPos ER (kcell c .bar) (0 + 1) ∅ 0 ∗ payB (F := F) c true ∗ payB (F := F) c false)) := by
  have hs1 := signal_one I K KS c (peer false c) .bar bsem rfl 0 1 2 (by decide) rfl rfl (by omega)
  have hs2 := signal_one I K KS c (peer true c) .bar bsem rfl 0 0 3 (by decide) rfl rfl (by omega)
  have hp1 : kpay I (peer false c) .bar 1 = iprop(grant (F := F) true 0 (peer false c) ∗ tells (F := F) true c 0 0) := by
    show iprop(grant (F := F) true 0 (peer false c) ∗ tells (F := F) true (peer true (back true c)) 0 0) = _
    rw [peer_back]
  have hp2 : kpay I (peer true c) .bar 0 = iprop(grant (F := F) false 0 (peer true c) ∗ tells (F := F) false c 0 0) := by
    show iprop(grant (F := F) false 0 (peer true c) ∗ tells (F := F) false (peer false (back false c)) 0 0) = _
    rw [peer_back]
  rw [hp1] at hs1
  rw [hp2] at hs2
  have hex : (Rd I).expect ((c : Thread nD τ), semOf .bar) 0 = 2 := by
    show (Rd I).expect (kcell c .bar) 0 = 2
    unfold Schedule.expect Schedule.amountOf
    rw [Rd_duties, Finset.sum_congr rfl (fun d _ => Rd_amount I c .bar 0 d)]; rfl
  have hpay : bigSep ((Rd I).duties ((c : Thread nD τ), semOf .bar) 0 \ ∅) (fun d => (Rd I).payload ((c : Thread nD τ), semOf .bar) 0 d)
      ⊢ iprop(payB (F := F) c true ∗ payB (F := F) c false) := by
    have e : (Rd I).duties ((c : Thread nD τ), semOf .bar) 0 \ ∅ = {0, 1} := by
      rw [Finset.sdiff_empty]; exact (Rd_duties I c .bar 0).trans rfl
    rw [e, bigSep_insert (by decide), bigSep_singleton]
    rw [show (Rd I).payload ((c : Thread nD τ), semOf .bar) 0 0 = payB (F := F) c false from Rd_payload I c .bar 0 0,
      show (Rd I).payload ((c : Thread nD τ), semOf .bar) 0 1 = payB (F := F) c true from Rd_payload I c .bar 0 1]
    exact sep_swap
  have hcr : (cred (tallyOn (kcell c .bar) (Finsupp.single 2 1 + Finsupp.single 3 1)) : sProp 𝕄)
      = iprop(cred (tallyAt (kcell c .bar) 2 1) ∗ cred (tallyAt (kcell c .bar) 3 1)) := by
    rw [tallyOn_add]
    exact BI.Entails.antisymm (cred_add _ _).1 (cred_add _ _).2
  have hskip : ∀ n, n ≤ 60 → OW (F := F) c 4 ⊢ OW (F := F) c (4 + n) := by
    intro n
    induction n with
    | zero => intro _; exact BI.Entails.refl _
    | succ n ih => intro hn; exact (ih (by omega)).trans (OW_skip (F := F) c (4 + n) (by omega) (evT_low c (4 + n) (by omega) (by omega)))
  unfold handshake Hs0
  rw [sig_eq _ _ (pv_eq c), sig_eq _ _ (nx_eq c), barWait_eq]
  iintro ⟨#HG, HO, ⟨Hat, Ht1, Ht0, Hc2, Hc3⟩, H1, H2⟩
  iapply (bindF hs1) $$ [HO Ht1 H1]
  · isplitr; · iexact HG
    isplitl [HO]; · iexact HO
    isplitl [Ht1]; · iexact Ht1
    isplitl [H1]; · iexact H1
    iapply (Glob_reached I K KS (peer false c) .bar); iexact HG
  iintro HO
  iapply (bindF hs2) $$ [HO Ht0 H2]
  · isplitr; · iexact HG
    isplitl [HO]; · iexact HO
    isplitl [Ht0]; · iexact Ht0
    isplitl [H2]; · iexact H2
    iapply (Glob_reached I K KS (peer true c) .bar); iexact HG
  iintro HO
  ihave HO := (show OW (F := F) c (3 + 1) ⊢ iprop(∃ W, owes (c : Thread nD τ) (OT c 4) W) from BI.Entails.refl _) $$ HO
  icases HO with ⟨%W, HO⟩
  iapply (Rounds.wp_wait_rest 𝒱₀ ER (Rd I) (c : Thread nD τ) none (κ := K (c, .bar)) (sm := semOf .bar) (k' := 2) (k := fun v => .ret v)
    (wpE_semWait_eq 𝒱₀ (c : Thread nD τ) none Set.univ) (Set.mem_univ _)
    (cr := Finsupp.single 2 1 + Finsupp.single 3 1) (O := OT c 4) (W := W)
    {(semOf .bar, 2), (semOf .bar, 3)} (R := 0) (m := 0) (T := ∅)
    (by rw [hex])
    (by rw [Util.total_add, Util.total_single, Util.total_single])
    (by
      intro x hx
      obtain ⟨i, hi, rfl⟩ := Finset.mem_image.mp hx
      rcases Finset.mem_union.mp (Finsupp.support_add hi) with h | h
      · rw [Finset.mem_singleton.mp (Finsupp.support_single_subset h)]
        exact Finset.mem_insert_self _ _
      · rw [Finset.mem_singleton.mp (Finsupp.support_single_subset h)]
        exact Finset.mem_insert_of_mem (Finset.mem_singleton_self _))) $$ [Hc2 Hc3 HO Hat]
  · isplitr; · iapply (Glob_cell I K KS c .bar); iexact HG
    isplitl [Hc2 Hc3]
    · iapply (Entails.of_eq hcr.symm)
      isplitl [Hc2] <;> iassumption
    isplitl [HO]; · iexact HO
    isplitr
    · iapply (@mayOweG F _ I K KS c 4 _ (by
        intro x hx
        rcases Finset.mem_insert.mp hx with rfl | hx
        · show 2 < 4; omega
        · rw [Finset.mem_singleton.mp hx]; show 3 < 4; omega) (by omega) (by omega)); iexact HG
    iexact Hat
  iintro ⟨HO, Hat, -, HS⟩
  rw [wp_ret]; imodintro
  ihave HS := hpay $$ HS
  icases HS with ⟨Hp1, Hp0⟩
  isplitl [HO]
  · iapply (hskip 60 (by omega))
    unfold OW
    iexists _; iexact HO
  isplitl [Hat]; · iexact Hat
  isplitl [Hp1] <;> iassumption

theorem ldX_spec (X : Blk F) : owns (c : Thread nD τ) (Memref.whole cc0_stg0_0 : Memref sig .tc .vmem S256x256 .f32) fullShare X
    ⊢ WP c ldX (fun v => iprop(⌜v = X⌝ ∗ owns (c : Thread nD τ) (Memref.whole cc0_stg0_0 : Memref sig .tc .vmem S256x256 .f32) fullShare X)) :=
  ldw_spec c (Memref.whole cc0_stg0_0 : Memref sig .tc .vmem S256x256 .f32) _ _ _ X

theorem init_spec :
    iprop(owns (c : Thread nD τ) (Memref.whole cc0_stg0_0 : Memref sig .tc .vmem S256x256 .f32) fullShare (I.x c) ∗ ownx (F := F) c 0 c)
      ⊢ WP c (init (printed c)) (fun _ => iprop(owns (c : Thread nD τ) (Memref.whole cc0_stg0_0 : Memref sig .tc .vmem S256x256 .f32) fullShare (I.x c)
          ∗ own c 0 c fullShare (Xs I 0 c))) := by
  unfold init
  rw [own_eq]
  iintro ⟨Hx, ⟨%w, H⟩⟩
  iapply (bindV (ldX_spec c (I.x c))) $$ Hx
  iintro Hx
  iapply (bindV (ld_spec 0 c fullShare w)) $$ H
  iintro H
  rw [shapeCast_self, shapeCast_self]
  ihave H := (own_ownx 0 c w) $$ H
  iapply wp_wand $$ [H]
  · iapply (st_spec 0 c (I.x c)); iexact H
  iintro %_ H
  isplitl [Hx]; · iexact Hx
  iexact H

/-- What a direction starts with beside. -/
def Cr0 (dir : Bool) : sProp (MT nD τ sig ℕ (Elt F) ℕ UU ℕ) := atPos ER (kcell c (.cr dir)) 0 ∅ 0

theorem CR_intro (dir : Bool) : iprop(Glob I K KS ∗ Cr0 (F := F) c dir ∗ tells (F := F) dir (peer dir c) 0 0) ⊢ CR I c dir 0 0 := by
  unfold CR Cr0
  iintro ⟨#HG, Hat, Ht⟩
  iexists ∅
  isplitr; · ipureintro; exact Finset.empty_subset _
  isplitl [Hat]; · iexact Hat
  isplitr
  · rw [bigSep_empty]; iempintro
  isplitl [Ht]; · iexact Ht
  iapply (Glob_reached I K KS c (.cr dir)); iexact HG

/-- What the body starts with beside the buffers. -/
def Ent : sProp (MT nD τ sig ℕ (Elt F) ℕ UU ℕ) :=
  iprop(Hs0 (F := F) c ∗ (D0 (F := F) c true ∗ Cr0 (F := F) c true) ∗ (D0 (F := F) c false ∗ Cr0 (F := F) c false)
    ∗ bigSep (Finset.Ico 0 7) (fun q => iprop(Tk (F := F) c true q 0 0 0 0 ∗ Tk (F := F) c false q 0 0 0 0)))

/-- The staged input. -/
abbrev stgX : sProp (MT nD τ sig ℕ (Elt F) ℕ UU ℕ) :=
  owns (c : Thread nD τ) (Memref.whole cc0_stg0_0 : Memref sig .tc .vmem S256x256 .f32) fullShare (I.x c)

theorem prog_spec :
    iprop(Glob I K KS ∗ OW (F := F) c 2 ∗ Ent (F := F) c ∗ stgX I c ∗ (wts I c 0 ∗ wts I c 1 ∗ wts I c 2)
        ∗ ownxAll (F := F) c 0 ∗ ownxAll (F := F) c 1 ∗ ownxAll (F := F) c 2)
      ⊢ WP c (prog (printed c)) (fun _ => iprop(OW (F := F) c 512 ∗ atPos ER (kcell c .bar) (0 + 1) ∅ 0 ∗ NT I c 7 ∗ stgX I c ∗ (wts I c 0 ∗ wts I c 1 ∗ wts I c 2)
          ∗ ownxAll (F := F) c 0 ∗ ownxAll (F := F) c 1 ∗ ownAll c 2 (Xs I 3))) := by
  unfold Ent prog
  iintro ⟨#HG, HO, ⟨Hh, ⟨Hdt, Hct⟩, ⟨Hdf, Hcf⟩, HT⟩, Hx, Hw, H0, H1, H2⟩
  unfold WP
  imod (D0_open I K KS c true) $$ [Hdt] with ⟨HPt, HRt⟩
  · isplitr; · iexact HG
    iexact Hdt
  imod (D0_open I K KS c false) $$ [Hdf] with ⟨HPf, HRf⟩
  · isplitr; · iexact HG
    iexact Hdf
  ihave Hti := (persistent_entails_right (tells_intro (F := F) c true 0 0)) $$ [HPt HRt]
  · isplitl [HPt] <;> iassumption
  icases Hti with ⟨#Htt, HPt, HRt⟩
  ihave Hti := (persistent_entails_right (tells_intro (F := F) c false 0 0)) $$ [HPf HRf]
  · isplitl [HPf] <;> iassumption
  icases Hti with ⟨#Htf, HPf, HRf⟩
  ihave H0 := (deal (F := F) c 0) $$ H0
  icases H0 with ⟨Ho, Hgt, Hgf⟩
  iapply (bindF (handshake_spec I K KS c)) $$ [HO Hh Hgt Hgf]
  · isplitr; · iexact HG
    isplitl [HO]; · iexact HO
    isplitl [Hh]; · iexact Hh
    isplitl [Hgt]
    · isplitl [Hgt]; · iexact Hgt
      iexact Htt
    · isplitl [Hgf]; · iexact Hgf
      iexact Htf
  unfold payB
  iintro ⟨HO, Hbar, ⟨Hgt, Hpt⟩, ⟨Hgf, Hpf⟩⟩
  ihave Hct := (CR_intro I K KS c true) $$ [Hct Hpt]
  · isplitr; · iexact HG
    isplitl [Hct] <;> iassumption
  ihave Hcf := (CR_intro I K KS c false) $$ [Hcf Hpf]
  · isplitr; · iexact HG
    isplitl [Hcf] <;> iassumption
  iapply (bindF (init_spec I c)) $$ [Hx Ho]
  · isplitl [Hx] <;> iassumption
  iintro ⟨Hx, Ho⟩
  iapply wp_wand $$ [HO HPt HRt Hct HPf HRf Hcf HT Ho Hgt Hgf Hw H1 H2]
  · iapply (layers_spec I K KS c)
    isplitr; · iexact HG
    isplitl [HO HPt HRt Hct HPf HRf Hcf HT Ho Hgt Hgf]
    · unfold Lay NT Ne
      isplitl [HO]; · iexact HO
      isplitl [HPt HRt Hct HPf HRf Hcf HT]
      · isplitl [HPt HRt Hct]
        · isplitl [HPt]; · iexact HPt
          isplitl [Hct] <;> iassumption
        isplitl [HPf HRf Hcf]
        · isplitl [HPf]; · iexact HPf
          isplitl [Hcf] <;> iassumption
        iexact HT
      isplitl [Ho]; · iexact Ho
      isplitl [Hgt] <;> iassumption
    isplitl [Hw]; · iexact Hw
    isplitl [H1] <;> iassumption
  iintro %_ ⟨HO, HN, Hw, H0, H1, H2⟩
  isplitl [HO]; · iexact HO
  isplitl [Hbar]; · iexact Hbar
  isplitl [HN]; · iexact HN
  isplitl [Hx]; · iexact Hx
  isplitl [Hw]; · iexact Hw
  isplitl [H0]; · iexact H0
  isplitl [H1] <;> iassumption

end

end Cert.KernelIdeal.Pf

end
-- ==== Proof.Ideal.Buffers.lean ====
/-
# Buffers whole and in blocks
-/
module

public import proofs.«01_k».proof.Proof.Ideal.Entry

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section Join

variable {T : Type} [Fintype T] [DecidableEq T] {sh : Shape} {A : Type} [Nonempty A]

/-- The array that is `v t` on rectangle `t`. -/
def joinAt (r : T → Rect sh) (v : (t : T) → (r t).shape.Idx → A) (i : sh.Idx) : A := by
  classical exact if h : ∃ x : (t : T) × (r t).shape.Idx, (r x.1).emb x.2 = i then v h.choose.1 h.choose.2 else Classical.arbitrary A

theorem joinAt_emb (r : T → Rect sh) (hd : ∀ t t', t ≠ t' → Disjoint (r t).set (r t').set) (v : (t : T) → (r t).shape.Idx → A)
    (t : T) (j : (r t).shape.Idx) : joinAt r v ((r t).emb j) = v t j := by
  have hm : ∀ (t : T) (j : (r t).shape.Idx), (r t).emb j ∈ (r t).set := fun t j => by
    rw [← Rect.map_emb_univ]; exact Finset.mem_map_of_mem _ (Finset.mem_univ j)
  have hi : ∀ x y : (t : T) × (r t).shape.Idx, (r x.1).emb x.2 = (r y.1).emb y.2 → x = y := by
    rintro ⟨t, j⟩ ⟨t', j'⟩ h
    have ht : t = t' := by
      by_contra hne
      exact Finset.disjoint_left.mp (hd t t' hne) (hm t j) (h ▸ hm t' j')
    subst ht
    have hj : j = j' := (r t).emb.injective h
    rw [hj]
  have h : ∃ x : (t : T) × (r t).shape.Idx, (r x.1).emb x.2 = (r t).emb j := ⟨⟨t, j⟩, rfl⟩
  unfold joinAt
  rw [dif_pos h]
  have := hi h.choose ⟨t, j⟩ h.choose_spec
  rw [this]

end Join

section

variable [hne : ∀ e, Nonempty (Elt F e)] (c : Dev nD)

instance : Nonempty (F .f32) := hne .f32

/-- The rectangle of a block. -/
abbrev rb (j : Dev nD) : Rect S8192x256 := Rect.unit (s := S8192x256) (off j).1 S256x256.size (off j).2

theorem rb_mem (j : Dev nD) (i : S8192x256.Idx) : i ∈ (rb j).set ↔ 256 * j.val ≤ (i 0).val ∧ (i 0).val < 256 * j.val + 256 := by
  rw [LoadRect.mem_set]
  constructor
  · intro h
    obtain ⟨k, hk, e⟩ := h 0
    have hk' : k < 256 := hk
    have e' : (i 0).val = 256 * j.val + 1 * k := e
    omega
  · rintro ⟨h1, h2⟩ a
    fin_cases a
    · exact ⟨(i 0).val - 256 * j.val, show _ < 256 by omega, show (i 0).val = 256 * j.val + 1 * ((i 0).val - 256 * j.val) by omega⟩
    · exact ⟨(i 1).val, (i 1).isLt, show (i 1).val = 0 + 1 * (i 1).val by omega⟩

theorem rb_disj (j j' : Dev nD) (h : j ≠ j') : Disjoint (rb j).set (rb j').set := by
  rw [Finset.disjoint_left]
  intro i hi hi'
  rw [rb_mem] at hi hi'
  exact h (Fin.ext (by omega))
theorem rb_cover : (Finset.univ : Finset (Dev nD)).biUnion (fun j => (rb j).set) = Finset.univ := by
  ext i
  have h0 : (i 0).val < 8192 := (i 0).isLt
  refine ⟨fun _ => Finset.mem_univ _, fun _ => Finset.mem_biUnion.mpr ⟨⟨(i 0).val / 256, by show _ < 32; omega⟩, Finset.mem_univ _, ?_⟩⟩
  rw [rb_mem]
  show 256 * ((i 0).val / 256) ≤ (i 0).val ∧ (i 0).val < 256 * ((i 0).val / 256) + 256
  omega

/-- A whole buffer is its blocks. -/
theorem buf_split (b : Fin 3) (X : S8192x256.Idx → Elt F .f32) :
    owns (c : Thread nD τ) (bufM b) fullShare X ⊢ (ownxAll (F := F) c b : sProp 𝕄) := by
  refine BI.Entails.trans (owns_rects (c : Thread nD τ) (bufM b) fullShare rb (fun _ _ => rfl) rb_disj rb_cover X) (bigSep_mono fun j _ => ?_)
  exact own_ownx (c := c) b j (fun i => X ((rb j).emb i))

/-- Blocks at known contents, joined. -/
theorem buf_join (b : Fin 3) (X : Dev nD → Blk F) :
    ownAll c b X ⊢ owns (c : Thread nD τ) (bufM b) fullShare (joinAt (A := F .f32) rb X) := by
  have hj : ∀ j, (fun i => joinAt (A := F .f32) rb X ((rb j).emb i)) = X j := fun j => funext fun i => joinAt_emb rb rb_disj X j i
  have h := owns_of_rects (Ix := ℕ) (Name := ℕ) (U := UU) (Lvl := ℕ) (Val := Elt F) (c : Thread nD τ) (bufM b) fullShare rb (fun _ _ => rfl) rb_disj rb_cover (e := .f32) (joinAt (A := F .f32) rb X)
  refine BI.Entails.trans (bigSep_mono fun j _ => ?_) h
  rw [hj j]
  exact BI.Entails.refl _

theorem buf_joinx (b : Fin 3) : ownxAll (F := F) c b ⊢ iprop(∃ X : S8192x256.Idx → Elt F .f32, owns (c : Thread nD τ) (bufM b) fullShare X) := by
  iintro H
  ihave H := (BI.bigSep_exists_pi Finset.univ (fun (j : Dev nD) (v : Blk F) => own c b j fullShare v)) $$ H
  icases H with ⟨%X, H⟩
  iexists (joinAt (A := F .f32) rb X)
  iapply (buf_join c b X); iexact H

/-- The rectangle of a landing slot. -/
abbrev rs2 (s : Fin 2) : Rect S2x256x256 := Rect.unit (s := S2x256x256) ![s.val % 2, 0, 0] S1x256x256.size (inb_comm s.val)

theorem rs2_mem (s : Fin 2) (i : S2x256x256.Idx) : i ∈ (rs2 s).set ↔ (i 0).val = s.val := by
  have hs : s.val % 2 = s.val := Nat.mod_eq_of_lt s.isLt
  rw [LoadRect.mem_set]
  constructor
  · intro h
    obtain ⟨k, hk, e⟩ := h 0
    have hk' : k < 1 := hk
    have e' : (i 0).val = s.val % 2 + 1 * k := e
    omega
  · intro h a
    fin_cases a
    · exact ⟨0, show 0 < 1 by omega, show (i 0).val = s.val % 2 + 1 * 0 by omega⟩
    · exact ⟨(i 1).val, (i 1).isLt, show (i 1).val = 0 + 1 * (i 1).val by omega⟩
    · exact ⟨(i 2).val, (i 2).isLt, show (i 2).val = 0 + 1 * (i 2).val by omega⟩
theorem rs2_disj (s s' : Fin 2) (h : s ≠ s') : Disjoint (rs2 s).set (rs2 s').set := by
  rw [Finset.disjoint_left]
  intro i hi hi'
  rw [rs2_mem] at hi hi'
  exact h (Fin.ext (by omega))
theorem rs2_cover : (Finset.univ : Finset (Fin 2)).biUnion (fun s => (rs2 s).set) = Finset.univ := by
  ext i
  refine ⟨fun _ => Finset.mem_univ _, fun _ => Finset.mem_biUnion.mpr ⟨⟨(i 0).val, (i 0).isLt⟩, Finset.mem_univ _, ?_⟩⟩
  rw [rs2_mem]

/-- A slot before it is read as a block. -/
abbrev sliceAt (dir : Bool) (s : Fin 2) : Memref sig .tc .vmem S1x256x256 .f32 := (commM dir).slice (rs2 s) (fun _ => rfl)

theorem slot_of_slice (dir : Bool) (s : Fin 2) (Y : S1x256x256.Idx → Elt F .f32) :
    owns (c : Thread nD τ) (sliceAt dir s) fullShare Y ⊢ slotRes (F := F) (c, dir, s) := by
  have e : (slot (commM dir) s.val).view.set = (sliceAt dir s).view.set := View.set_reshape _ _
  unfold slotRes ownSlot owns
  iintro ⟨%f, %hf, H⟩
  iexists ((slot (commM dir) s.val).view.read (Elt F) f)
  iexists f
  isplitr; · ipureintro; rfl
  rw [e]
  iexact H

theorem slice_of_slot (dir : Bool) (s : Fin 2) :
    slotRes (F := F) (c, dir, s) ⊢ iprop(∃ Y : S1x256x256.Idx → Elt F .f32, owns (c : Thread nD τ) (sliceAt dir s) fullShare Y) := by
  have e : (slot (commM dir) s.val).view.set = (sliceAt dir s).view.set := View.set_reshape _ _
  unfold slotRes ownSlot owns
  rw [e]
  iintro ⟨%v, %f, %hf, H⟩
  iexists ((sliceAt dir s).view.read (Elt F) f)
  iexists f
  isplitr; · ipureintro; rfl
  iexact H

theorem comm_split (dir : Bool) (X : S2x256x256.Idx → Elt F .f32) :
    owns (c : Thread nD τ) (commM dir) fullShare X ⊢ (bigSep Finset.univ (fun s : Fin 2 => slotRes (F := F) (c, dir, s)) : sProp 𝕄) :=
  BI.Entails.trans (owns_rects (c : Thread nD τ) (commM dir) fullShare rs2 (fun _ _ => rfl) rs2_disj rs2_cover X)
    (bigSep_mono fun s _ => slot_of_slice c dir s _)

theorem comm_join (dir : Bool) :
    (bigSep Finset.univ (fun s : Fin 2 => slotRes (F := F) (c, dir, s)) : sProp 𝕄)
      ⊢ iprop(∃ X : S2x256x256.Idx → Elt F .f32, owns (c : Thread nD τ) (commM dir) fullShare X) := by
  refine BI.Entails.trans (bigSep_mono (fun (s : Fin 2) (_ : s ∈ Finset.univ) => slice_of_slot (F := F) c dir s)) ?_
  refine BI.Entails.trans (BI.bigSep_exists_pi Finset.univ (fun (s : Fin 2) (Y : S1x256x256.Idx → Elt F .f32) => owns (c : Thread nD τ) (sliceAt dir s) fullShare Y)) ?_
  refine BIClass.exists_elim (PROP := sProp 𝕄) fun Y => ?_
  refine BI.Entails.trans ?_ (BIClass.exists_intro (PROP := sProp 𝕄) (joinAt (A := F .f32) rs2 Y))
  have hj : ∀ s, (fun i => joinAt (A := F .f32) rs2 Y ((rs2 s).emb i)) = Y s := fun s => funext fun i => joinAt_emb rs2 rs2_disj Y s i
  refine BI.Entails.trans (bigSep_mono fun s _ => ?_)
    (owns_of_rects (Ix := ℕ) (Name := ℕ) (U := UU) (Lvl := ℕ) (Val := Elt F) (c : Thread nD τ) (commM dir) fullShare rs2 (fun _ _ => rfl) rs2_disj rs2_cover (e := .f32)
      (joinAt (A := F .f32) rs2 Y))
  rw [hj s]
  exact BI.Entails.refl _

end

end Cert.KernelIdeal.Pf

end
-- ==== Proof.Ideal.Exit.lean ====
/-
# After the last layer

Every counter is back at zero and the landing slots are taken back.
-/
module

public import proofs.«01_k».proof.Proof.Ideal.Buffers

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

section

variable (c : Dev nD)

/-- From this round on a counter is not used. -/
abbrev bound (k : Knd) : ℕ := match k with | .bar => 1 | .cr _ => 7 | .ss dir s => 7 * cnt dir s | .rs dir s => 7 * cnt dir s

theorem close_kind (k : Knd) :
    iprop(Glob I K KS ∗ atPos ER (kcell c k) (bound k) ∅ 0) ⊢ (|={Set.univ}=> semVal (kcell c k) 0 : sProp 𝕄) := by
  have hR : ∀ r, bound k ≤ r → (Rd I).duties (kcell c k) r = ∅ := fun r hr => by
    rw [Rd_duties]; exact kduties_late k r hr
  iintro ⟨#HG, H⟩
  iapply (Rounds.cell_close ER (Rd I) (Set.mem_univ (K (c, k))) (fun h => h) hR)
  isplitr; · iapply (Glob_cell I K KS c k); iexact HG
  iexact H

/-- The last write right of each landing slot. -/
abbrev lastTok (dir : Bool) : sProp 𝕄 :=
  bigSep Finset.univ fun s : Fin 2 => Release.writeTok EL ((c, dir, s) : KK) (1 + 3 * cnt dir s)

theorem fin_slot (dir : Bool) (s : Fin 2) :
    iprop(Glob I K KS ∗ pos1 (F := F) c dir s (posS dir 7 0 s) ∗ rel1 (F := F) c dir s (relS dir 7 0 s)
        ∗ Release.writeTok EL ((c, dir, s) : KK) (1 + 3 * cnt dir s))
      ⊢ (|={Set.univ}=> iprop((semVal (kcell c (.ss dir s)) 0 ∗ semVal (kcell c (.rs dir s)) 0) ∗ slotRes (F := F) (c, dir, s)) : sProp 𝕄) := by
  have e1 : posS dir 7 0 s = 7 * cnt dir s := by have := s.isLt; unfold posS; omega
  have e2 : relS dir 7 0 s = 3 * cnt dir s := by have := s.isLt; unfold relS; rw [if_pos rfl, show 7 / 2 = 3 from rfl]; omega
  rw [e1, e2]
  unfold pos1 rel1
  iintro ⟨#HG, ⟨⟨Hs, -⟩, Hr, -⟩, ⟨-, Hl⟩, Hw⟩
  imod (close_kind I K KS c (.ss dir s)) $$ [Hs] with Hs
  · isplitr; · iexact HG
    iexact Hs
  imod (close_kind I K KS c (.rs dir s)) $$ [Hr] with Hr
  · isplitr; · iexact HG
    iexact Hr
  imod (Release.slot_take EL (ι := KS (c, dir, s)) (S := slotRes (F := F) (c, dir, s)) (Set.mem_univ _) (1 + 3 * cnt dir s)) $$ [Hl Hw] with Hx
  · isplitr; · iapply (Glob_slot I K KS (c, dir, s)); iexact HG
    isplitl [Hl] <;> iassumption
  imodintro
  isplitr [Hx]
  · isplitl [Hs] <;> iassumption
  iexact Hx

theorem fin_cr (dir : Bool) : iprop(Glob I K KS ∗ CR I c dir 7 0) ⊢ (|={Set.univ}=> semVal (kcell c (.cr dir)) 0 : sProp 𝕄) := by
  have h0 : kduties (.cr dir) 7 = ∅ := kduties_late (.cr dir) 7 (le_refl _)
  unfold CR
  iintro ⟨#HG, %T, %hT, H, -⟩
  have hT' : T = ∅ := Finset.subset_empty.mp (h0 ▸ hT)
  subst hT'
  iapply (close_kind I K KS c (.cr dir))
  isplitr; · iexact HG
  iexact H

/-- One direction's counters back at zero. -/
def zeros (dir : Bool) : sProp 𝕄 :=
  iprop(semVal (kcell c (.cr dir)) 0 ∗ (semVal (kcell c (.ss dir 0)) 0 ∗ semVal (kcell c (.rs dir 0)) 0)
    ∗ semVal (kcell c (.ss dir 1)) 0 ∗ semVal (kcell c (.rs dir 1)) 0)

theorem fin_dir (dir : Bool) :
    iprop(Glob I K KS ∗ Ne I c dir 7 ∗ lastTok (F := F) c dir)
      ⊢ (|={Set.univ}=> iprop(zeros (F := F) c dir ∗ slotRes (F := F) (c, dir, 0) ∗ slotRes (F := F) (c, dir, 1)) : sProp 𝕄) := by
  unfold Ne Pos Rel zeros lastTok
  rw [bs_two, bs_two, bs_two]
  iintro ⟨#HG, ⟨⟨P0, P1⟩, HC, R0, R1⟩, T0, T1⟩
  imod (fin_cr I K KS c dir) $$ [HC] with HC
  · isplitr; · iexact HG
    iexact HC
  imod (fin_slot I K KS c dir 0) $$ [P0 R0 T0] with ⟨H0, S0⟩
  · isplitr; · iexact HG
    isplitl [P0]; · iexact P0
    isplitl [R0] <;> iassumption
  imod (fin_slot I K KS c dir 1) $$ [P1 R1 T1] with ⟨H1, S1⟩
  · isplitr; · iexact HG
    isplitl [P1]; · iexact P1
    isplitl [R1] <;> iassumption
  imodintro
  isplitr [S0 S1]
  · isplitl [HC]; · iexact HC
    isplitl [H0] <;> iassumption
  isplitl [S0] <;> iassumption

/-- Everything back. -/
theorem fin_spec :
    iprop(Glob I K KS ∗ atPos ER (kcell c .bar) (0 + 1) ∅ 0 ∗ NT I c 7 ∗ lastTok (F := F) c true ∗ lastTok (F := F) c false)
      ⊢ (|={Set.univ}=> iprop(semVal (kcell c .bar) 0 ∗ (zeros (F := F) c true ∗ zeros (F := F) c false)
          ∗ (slotRes (F := F) (c, true, 0) ∗ slotRes (F := F) (c, true, 1))
          ∗ slotRes (F := F) (c, false, 0) ∗ slotRes (F := F) (c, false, 1)) : sProp 𝕄) := by
  unfold NT
  iintro ⟨#HG, HB, ⟨HT, HF, -⟩, TT, TF⟩
  imod (close_kind I K KS c .bar) $$ [HB] with HB
  · isplitr; · iexact HG
    iexact HB
  imod (fin_dir I K KS c true) $$ [HT TT] with ⟨HT, ST⟩
  · isplitr; · iexact HG
    isplitl [HT] <;> iassumption
  imod (fin_dir I K KS c false) $$ [HF TF] with ⟨HF, SF⟩
  · isplitr; · iexact HG
    isplitl [HF] <;> iassumption
  imodintro
  isplitl [HB]; · iexact HB
  isplitl [HT HF]
  · isplitl [HT] <;> iassumption
  isplitl [ST] <;> iassumption

end

end Cert.KernelIdeal.Pf

end
-- ==== Proof.Ideal.Fund.lean ====
/-
# What the launch deals out

The counters, the rights to pay and the rights to wait, dealt to the devices that use them.
-/
module

public import proofs.«01_k».proof.Proof.Ideal.Exit
public import proofs.«01_k».proof.Proof.Gen.KernelIdeal.Launch

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

/-! ## Picking from a separating conjunction -/

/-- Some of the conjuncts, renamed. -/
theorem bs_sub {J J' : Type} [DecidableEq J] [DecidableEq J'] (S : Finset J) (T : Finset J') (f : J' → J) (hm : ∀ j ∈ T, f j ∈ S)
    (hi : Set.InjOn f T) (Φ : J → sProp 𝕄) : bigSep S Φ ⊢ bigSep T (fun j => Φ (f j)) := by
  have hs : T.image f ⊆ S := fun x hx => by
    obtain ⟨j, hj, e⟩ := Finset.mem_image.mp hx
    exact e ▸ hm j hj
  refine BI.Entails.trans (bigSep_subset hs) ?_
  rw [bigSep_image_of_injOn hi]
  exact BI.Entails.refl _

/-- Direction, phase and hop. -/
abbrev J : Type := Bool × Fin 7 × Fin 16

theorem bs_bool (Φ : Bool → sProp 𝕄) : bigSep Finset.univ Φ = iprop(Φ true ∗ Φ false) :=
  bigSep_univ_eq_bigSepL [true, false] (by decide) (by decide) Φ

theorem bs_ico (n m : ℕ) (hnm : n ≤ m) (Φ : ℕ → sProp 𝕄) : bigSep (Finset.univ : Finset (Fin m)) (fun i => Φ i.val) ⊢ bigSep (Finset.Ico 0 n) Φ := by
  by_cases h0 : m = 0
  · subst h0
    have : n = 0 := Nat.le_zero.mp hnm
    subst this
    exact BI.Entails.refl _
  refine BI.Entails.trans (bs_sub (Finset.univ : Finset (Fin m)) (Finset.Ico 0 n) (fun i : ℕ => (⟨i % m, Nat.mod_lt _ (Nat.pos_of_ne_zero h0)⟩ : Fin m))
    (fun _ _ => Finset.mem_univ _) (fun a ha b hb e => ?_) (fun i => Φ i.val)) (bigSep_mono fun i hi => ?_)
  · have ha' := Finset.mem_Ico.mp ha
    have hb' := Finset.mem_Ico.mp hb
    have e' : a % m = b % m := congrArg Fin.val e
    rw [Nat.mod_eq_of_lt (by omega), Nat.mod_eq_of_lt (by omega)] at e'
    exact e'
  · have hi' := Finset.mem_Ico.mp hi
    show Φ (i % m) ⊢ Φ i
    rw [Nat.mod_eq_of_lt (by omega)]

/-- Everything by direction, phase and hop, laid out phase by phase. -/
theorem spread (Φ : Bool → ℕ → ℕ → sProp 𝕄) :
    bigSep Finset.univ (fun x : J => Φ x.1 x.2.1.val x.2.2.val)
      ⊢ iprop(bigSep (Finset.Ico 0 7) (fun q => bigSep (Finset.Ico 0 (nh true)) (fun h => Φ true q h))
          ∗ bigSep (Finset.Ico 0 7) (fun q => bigSep (Finset.Ico 0 (nh false)) (fun h => Φ false q h))) := by
  have h1 : ∀ dir, bigSep Finset.univ (fun x : Fin 7 × Fin 16 => Φ dir x.1.val x.2.val)
      ⊢ bigSep (Finset.Ico 0 7) (fun q => bigSep (Finset.Ico 0 (nh dir)) (fun h => Φ dir q h)) := fun dir => by
    rw [bigSep_univ_prod]
    refine BI.Entails.trans (bigSep_mono fun p _ => bs_ico (nh dir) 16 (by cases dir <;> decide) (fun h => Φ dir p.val h)) ?_
    exact bs_ico 7 7 (le_refl _) (fun q => bigSep (Finset.Ico 0 (nh dir)) (fun h => Φ dir q h))
  rw [bigSep_univ_prod, bs_bool]
  exact BI.sep_mono (h1 true) (h1 false)

/-! ## The rights to pay -/

theorem peer_inj {dir : Bool} {c c' : Dev nD} (h : peer dir c = peer dir c') : c = c' := (turn dir).injective h

/-- Which right, where: a transfer's two, a credit's, the handshake's. -/
def tokN (x : (Dev nD × J) × Fin 4) : GSem nD τ sig × ℕ × ℕ := match x with
  | ((c, dir, p, h), 0) => (kcell c (.ss dir (sl h.val)), rnd dir p.val h.val, 16 * p.val + h.val)
  | ((c, dir, p, h), 1) => (kcell (peer dir c) (.rs dir (sl h.val)), rnd dir p.val h.val, 16 * p.val + h.val)
  | ((c, dir, p, h), 2) => (kcell (back dir c) (.cr dir), p.val, 16 * p.val + h.val)
  | ((c, dir, p, h), 3) => (kcell (peer (!dir) c) .bar, 0, 2 * (16 * p.val + h.val) + dir.toNat)

theorem tokN_inj : Function.Injective tokN := by
  rintro ⟨⟨c, dir, p, h⟩, k⟩ ⟨⟨c', dir', p', h'⟩, k'⟩ e
  have hh := h.isLt
  have hh' := h'.isLt
  have key : c = c' → dir = dir' → 16 * p.val + h.val = 16 * p'.val + h'.val → ((c, dir, p, h) : Dev nD × J) = (c', dir', p', h') := by
    intro e1 e2 e3
    have e4 : p = p' := Fin.ext (by omega)
    have e5 : h = h' := Fin.ext (by omega)
    rw [e1, e2, e4, e5]
  fin_cases k <;> fin_cases k' <;>
    (have e1 := kcell_inj (congrArg Prod.fst e); have e2 := congrArg (fun y : GSem nD τ sig × ℕ × ℕ => y.2.2) e)
  · obtain ⟨a, b⟩ := e1; injection b with b1 b2
    exact congrArg (fun y => (y, _)) (key a b1 e2)
  · exact absurd e1.2 (fun q => by cases q)
  · exact absurd e1.2 (fun q => by cases q)
  · exact absurd e1.2 (fun q => by cases q)
  · exact absurd e1.2 (fun q => by cases q)
  · obtain ⟨a, b⟩ := e1; injection b with b1 b2; subst b1
    exact congrArg (fun y => (y, _)) (key (peer_inj a) rfl e2)
  · exact absurd e1.2 (fun q => by cases q)
  · exact absurd e1.2 (fun q => by cases q)
  · exact absurd e1.2 (fun q => by cases q)
  · exact absurd e1.2 (fun q => by cases q)
  · obtain ⟨a, b⟩ := e1; injection b with b1; subst b1
    exact congrArg (fun y => (y, _)) (key ((turn dir).symm.injective a) rfl e2)
  · exact absurd e1.2 (fun q => by cases q)
  · exact absurd e1.2 (fun q => by cases q)
  · exact absurd e1.2 (fun q => by cases q)
  · exact absurd e1.2 (fun q => by cases q)
  · obtain ⟨a, -⟩ := e1
    have e3 : 2 * (16 * p.val + h.val) + dir.toNat = 2 * (16 * p'.val + h'.val) + dir'.toNat := e2
    have hd : dir = dir' := by
      cases dir <;> cases dir' <;> first | rfl | (exfalso; simp only [Bool.toNat_true, Bool.toNat_false] at e3; omega)
    subst hd
    exact congrArg (fun y => (y, _)) (key (peer_inj a) rfl (by omega))

def ringToks : Finset (GSem nD τ sig × ℕ × ℕ) := Finset.univ.map ⟨tokN, tokN_inj⟩

theorem kcell_injective : Function.Injective (fun x : Dev nD × Knd => kcell x.1 x.2) := by
  rintro ⟨c, k⟩ ⟨c', k'⟩ h
  obtain ⟨h1, h2⟩ := kcell_inj h
  exact Prod.ext h1 h2
def ringCells : Finset (GSem nD τ sig) := Finset.univ.map ⟨fun x : Dev nD × Knd => kcell x.1 x.2, kcell_injective⟩

/-- One right. -/
abbrev tok1 (x : (Dev nD × J) × Fin 4) : sProp 𝕄 := dutyTok ER (tokN x).1 (tokN x).2.1 (tokN x).2.2

/-- Device `c`'s rights to pay. -/
def toks (c : Dev nD) : sProp 𝕄 := bigSep Finset.univ fun x : J => bigSep Finset.univ fun k : Fin 4 => tok1 (F := F) ((c, x), k)

/-! ## The rights to write a landing slot -/

/-- The number of the write right of a hop; out of the way where there is no such hop. -/
def wNum (x : J) : ℕ := if x.2.1.val % 2 = 1 ∧ x.2.2.val < nh x.1 then rnd x.1 (x.2.1.val / 2) x.2.2.val else 40 + (16 * x.2.1.val + x.2.2.val)

def wKey (y : Dev nD × J) : KK × ℕ := ((peer y.2.1 y.1, y.2.1, sl y.2.2.2.val), wNum y.2)

theorem wNum_lt (x : J) : wNum x < 200 := by
  obtain ⟨dir, p, h⟩ := x
  have hp := p.isLt
  have hh := h.isLt
  unfold wNum rnd cnt
  simp only
  split
  · split <;> omega
  · omega

theorem wNum_last (x : J) : wNum x ≠ 3 * cnt x.1 (sl x.2.2.val) := by
  obtain ⟨dir, p, h⟩ := x
  have hp := p.isLt
  have hh := h.isLt
  unfold wNum rnd cnt sl
  cases dir
  · simp only [nh, Bool.false_eq_true, if_false, true_and, Fin.ext_iff]
    split_ifs <;> first | omega | (rename_i h1 h2; simp at h2; omega)
  · simp only [nh, if_true, Bool.true_eq_false, false_and, if_false]
    split_ifs <;> omega

theorem wKey_inj : Function.Injective wKey := by
  rintro ⟨c, dir, p, h⟩ ⟨c', dir', p', h'⟩ e
  have e1 := congrArg (fun y : KK × ℕ => y.1.1) e
  have e2 : dir = dir' := congrArg (fun y : KK × ℕ => y.1.2.1) e
  have e3 : h.val % 2 = h'.val % 2 := congrArg (fun y : KK × ℕ => y.1.2.2.val) e
  have e4 : wNum (dir, p, h) = wNum (dir', p', h') := congrArg Prod.snd e
  subst e2
  have hc : c = c' := peer_inj e1
  have hp := p.isLt
  have hh := h.isLt
  have hp' := p'.isLt
  have hh' := h'.isLt
  have key : p.val = p'.val ∧ h.val = h'.val := by
    unfold wNum rnd cnt sl at e4
    cases dir
    · simp only [nh, Bool.false_eq_true, if_false, true_and, Fin.ext_iff] at e4
      split_ifs at e4 <;> (try simp only [Fin.val_one, Fin.isValue] at *) <;> omega
    · simp only [nh, if_true, Bool.true_eq_false, false_and, if_false] at e4
      split_ifs at e4 <;> omega
  rw [hc, Fin.ext key.1, Fin.ext key.2]

/-- Device `c`'s rights to write. -/
def wtoks (c : Dev nD) : sProp 𝕄 := bigSep Finset.univ fun x : J => Release.writeTok EL (wKey (c, x)).1 ((wKey (c, x)).2 + 1)

theorem wtoks_deal :
    bigSep ((Finset.univ : Finset KK) ×ˢ Finset.range 200) (fun x => (Release.writeTok EL x.1 (x.2 + 1) : sProp 𝕄))
      ⊢ iprop(bigSep Finset.univ (fun c => wtoks (F := F) c) ∗ bigSep Finset.univ (fun c => iprop(lastTok (F := F) c true ∗ lastTok (F := F) c false))) := by
  rw [bigSep_filter_split ((Finset.univ : Finset KK) ×ˢ Finset.range 200) (fun x => x.2 ≠ 3 * cnt x.1.2.1 x.1.2.2)]
  refine BI.sep_mono ?_ ?_
  · refine BI.Entails.trans (bs_sub _ (Finset.univ : Finset (Dev nD × J)) wKey (fun y _ => ?_) (fun a _ b _ e => wKey_inj e) _) ?_
    · refine Finset.mem_filter.mpr ⟨Finset.mem_product.mpr ⟨Finset.mem_univ _, Finset.mem_range.mpr (wNum_lt y.2)⟩, wNum_last y.2⟩
    · rw [bigSep_univ_prod]
      exact BI.Entails.refl _
  · refine BI.Entails.trans (bs_sub _ (Finset.univ : Finset KK) (fun k : KK => ((k, 3 * cnt k.2.1 k.2.2) : KK × ℕ)) (fun k _ => ?_) (fun a _ b _ e => congrArg Prod.fst e) _) ?_
    · refine Finset.mem_filter.mpr ⟨Finset.mem_product.mpr ⟨Finset.mem_univ _, Finset.mem_range.mpr ?_⟩, fun h => h rfl⟩
      show 3 * cnt k.2.1 k.2.2 < 200
      unfold cnt; split <;> omega
    · rw [bigSep_univ_prod]
      refine bigSep_mono fun c _ => ?_
      rw [bigSep_univ_prod, bs_bool]
      refine BI.sep_mono (bigSep_mono fun s _ => ?_) (bigSep_mono fun s _ => ?_)
      · exact Entails.of_eq (congrArg (Release.writeTok EL ((c, true, s) : KK)) (Nat.add_comm _ _))
      · exact Entails.of_eq (congrArg (Release.writeTok EL ((c, false, s) : KK)) (Nat.add_comm _ _))

/-! ## The launch's counters -/

/-- The kernel's own semaphores: all but the handshake's. -/
def okind (i : Fin 10) : Knd := knds[i.val + 1]'(by have := i.isLt; show i.val + 1 < 11; omega)
def osem (i : Fin 10) : SemLoc sig := semOf (okind i)

theorem ownSemFacts : Pipeline.OwnSemFacts cfg0.spec osem := by decide +kernel

abbrev ownS (c : Dev nD) : sProp 𝕄 := Pipeline.ownSems0 (Ix := ℕ) (Name := ℕ) (U := UU) (Lvl := ℕ) (Val := Elt F) (τ := τ) osem c

theorem univ_knd : (Finset.univ : Finset Knd) = insert .bar ((Finset.univ : Finset (Fin 10)).image okind) := by decide

theorem unscopedSems0_eq (c : Dev nD) : (unscopedSems0 c : sProp 𝕄) = semVal (kcell c .bar) 0 := by
  unfold unscopedSems0; rw [bigSep_eq_bigSepL_of_eq [SemLoc.reg bsem] (by decide +kernel) (by decide)]; rfl

theorem sems0_eq (c : Dev nD) :
    (bigSep Finset.univ fun k : Knd => (semVal (kcell c k) 0 : sProp 𝕄)) = iprop(semVal (kcell c .bar) 0 ∗ ownS (F := F) c) := by
  have hi : Function.Injective okind := by decide
  rw [univ_knd, bigSep_insert (by decide), bigSep_image_of_injOn hi.injOn]
  unfold ownS Pipeline.ownSems0
  rfl

/-- Everything back at zero, as the launch wants it. -/
theorem zeros_all (c : Dev nD) :
    iprop(semVal (kcell c .bar) 0 ∗ (zeros (F := F) c true ∗ zeros (F := F) c false))
      ⊢ (bigSep Finset.univ fun k : Knd => (semVal (kcell c k) 0 : sProp 𝕄)) := by
  rw [bigSep_univ_eq_bigSepL knds (by decide) (by decide)]
  unfold zeros
  refine BI.Entails.trans (?_ : _ ⊢ iprop(semVal (kcell c .bar) 0 ∗ semVal (kcell c (.cr true)) 0 ∗ semVal (kcell c (.cr false)) 0
    ∗ semVal (kcell c (.ss true 0)) 0 ∗ semVal (kcell c (.ss true 1)) 0 ∗ semVal (kcell c (.ss false 0)) 0 ∗ semVal (kcell c (.ss false 1)) 0
    ∗ semVal (kcell c (.rs true 0)) 0 ∗ semVal (kcell c (.rs true 1)) 0 ∗ semVal (kcell c (.rs false 0)) 0 ∗ semVal (kcell c (.rs false 1)) 0)) (BI.Entails.refl _)
  iintro ⟨HB, ⟨C1, ⟨S1, R1⟩, S2, R2⟩, C2, ⟨S3, R3⟩, S4, R4⟩
  isplitl [HB]; · iexact HB
  isplitl [C1]; · iexact C1
  isplitl [C2]; · iexact C2
  isplitl [S1]; · iexact S1
  isplitl [S2]; · iexact S2
  isplitl [S3]; · iexact S3
  isplitl [S4]; · iexact S4
  isplitl [R1]; · iexact R1
  isplitl [R2]; · iexact R2
  isplitl [R3] <;> iassumption

/-! ## From the launch element -/

/-- What the launch element deals device `c`; the slots' part goes to the first, for all. -/
def G (c : Dev nD) : sProp 𝕄 :=
  iprop((bigSep Finset.univ fun k : Knd => roundState ER (Rd I) (kcell c k) 0)
    ∗ (bigSep Finset.univ fun k : Knd => atPos ER (kcell c k) 0 ∅ 0)
    ∗ (bigSep Finset.univ fun k : Knd => reached ER (kcell c k) 0)
    ∗ toks (F := F) c
    ∗ if c = 0 then BI.own (EL (Release.initSlots (Finset.univ : Finset KK) 200)) else iprop(emp))

def u₀ : UU :=
  (initOf (Pipeline.cells cfgs cellOf_inj) (Pipeline.launchToks cfgs cellOf_inj), initOf ringCells ringToks, Release.initSlots (Finset.univ : Finset KK) 200)

theorem fund_ring : iprop(BI.own (ER (initOf ringCells ringToks)) ∗ BI.own (EL (Release.initSlots (Finset.univ : Finset KK) 200)))
    ⊢ (|==> bigSep Finset.univ (G I) : sProp 𝕄) := by
  have hX (Φ : GSem nD τ sig → sProp 𝕄) : bigSep ringCells Φ = bigSep Finset.univ fun c : Dev nD => bigSep Finset.univ fun k : Knd => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod, bigSep_univ_prod]; rfl
  have hS : (BI.own (EL (Release.initSlots (Finset.univ : Finset KK) 200)) : sProp 𝕄)
      ⊢ bigSep (Finset.univ : Finset (Dev nD)) fun c => if c = 0 then BI.own (EL (Release.initSlots (Finset.univ : Finset KK) 200)) else iprop(emp) := by
    rw [bigSep_univ_at _ (0 : Dev nD), if_pos rfl]
    refine BI.Entails.trans (?_ : _ ⊢ iprop(BI.own (EL (Release.initSlots (Finset.univ : Finset KK) 200)) ∗ bigSep ((Finset.univ : Finset (Dev nD)).erase 0) (fun _ => BI.emp)))
      (BI.sep_mono (BI.Entails.refl _) (bigSep_mono fun c hc => by rw [if_neg (Finset.ne_of_mem_erase hc)]; exact BI.Entails.refl _))
    rw [bigSep_emp_const]
    iintro H
    isplitl [H]; · iexact H
    iempintro
  iintro ⟨HX, HS⟩
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := hS $$ HS
  unfold G; simp only [bigSep_sep']
  isplitl [Hst']; · iexact Hst'
  isplitl [Hat']; · iexact Hat'
  isplitl [Hr']; · iexact Hr'
  isplitl [Htok'] <;> iassumption

/-- What a device holds alone. -/
def linear (c : Dev nD) : sProp 𝕄 :=
  iprop((bigSep Finset.univ fun k : Knd => atPos ER (kcell c k) 0 ∅ 0) ∗ toks (F := F) c
    ∗ (bigSep Finset.univ fun x : Bool × Fin 2 => Release.readerAt EL ((c, x) : KK) 0)
    ∗ wtoks (F := F) c ∗ lastTok (F := F) c true ∗ lastTok (F := F) c false)

/-- What all know, but the levels. -/
def Pub : sProp 𝕄 :=
  iprop(bigSep Finset.univ (fun x : Dev nD × Knd => cellInv ER (Rd I) (K x) (kcell x.1 x.2))
    ∗ bigSep Finset.univ (fun x : Dev nD × Knd => reached ER (kcell x.1 x.2) 0)
    ∗ bigSep Finset.univ (fun k : KK => Release.slotInv EL (KS k) k (slotRes (F := F) k)))

instance Pub_persistent : BI.Persistent (Pub I K KS) := by unfold Pub; infer_instance

theorem Pub_glob : iprop(Pub I K KS ∗ levAts LL lvv) ⊢ Glob I K KS := by
  unfold Pub Glob
  iintro ⟨⟨H1, H2, H3⟩, H4⟩
  isplitl [H1]; · iexact H1
  isplitl [H2]; · iexact H2
  isplitl [H3] <;> iassumption

/-- What the global step makes of it. -/
def G' (c : Dev nD) : sProp 𝕄 := iprop(∃ (K : Dev nD × Knd → ℕ) (KS : KK → ℕ), Pub I K KS ∗ linear (F := F) c)

theorem core_alloc (c : Dev nD) :
    iprop(ownS (F := F) c ∗ unscopedSems0 c ∗ G I c)
      ⊢ |={Set.univ}=> iprop((bigSep Finset.univ fun k => iprop(∃ κ : ℕ, cellInv ER (Rd I) κ (kcell c k)))
          ∗ (bigSep Finset.univ fun k : Knd => atPos ER (kcell c k) 0 ∅ 0)
          ∗ (bigSep Finset.univ fun k : Knd => reached ER (kcell c k) 0) ∗ toks (F := F) c
          ∗ if c = 0 then BI.own (EL (Release.initSlots (Finset.univ : Finset KK) 200)) else iprop(emp)) := by
  unfold G
  rw [unscopedSems0_eq]
  iintro ⟨Hos, Hus, Hst, Hrest⟩
  ihave Hv := (Entails.of_eq (sems0_eq (F := F) c).symm) $$ [Hos Hus]
  · isplitl [Hus] <;> iassumption
  imod (show iprop((bigSep Finset.univ fun k : Knd => semVal (kcell c k) 0) ∗ bigSep Finset.univ fun k : Knd => roundState ER (Rd I) (kcell c k) 0)
      ⊢ (|={Set.univ}=> bigSep Finset.univ fun k => iprop(∃ κ : ℕ, cellInv ER (Rd I) κ (kcell c k)) : sProp 𝕄) from by
        rw [← bigSep_sep']
        exact (bigSep_mono fun k _ => (Rounds.body_intro ER (Rd I) (kcell c k)).trans inv_alloc).trans (bigSep_fupd _ _)) $$ [Hv Hst] with Hinv
  · isplitl [Hv] <;> iassumption
  imodintro
  isplitl [Hinv]; · iexact Hinv
  iexact Hrest

theorem bs_pers {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd I) κ (kcell c k)))
          ∗ (bigSep Finset.univ fun k : Knd => atPos ER (kcell c k) 0 ∅ 0)
          ∗ (bigSep Finset.univ fun k : Knd => reached ER (kcell c k) 0) ∗ toks (F := F) c
          ∗ if c = 0 then BI.own (EL (Release.initSlots (Finset.univ : Finset KK) 200)) else iprop(emp)) : sProp 𝕄)
      ⊢ |={Set.univ}=> bigSep Finset.univ (G' I) := by
  rw [bigSep_sep', bigSep_sep', bigSep_sep', bigSep_sep', ← bigSep_univ_prod (fun x : Dev nD × Knd => iprop(∃ κ : ℕ, cellInv ER (Rd I) κ (kcell x.1 x.2))),
    ← bigSep_univ_prod (fun x : Dev nD × Knd => (reached ER (kcell x.1 x.2) 0 : sProp 𝕄)),
    bigSep_univ_at (fun c : Dev nD => if c = 0 then (BI.own (EL (Release.initSlots (Finset.univ : Finset KK) 200)) : sProp 𝕄) else iprop(emp)) (0 : Dev nD), if_pos rfl]
  iintro ⟨HI, Hat, #HR, Htok, HS, -⟩
  ihave HK := (BI.bigSep_exists_pi Finset.univ (fun (x : Dev nD × Knd) (κ : ℕ) => (cellInv ER (Rd I) κ (kcell x.1 x.2) : sProp 𝕄))) $$ HI
  icases HK with ⟨%K, #HI⟩
  imod (Release.slots_init EL (Finset.univ : Finset KK) 200 (fun k => slotRes (F := F) k)) $$ HS with ⟨%KS, -, #HSI, Hrd, Hwt⟩
  ihave Hw := (wtoks_deal (F := F)) $$ Hwt
  icases Hw with ⟨Hw, Hl⟩
  ihave Hrd' := (Entails.of_eq (bigSep_univ_prod (fun k : KK => (Release.readerAt EL k 0 : sProp 𝕄)))) $$ Hrd
  imodintro
  iapply (bs_pers (R := Pub I K KS) (Φ := linear (F := F)) (Ψ := G' I) fun c _ => by
    unfold G'
    iintro ⟨#HP, HL⟩
    iexists K; iexists KS
    isplitr; · iexact HP
    iexact HL)
  isplitr
  · unfold Pub
    isplitr; · iexact HI
    isplitr; · iexact HR
    iexact HSI
  unfold linear
  simp only [bigSep_sep']
  isplitl [Hat]; · iexact Hat
  isplitl [Htok]; · iexact Htok
  isplitl [Hrd']; · iexact Hrd'
  isplitl [Hw]; · iexact Hw
  iexact Hl

theorem fupd_join {P Q : sProp 𝕄} (h : P ⊢ |={Set.univ}=> Q) : (|={Set.univ}=> P) ⊢ |={Set.univ}=> Q := by
  iintro H
  imod H with H
  iapply h
  iexact H

/-- All devices' semaphores at once. -/
theorem glob : (bigSep Finset.univ fun c => iprop(ownS (F := F) c ∗ unscopedSems0 c ∗ G I c) : sProp 𝕄)
    ⊢ |={Set.univ}=> bigSep Finset.univ (G' I) :=
  ((bigSep_mono fun c _ => core_alloc I c).trans (bigSep_fupd _ _)).trans (fupd_join (regroup I))

end Cert.KernelIdeal.Pf

end
-- ==== Proof.Ideal.Deal.lean ====
/-
# The rights to wait, and the entry
-/
module

public import proofs.«01_k».proof.Proof.Ideal.Fund

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)

/-! ## The rights to wait -/

/-- What step `t` of the others pays device `c`. -/
def inT (c : Dev nD) (t : ℕ) : CellTallies nD τ sig ℕ :=
  if t < 64 then
    if t = 2 then tallyAt (kcell c .bar) 2 1
    else if t = 3 then tallyAt (kcell c .bar) 3 1
    else 0
  else
    let dir := t % 2 == 0
    let h := t % 64 / 4
    if h < nh dir then
      if t % 4 < 2 then tallyAt (kcell c (.rs dir (sl h))) t N
      else tallyAt (kcell c (.cr dir)) t 1
    else 0

theorem sum_turn (dir : Bool) (f : Dev nD → CellTallies nD τ sig ℕ) : ∑ d, f (peer dir d) = ∑ d, f d := Equiv.sum_comp (turn dir) f
theorem sum_back (dir : Bool) (f : Dev nD → CellTallies nD τ sig ℕ) : ∑ d, f (back dir d) = ∑ d, f d := Equiv.sum_comp (turn dir).symm f

theorem sum_evT (t : ℕ) : ∑ d, evT d t = ∑ d, inT d t := by
  unfold evT inT
  by_cases h1 : t < 64
  · simp only [if_pos h1]
    by_cases h2 : t = 2
    · simp only [if_pos h2]; exact sum_turn false (fun d => tallyAt (kcell d .bar) 2 1)
    · simp only [if_neg h2]
      by_cases h3 : t = 3
      · simp only [if_pos h3]; exact sum_turn true (fun d => tallyAt (kcell d .bar) 3 1)
      · simp only [if_neg h3]
  · simp only [if_neg h1]
    by_cases h2 : t % 64 / 4 < nh (t % 2 == 0)
    · simp only [if_pos h2]
      by_cases h3 : t % 4 < 2
      · simp only [if_pos h3]; exact sum_turn _ (fun d => tallyAt (kcell d (.rs (t % 2 == 0) (sl (t % 64 / 4)))) t N)
      · simp only [if_neg h3]; exact sum_back _ (fun d => tallyAt (kcell d (.cr (t % 2 == 0))) t 1)
    · simp only [if_neg h2]

theorem inT_ne {c : Dev nD} {t : ℕ} {g : GSem nD τ sig} (h : inT c t g ≠ 0) : g.1 = (c : Thread nD τ) := by
  have key : ∀ (k : Knd) (t' n : ℕ), tallyAt (kcell c k) t' n g ≠ 0 → g.1 = (c : Thread nD τ) := by
    intro k t' n h
    by_contra hne
    exact h (tallyAt_ne_cell (fun e : g = kcell c k => hne (by rw [e])) t' n)
  have z : (0 : CellTallies nD τ sig ℕ) g ≠ 0 → g.1 = (c : Thread nD τ) := fun h => absurd rfl h
  unfold inT at h
  split at h
  · split at h
    · exact key _ _ _ h
    · split at h
      · exact key _ _ _ h
      · exact z h
  · dsimp only at h
    split at h
    · split at h
      · exact key _ _ _ h
      · exact key _ _ _ h
    · exact z h

theorem inT_send (c : Dev nD) (dir : Bool) (p h : ℕ) (hh : h < nh dir) :
    inT c (tS dir p h) = tallyAt (kcell c (.rs dir (sl h))) (tS dir p h) N := by
  have h16 := nh_le dir
  have e1 : ¬tS dir p h < 64 := by unfold tS; omega
  have e2 : (tS dir p h % 2 == 0) = dir := by cases dir <;> simp [tS] <;> omega
  have e3 : tS dir p h % 64 / 4 = h := by cases dir <;> simp [tS] <;> omega
  have e4 : tS dir p h % 4 < 2 := by cases dir <;> simp [tS] <;> omega
  unfold inT; rw [if_neg e1]; dsimp only; rw [e2, e3, if_pos hh, if_pos e4]
theorem inT_credit (c : Dev nD) (dir : Bool) (p h : ℕ) (hh : h < nh dir) :
    inT c (tC dir p h) = tallyAt (kcell c (.cr dir)) (tC dir p h) 1 := by
  have h16 := nh_le dir
  have e1 : ¬tC dir p h < 64 := by unfold tC; omega
  have e2 : (tC dir p h % 2 == 0) = dir := by cases dir <;> simp [tC] <;> omega
  have e3 : tC dir p h % 64 / 4 = h := by cases dir <;> simp [tC] <;> omega
  have e4 : ¬tC dir p h % 4 < 2 := by cases dir <;> simp [tC] <;> omega
  unfold inT; rw [if_neg e1]; dsimp only; rw [e2, e3, if_pos hh, if_neg e4]

theorem launch_eq (c : Dev nD) :
    (Pipeline.launchCred (fun d => OT d 2) c : sProp 𝕄) = cred (∑ t ∈ Finset.Ico 2 512, inT c t) := by
  refine Pipeline.launchCred_of_sum (fun d => OT d 2) (fun d => ∑ t ∈ Finset.Ico 2 512, inT d t) ?_ ?_ c
  · unfold OT
    rw [Finset.sum_comm, Finset.sum_comm (s := Finset.univ)]
    exact Finset.sum_congr rfl fun t _ => sum_evT t
  · intro d g h
    rw [Finset.sum_apply] at h
    obtain ⟨t, _, ht⟩ := Finset.exists_ne_zero_of_sum_ne_zero h
    exact inT_ne ht

theorem cred_many (S : Finset ℕ) (f : ℕ → CellTallies nD τ sig ℕ) : (cred (∑ t ∈ S, f t) : sProp 𝕄) ⊢ bigSep S (fun t => cred (f t)) := by
  induction S using Finset.induction_on with
  | empty => rw [bigSep_empty]; iintro -; iempintro
  | insert a s ha ih =>
    rw [Finset.sum_insert ha, bigSep_insert ha]
    refine BI.Entails.trans ((cred_add (f a) (∑ t ∈ s, f t)).1) (BI.sep_mono (BI.Entails.refl _) ih)

/-- The step of a transfer, or of a credit. -/
def tJ (x : J × Bool) : ℕ := if x.2 then tS x.1.1 x.1.2.1.val x.1.2.2.val else tC x.1.1 x.1.2.1.val x.1.2.2.val

theorem tJ_inj : Function.Injective tJ := by
  rintro ⟨⟨dir, p, h⟩, b⟩ ⟨⟨dir', p', h'⟩, b'⟩ e
  have hh := h.isLt
  have hh' := h'.isLt
  unfold tJ tS tC at e
  have key : dir = dir' ∧ p.val = p'.val ∧ h.val = h'.val ∧ b = b' := by
    cases dir <;> cases dir' <;> cases b <;> cases b' <;> simp at e ⊢ <;> omega
  obtain ⟨e1, e2, e3, e4⟩ := key
  rw [e1, Fin.ext e2, Fin.ext e3, e4]
theorem tJ_mem (x : J × Bool) : tJ x ∈ Finset.Ico 4 512 := by
  obtain ⟨⟨dir, p, h⟩, b⟩ := x
  have hh := h.isLt
  have hp := p.isLt
  rw [Finset.mem_Ico]
  unfold tJ tS tC
  cases dir <;> cases b <;> simp <;> omega

theorem creds (c : Dev nD) :
    (Pipeline.launchCred (fun d => OT d 2) c : sProp 𝕄)
      ⊢ iprop(cred (tallyAt (kcell c .bar) 2 1) ∗ cred (tallyAt (kcell c .bar) 3 1)
          ∗ bigSep Finset.univ (fun x : J => cred (inT c (tS x.1 x.2.1.val x.2.2.val)))
          ∗ bigSep Finset.univ (fun x : J => cred (inT c (tC x.1 x.2.1.val x.2.2.val)))) := by
  rw [launch_eq]
  refine BI.Entails.trans (cred_many _ _) ?_
  rw [bigSep_Ico_succ_bot (by decide), bigSep_Ico_succ_bot (by decide)]
  refine BI.sep_mono (BI.Entails.refl _) (BI.sep_mono (BI.Entails.refl _) ?_)
  refine BI.Entails.trans (bs_sub _ (Finset.univ : Finset (J × Bool)) tJ (fun x _ => tJ_mem x) (fun a _ b _ e => tJ_inj e) _) ?_
  rw [bigSep_univ_prod, ← bigSep_sep']
  refine bigSep_mono fun x _ => ?_
  rw [bs_bool]
  exact BI.Entails.refl _

/-! ## The entry -/

/-- All the rights of one hop. -/
def hopAll (c : Dev nD) (dir : Bool) (p h : ℕ) : sProp 𝕄 := if h < nh dir then
    iprop((hopTok (F := F) c dir p h ∗ rcvCred (F := F) c dir p h) ∗ creTok (F := F) c dir p h ∗ creCred (F := F) c dir p h) else iprop(emp)

/-- A device's rights of the hops of both directions, phase by phase. -/
theorem tk_intro (c : Dev nD) :
    iprop(toks (F := F) c ∗ wtoks (F := F) c
        ∗ bigSep Finset.univ (fun x : J => cred (inT c (tS x.1 x.2.1.val x.2.2.val)))
        ∗ bigSep Finset.univ (fun x : J => cred (inT c (tC x.1 x.2.1.val x.2.2.val))))
      ⊢ iprop((dutyTok ER (kcell (peer false c) .bar) 0 1 ∗ dutyTok ER (kcell (peer true c) .bar) 0 0)
          ∗ bigSep (Finset.Ico 0 7) (fun q => iprop(Tk (F := F) c true q 0 0 0 0 ∗ Tk (F := F) c false q 0 0 0 0))) := by
  have hb : bigSep Finset.univ (fun x : J => tok1 (F := F) ((c, x), 3))
      ⊢ iprop(dutyTok ER (kcell (peer false c) .bar) 0 1 ∗ dutyTok ER (kcell (peer true c) .bar) 0 0) := by
    refine BI.Entails.trans (bs_sub _ (Finset.univ : Finset Bool) (fun b => ((b, 0, 0) : J)) (fun _ _ => Finset.mem_univ _) (fun a _ b _ e => congrArg Prod.fst e) _) ?_
    rw [bs_bool]
    exact BI.Entails.refl _
  have h4 : toks (F := F) c ⊢ iprop(bigSep Finset.univ (fun x : J => tok1 (F := F) ((c, x), 0)) ∗ bigSep Finset.univ (fun x : J => tok1 (F := F) ((c, x), 1))
      ∗ bigSep Finset.univ (fun x : J => tok1 (F := F) ((c, x), 2)) ∗ bigSep Finset.univ (fun x : J => tok1 (F := F) ((c, x), 3))) := by
    unfold toks
    rw [← bigSep_sep', ← bigSep_sep', ← bigSep_sep']
    refine bigSep_mono fun x _ => ?_
    rw [bigSep_univ_eq_bigSepL [0, 1, 2, 3] (by decide) (by decide)]
    exact BI.Entails.refl _
  have hΦ : iprop(bigSep Finset.univ (fun x : J => tok1 (F := F) ((c, x), 0)) ∗ bigSep Finset.univ (fun x : J => tok1 (F := F) ((c, x), 1))
      ∗ bigSep Finset.univ (fun x : J => tok1 (F := F) ((c, x), 2)) ∗ wtoks (F := F) c
      ∗ bigSep Finset.univ (fun x : J => cred (inT c (tS x.1 x.2.1.val x.2.2.val)))
      ∗ bigSep Finset.univ (fun x : J => cred (inT c (tC x.1 x.2.1.val x.2.2.val))))
      ⊢ bigSep Finset.univ (fun x : J => hopAll (F := F) c x.1 x.2.1.val x.2.2.val) := by
    unfold wtoks
    rw [← bigSep_sep', ← bigSep_sep', ← bigSep_sep', ← bigSep_sep', ← bigSep_sep']
    refine bigSep_mono fun ⟨dir, p, h⟩ _ => ?_
    unfold hopAll
    dsimp only
    show BIBase.Entails (PROP := sProp 𝕄) _ _
    by_cases hh : h.val < nh dir
    · rw [if_pos hh, inT_send c dir p.val h.val hh, inT_credit c dir p.val h.val hh]
      unfold hopTok creTok rcvCred creCred
      by_cases hp : p.val % 2 = 1
      · have hw : (wKey (c, dir, p, h)).2 + 1 = 1 + rnd dir (p.val / 2) h.val := by
          show wNum (dir, p, h) + 1 = _
          unfold wNum; rw [if_pos ⟨hp, hh⟩, Nat.add_comm]
        rw [if_pos hp, hw]
        iintro ⟨H0, H1, H2, Hw, Hs, Hc⟩
        isplitr [H2 Hc]
        · isplitr [Hs]
          · isplitl [H0]; · iexact H0
            isplitl [H1]; · iexact H1
            iexact Hw
          iexact Hs
        isplitl [H2]; · iexact H2
        iexact Hc
      · rw [if_neg hp]
        iintro ⟨H0, H1, H2, -, Hs, Hc⟩
        isplitr [H2 Hc]
        · isplitr [Hs]
          · isplitl [H0]; · iexact H0
            isplitl [H1]; · iexact H1
            iempintro
          iexact Hs
        isplitl [H2]; · iexact H2
        iexact Hc
    · rw [if_neg hh]
      iintro -
      iempintro
  have hT : ∀ dir, bigSep (Finset.Ico 0 7) (fun q => bigSep (Finset.Ico 0 (nh dir)) (fun h => hopAll (F := F) c dir q h))
      ⊢ bigSep (Finset.Ico 0 7) (fun q => Tk (F := F) c dir q 0 0 0 0) := fun dir => bigSep_mono fun q _ => by
    unfold Tk
    refine BI.Entails.trans (bigSep_mono (Ψ := fun h => iprop((hopTok (F := F) c dir q h ∗ rcvCred (F := F) c dir q h) ∗ creTok (F := F) c dir q h ∗ creCred (F := F) c dir q h))
      fun h hh => by unfold hopAll; rw [if_pos (Finset.mem_Ico.mp hh).2]; exact BI.Entails.refl _) ?_
    rw [bigSep_sep', bigSep_sep', bigSep_sep']
    show BIBase.Entails (PROP := sProp 𝕄) _ _
    iintro ⟨⟨H1, H2⟩, H3, H4⟩
    isplitl [H1]; · iexact H1
    isplitl [H2]; · iexact H2
    isplitl [H3] <;> iassumption
  have hs := show BIBase.Entails (PROP := sProp 𝕄) _ _ from BI.Entails.trans hΦ (spread (hopAll (F := F) c))
  rw [bigSep_sep' (Finset.Ico 0 7)]
  iintro ⟨HT, HW, HS, HC⟩
  ihave HT := h4 $$ HT
  icases HT with ⟨H0, H1, H2, H3⟩
  isplitl [H3]; · iapply hb; iexact H3
  ihave H := hs $$ [H0 H1 H2 HW HS HC]
  · isplitl [H0]; · iexact H0
    isplitl [H1]; · iexact H1
    isplitl [H2]; · iexact H2
    isplitl [HW]; · iexact HW
    isplitl [HS] <;> iassumption
  icases H with ⟨HA, HB⟩
  ihave HA := (hT true) $$ HA
  ihave HB := (hT false) $$ HB
  isplitl [HA] <;> iassumption

theorem ent_intro (c : Dev nD) :
    iprop(linear (F := F) c ∗ Pipeline.launchCred (fun d => OT d 2) c
        ∗ (slotRes (F := F) (c, true, 0) ∗ slotRes (F := F) (c, true, 1)) ∗ (slotRes (F := F) (c, false, 0) ∗ slotRes (F := F) (c, false, 1)))
      ⊢ iprop(Ent (F := F) c ∗ lastTok (F := F) c true ∗ lastTok (F := F) c false) := by
  have hA : (bigSep Finset.univ fun k : Knd => (atPos ER (kcell c k) 0 ∅ 0 : sProp 𝕄))
      = iprop(atPos ER (kcell c .bar) 0 ∅ 0 ∗ atPos ER (kcell c (.cr true)) 0 ∅ 0 ∗ atPos ER (kcell c (.cr false)) 0 ∅ 0
        ∗ atPos ER (kcell c (.ss true 0)) 0 ∅ 0 ∗ atPos ER (kcell c (.ss true 1)) 0 ∅ 0 ∗ atPos ER (kcell c (.ss false 0)) 0 ∅ 0 ∗ atPos ER (kcell c (.ss false 1)) 0 ∅ 0
        ∗ atPos ER (kcell c (.rs true 0)) 0 ∅ 0 ∗ atPos ER (kcell c (.rs true 1)) 0 ∅ 0 ∗ atPos ER (kcell c (.rs false 0)) 0 ∅ 0 ∗ atPos ER (kcell c (.rs false 1)) 0 ∅ 0) := by
    rw [bigSep_univ_eq_bigSepL knds (by decide) (by decide)]; rfl
  have hR : (bigSep Finset.univ fun x : Bool × Fin 2 => (Release.readerAt EL ((c, x) : KK) 0 : sProp 𝕄))
      = iprop((Release.readerAt EL ((c, true, 0) : KK) 0 ∗ Release.readerAt EL ((c, true, 1) : KK) 0)
        ∗ Release.readerAt EL ((c, false, 0) : KK) 0 ∗ Release.readerAt EL ((c, false, 1) : KK) 0) := by
    rw [bigSep_univ_prod, bs_bool, bs_two, bs_two]
  unfold linear Ent Hs0 D0 Cr0
  rw [hA, hR, bs_two, bs_two]
  iintro ⟨⟨⟨AB, AC1, AC2, S1, S2, S3, S4, R1, R2, R3, R4⟩, HT, ⟨⟨L1, L2⟩, L3, L4⟩, HW, HL1, HL2⟩, HC, ⟨X1, X2⟩, X3, X4⟩
  ihave HC := (creds (F := F) c) $$ HC
  icases HC with ⟨B2, B3, CS, CC⟩
  ihave H := (tk_intro (F := F) c) $$ [HT HW CS CC]
  · isplitl [HT]; · iexact HT
    isplitl [HW]; · iexact HW
    isplitl [CS] <;> iassumption
  icases H with ⟨⟨D1, D2⟩, HT⟩
  isplitr [HL1 HL2]
  · isplitl [AB D1 D2 B2 B3]
    · isplitl [AB]; · iexact AB
      isplitl [D1]; · iexact D1
      isplitl [D2]; · iexact D2
      isplitl [B2] <;> iassumption
    isplitl [AC1 S1 S2 R1 R2 L1 L2 X1 X2]
    · isplitr [AC1]
      · isplitl [S1 R1 L1 X1]
        · isplitl [S1 R1]
          · isplitl [S1] <;> iassumption
          isplitl [L1] <;> iassumption
        isplitl [S2 R2]
        · isplitl [S2] <;> iassumption
        isplitl [L2] <;> iassumption
      iexact AC1
    isplitl [AC2 S3 S4 R3 R4 L3 L4 X3 X4]
    · isplitr [AC2]
      · isplitl [S3 R3 L3 X3]
        · isplitl [S3 R3]
          · isplitl [S3] <;> iassumption
          isplitl [L3] <;> iassumption
        isplitl [S4 R4]
        · isplitl [S4] <;> iassumption
        isplitl [L4] <;> iassumption
      iexact AC2
    iexact HT
  isplitl [HL1] <;> iassumption

end Cert.KernelIdeal.Pf

end
-- ==== Proof.Ideal.ProgEq.lean ====
/- # The printed body is the loops' body -/
module

public import proofs.«01_k».proof.Proof.Ideal.Prog
public import Idealize.ShloMosaic.Lib.Pipeline.Regions

@[expose] public section

noncomputable section

namespace Cert.KernelIdeal.Pf

open Idealize.ShloMosaic Idealize.ShloMosaic.TcCoe Idealize.SL.Sem
open Cert.KernelIdeal Cert.KernelIdeal.Gen

variable {F : FTy → Type} [FloatOps F]

/-- The printed body on the launch's buffers, read step by step. -/
theorem body_eq :
    cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0)
      (Memref.isWhole_whole _) (Memref.whole cc0_scratch1) (Memref.isWhole_whole _) (Memref.whole cc0_scratch2)
      (Memref.isWhole_whole _) (Memref.whole cc0_scratch3) (Memref.isWhole_whole _) cc0_scratch4 cc0_scratch5 cc0_scratch6
      cc0_scratch7 cc0_scratch8 cc0_scratch9
    = (Prog.lift .deviceId >>= fun d => prog (printed d)) := by
  chain_rfl

end Cert.KernelIdeal.Pf

end
-- ==== Proof.Ideal.Launch.lean ====
/-
# The launch: the library's launch theorem at the kernel's resources

Each device starts from its part of the shared ghost state, its credit of the launch and its scratch buffers, and
ends with every counter at zero, its arguments as they were and its result the blocks after the third layer.
-/
module

public import proofs.«01_k».proof.Proof.Ideal.Deal
public import proofs.«01_k».proof.Proof.Ideal.ProgEq
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)
open Idealize.ShloMosaic.Pipeline (Dat BodyObligation)
omit I K KS

variable [hne : ∀ e, Nonempty (Elt F e)]
variable (m : (ℓ : Loc nD τ sig) → Buf (Elt F) ℓ) (ρ : Dev nD → PrngReg)

/-- The launch's machine state. -/
def s₀ : MemSt nD τ sig (Elt F) := ⟨m, fun _ => 0, ρ⟩

/-- Every device's arguments, as the windows read them. -/
def insOf : Ins F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg3))
    | _ => (win0_5.blk (0 : Fin 1)).view.read (Elt F) (m ((c : Thread nD τ).loc main_arg5))
  wo l c := match l with
    | 0 => (win0_2.blk (0 : Fin 1)).view.read (Elt F) (m ((c : Thread nD τ).loc main_arg2))
    | 1 => (win0_4.blk (0 : Fin 1)).view.read (Elt F) (m ((c : Thread nD τ).loc main_arg4))
    | _ => (win0_6.blk (0 : Fin 1)).view.read (Elt F) (m ((c : Thread nD τ).loc main_arg6))

/-- The result: the blocks after the third layer. -/
def outOf (_c : Dev nD) : S8192x256.Idx → Elt F .f32 := joinAt rb (Xs (insOf m) 3)

/-- What a device's body starts from, beside its scratch buffers. -/
def start (c : Dev nD) : sProp 𝕄 := iprop(G' (insOf m) c ∗ Pipeline.launchCred (fun d => OT d 2) c ∗ levAts LL lvv)

/-- A buffer of a device at some contents. -/
abbrev anyAt (c : Dev nD) (b : Ref sig .tc) : sProp 𝕄 :=
  iprop(∃ f : Buf (Elt F) ((c : Thread nD τ).loc b), ((c : Thread nD τ).loc b) ↦{fullShare} f)

/-- The four scratch buffers. -/
def scr (c : Dev nD) : sProp 𝕄 := iprop(anyAt (F := F) c cc0_scratch0 ∗ anyAt (F := F) c cc0_scratch1 ∗ anyAt (F := F) c cc0_scratch2 ∗ anyAt (F := F) c cc0_scratch3)

def Φ₀ (c : Dev nD) : sProp 𝕄 := iprop(start m c ∗ scr (F := F) c)
def Φ₁ (c : Dev nD) : sProp 𝕄 := iprop((bigSep Finset.univ fun k : Knd => semVal (kcell c k) 0) ∗ scr (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (insOf m).x c
    | ⟨1, _⟩ => (insOf m).wi 0 c
    | ⟨2, _⟩ => (insOf m).wo 0 c
    | ⟨3, _⟩ => (insOf m).wi 1 c
    | ⟨4, _⟩ => (insOf m).wo 1 c
    | ⟨5, _⟩ => (insOf m).wi 2 c
    | ⟨6, _⟩ => (insOf m).wo 2 c
    | ⟨7, _⟩ => outOf m c
  Φ t := match t with
    | ⟨0, _⟩ => Φ₀ m c
    | ⟨_ + 1, _⟩ => Φ₁ c
  q _ := fullShare
  owed t := match t with
    | ⟨0, _⟩ => OT c 2
    | ⟨_ + 1, _⟩ => 0

omit hne in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit hne in
theorem any_owns (c : Dev nD) (b : Ref sig .tc) : anyAt (F := F) c b ⊢ iprop(∃ X : b.ty.Contents (Elt F), owns (c : Thread nD τ) (Memref.whole b) fullShare X) := by
  iintro ⟨%f, H⟩
  iexists f
  rw [owns_whole_eq]
  iexists f
  isplitr; · (ipureintro; rfl)
  iexact H

omit hne in
theorem owns_any (c : Dev nD) (b : Ref sig .tc) : iprop(∃ X : b.ty.Contents (Elt F), owns (c : Thread nD τ) (Memref.whole b) fullShare X) ⊢ anyAt (F := F) c b := by
  simp only [owns_whole_eq]
  iintro ⟨%X, %f, %hf, H⟩
  iexists f
  iexact H

omit hne in
/-- The body begins by reading its device's number. -/
theorem body_wp (c : Dev nD) (g : Dev nD → PR F PUnit) (Kt : PUnit → sProp 𝕄) :
    WP c (g c) Kt ⊢ wp frame (wpE (defs₀ (F := F)) 𝒱₀ (c : Thread nD τ) none) Set.univ (Prog.lift .deviceId >>= fun d => g d : PR F PUnit) Kt := by
  simp only [Prog.lift, Prog.bind_op, Prog.bind_ret, Prog.pure_eq_ret, wp_deviceId]
  exact BI.Entails.refl _

theorem OT_end (c : Dev nD) : OT c 512 = 0 := by
  have h (n : ℕ) (f : ℕ → CellTallies nD τ sig ℕ) : ∑ t ∈ Finset.Ico n n, f t = 0 := by rw [Finset.Ico_self, Finset.sum_empty]
  exact h 512 (evT c)

/-- The scratch buffers cut into the kernel's pieces. -/
theorem scr_open (c : Dev nD) : scr (F := F) c ⊢ iprop(ownxAll (F := F) c 0 ∗ ownxAll (F := F) c 1
      ∗ (slotRes (c, true, 0) ∗ slotRes (c, true, 1)) ∗ slotRes (c, false, 0) ∗ slotRes (F := F) (c, false, 1)) := by
  have hs (dir : Bool) : (bigSep Finset.univ fun s : Fin 2 => (slotRes (F := F) (c, dir, s) : sProp 𝕄)) = iprop(slotRes (F := F) (c, dir, 0) ∗ slotRes (F := F) (c, dir, 1)) :=
    bigSep_univ_eq_bigSepL [0, 1] (by decide) (by decide) _
  unfold scr
  iintro ⟨H0, H1, H2, H3⟩
  ihave H0 := (any_owns c cc0_scratch0) $$ H0
  ihave H1 := (any_owns c cc0_scratch1) $$ H1
  ihave H2 := (any_owns c cc0_scratch2) $$ H2
  ihave H3 := (any_owns c cc0_scratch3) $$ H3
  icases H0 with ⟨%X0, H0⟩
  icases H1 with ⟨%X1, H1⟩
  icases H2 with ⟨%X2, H2⟩
  icases H3 with ⟨%X3, H3⟩
  isplitl [H0]; · iapply (buf_split c 0 X0); iexact H0
  isplitl [H1]; · iapply (buf_split c 1 X1); iexact H1
  isplitl [H2]
  · iapply ((comm_split c true X2).trans (Entails.of_eq (hs true))); iexact H2
  iapply ((comm_split c false X3).trans (Entails.of_eq (hs false))); iexact H3

/-- The pieces joined again. -/
theorem scr_close (c : Dev nD) : iprop(ownxAll (F := F) c 0 ∗ ownxAll (F := F) c 1
      ∗ (slotRes (c, true, 0) ∗ slotRes (c, true, 1)) ∗ slotRes (c, false, 0) ∗ slotRes (F := F) (c, false, 1)) ⊢ scr (F := F) c := by
  have hs (dir : Bool) : (bigSep Finset.univ fun s : Fin 2 => (slotRes (F := F) (c, dir, s) : sProp 𝕄)) = iprop(slotRes (F := F) (c, dir, 0) ∗ slotRes (F := F) (c, dir, 1)) :=
    bigSep_univ_eq_bigSepL [0, 1] (by decide) (by decide) _
  unfold scr
  iintro ⟨H0, H1, H2, H3⟩
  isplitl [H0]
  · iapply (owns_any c cc0_scratch0); iapply (buf_joinx c 0); iexact H0
  isplitl [H1]
  · iapply (owns_any c cc0_scratch1); iapply (buf_joinx c 1); iexact H1
  isplitl [H2]
  · iapply (owns_any c cc0_scratch2); iapply ((Entails.of_eq (hs true).symm).trans (comm_join c true)); iexact H2
  iapply (owns_any c cc0_scratch3); iapply ((Entails.of_eq (hs false).symm).trans (comm_join c false)); iexact H3

/-- The seven staged arguments. -/
def argsAt (c : Dev nD) : sProp 𝕄 :=
  iprop(stgX (insOf m) c ∗ wts (insOf m) c 0 ∗ wts (insOf m) c 1 ∗ wts (insOf m) c 2)

/-- The kernel's body from the launch's resources to the launch's resources. -/
theorem body_run (c : Dev nD) (Y : S8192x256.Idx → Elt F .f32) :
    iprop(Φ₀ m c ∗ OW (F := F) c 2 ∗ argsAt m c ∗ owns (c : Thread nD τ) (bufM 2) fullShare Y)
      ⊢ WP c (prog (F := F) (printed c)) (fun _ => iprop(Φ₁ (F := F) c ∗ OW (F := F) c 512 ∗ argsAt m c
          ∗ owns (c : Thread nD τ) (bufM 2) fullShare (outOf m c))) := by
  unfold Φ₀ start G' argsAt
  iintro ⟨⟨⟨⟨%K, %KS, #HP, Hl⟩, Hcr, #Hlev⟩, Hscr⟩, HO, ⟨Hx, Hw⟩, H2⟩
  ihave #HG := (Pub_glob (insOf m) K KS) $$ [HP Hlev]
  · isplitr; · iexact HP
    iexact Hlev
  ihave Hs := (scr_open c) $$ Hscr
  icases Hs with ⟨Hb0, Hb1, Hct, Hcf⟩
  ihave He := (ent_intro c) $$ [Hl Hcr Hct Hcf]
  · isplitl [Hl]; · iexact Hl
    isplitl [Hcr]; · iexact Hcr
    isplitl [Hct]; · iexact Hct
    iexact Hcf
  icases He with ⟨HE, Hlt, Hlf⟩
  ihave Hb2 := (buf_split c 2 Y) $$ H2
  ihave Hwp := (prog_spec (insOf m) K KS c) $$ [HO HE Hx Hw Hb0 Hb1 Hb2]
  · isplitr; · iexact HG
    isplitl [HO]; · iexact HO
    isplitl [HE]; · iexact HE
    isplitl [Hx]; · iexact Hx
    isplitl [Hw]; · iexact Hw
    isplitl [Hb0]; · iexact Hb0
    isplitl [Hb1]; · iexact Hb1
    iexact Hb2
  unfold WP
  iapply (wp_fupd _ _ _ _ _)
  iapply wp_wand $$ Hwp
  iintro %u ⟨HO, Hbar, HN, Hx, Hw, Hb0, Hb1, Hb2⟩
  imod (fin_spec (insOf m) K KS c) $$ [Hbar HN Hlt Hlf] with ⟨Hz, Hzz, Hst, Hsf⟩
  · isplitr; · iexact HG
    isplitl [Hbar]; · iexact Hbar
    isplitl [HN]; · iexact HN
    isplitl [Hlt]; · iexact Hlt
    iexact Hlf
  imodintro
  unfold Φ₁
  isplitl [Hz Hzz Hb0 Hb1 Hst Hsf]
  · isplitl [Hz Hzz]
    · iapply (zeros_all c)
      isplitl [Hz]; · iexact Hz
      iexact Hzz
    iapply (scr_close c)
    isplitl [Hb0]; · iexact Hb0
    isplitl [Hb1]; · iexact Hb1
    isplitl [Hst]; · iexact Hst
    iexact Hsf
  isplitl [HO]; · iexact HO
  isplitl [Hx Hw]
  · isplitl [Hx]; · iexact Hx
    iexact Hw
  unfold outOf
  iapply (buf_join c 2 (Xs (insOf m) 3)); iexact Hb2

/-- A staging buffer of a device at given contents. -/
abbrev stg (c : Dev nD) (b : Ref sig .tc) (X : b.ty.Contents (Elt F)) : sProp 𝕄 :=
  owns (c : Thread nD τ) (Memref.whole b) fullShare X

def bodyPre (c : Dev nD) : sProp 𝕄 :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost (c : Dev nD) : sProp 𝕄 :=
  iprop(Φ₁ (F := F) c ∗ (dats m ρ 0 c).owesAt 0 t0_0.succ
    ∗ stg c cc0_stg0_0 ((insOf m).x c)
    ∗ stg c cc0_stg1_0 ((insOf m).wi 0 c) ∗ stg c cc0_stg2_0 ((insOf m).wo 0 c)
    ∗ stg c cc0_stg3_0 ((insOf m).wi 1 c) ∗ stg c cc0_stg4_0 ((insOf m).wo 1 c)
    ∗ stg c cc0_stg5_0 ((insOf m).wi 2 c) ∗ stg c cc0_stg6_0 ((insOf m).wo 2 c)
    ∗ stg c cc0_stg7_0 (outOf m c))

/-! Before the body a staging buffer of an argument holds the argument. -/

theorem before_0 (c : Dev nD) d : (dats m ρ 0 c).before (0 : Fin 8) t0_0 d = (insOf m).x c := by
  unfold Dat.before; rw [if_pos (fetch0_0 _)]; rfl
theorem before_1 (c : Dev nD) d : (dats m ρ 0 c).before (1 : Fin 8) t0_0 d = (insOf m).wi 0 c := by
  unfold Dat.before; rw [if_pos (fetch0_1 _)]; rfl
theorem before_2 (c : Dev nD) d : (dats m ρ 0 c).before (2 : Fin 8) t0_0 d = (insOf m).wo 0 c := by
  unfold Dat.before; rw [if_pos (fetch0_2 _)]; rfl
theorem before_3 (c : Dev nD) d : (dats m ρ 0 c).before (3 : Fin 8) t0_0 d = (insOf m).wi 1 c := by
  unfold Dat.before; rw [if_pos (fetch0_3 _)]; rfl
theorem before_4 (c : Dev nD) d : (dats m ρ 0 c).before (4 : Fin 8) t0_0 d = (insOf m).wo 1 c := by
  unfold Dat.before; rw [if_pos (fetch0_4 _)]; rfl
theorem before_5 (c : Dev nD) d : (dats m ρ 0 c).before (5 : Fin 8) t0_0 d = (insOf m).wi 2 c := by
  unfold Dat.before; rw [if_pos (fetch0_5 _)]; rfl
theorem before_6 (c : Dev nD) d : (dats m ρ 0 c).before (6 : Fin 8) t0_0 d = (insOf m).wo 2 c := by
  unfold Dat.before; rw [if_pos (fetch0_6 _)]; rfl

theorem pre_open (c : Dev nD) : bodyPre m ρ c ⊢ iprop(∃ Y : S8192x256.Idx → Elt F .f32, Φ₀ m c ∗ OW (F := F) c 2 ∗ argsAt m c
    ∗ owns (c : Thread nD τ) (bufM 2) fullShare Y) := by
  unfold bodyPre argsAt stgX wts Dat.owesAt Pipeline.owesWithin OW
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (stg c cc0_stg0_0) (before_0 m ρ c d0))) $$ H0
  ihave H1 := (Entails.of_eq (congrArg (stg c cc0_stg1_0) (before_1 m ρ c d1))) $$ H1
  ihave H2 := (Entails.of_eq (congrArg (stg c cc0_stg2_0) (before_2 m ρ c d2))) $$ H2
  ihave H3 := (Entails.of_eq (congrArg (stg c cc0_stg3_0) (before_3 m ρ c d3))) $$ H3
  ihave H4 := (Entails.of_eq (congrArg (stg c cc0_stg4_0) (before_4 m ρ c d4))) $$ H4
  ihave H5 := (Entails.of_eq (congrArg (stg c cc0_stg5_0) (before_5 m ρ c d5))) $$ H5
  ihave H6 := (Entails.of_eq (congrArg (stg c cc0_stg6_0) (before_6 m ρ c d6))) $$ H6
  iexists _
  isplitl [HΦ]; · iexact HΦ
  isplitl [HO]
  · iexists W; iexact HO
  isplitl [H0 H1 H2 H3 H4 H5 H6]
  · isplitl [H0]; · iexact H0
    isplitl [H1 H2]
    · isplitl [H1]; · iexact H1
      iexact H2
    isplitl [H3 H4]
    · isplitl [H3]; · iexact H3
      iexact H4
    isplitl [H5]; · iexact H5
    iexact H6
  iexact H7

theorem post_close (c : Dev nD) : iprop(Φ₁ (F := F) c ∗ OW (F := F) c 512 ∗ argsAt m c
    ∗ owns (c : Thread nD τ) (bufM 2) fullShare (outOf m c)) ⊢ bodyPost m ρ c := by
  unfold bodyPost argsAt stgX wts Dat.owesAt Pipeline.owesWithin OW
  rw [OT_end]
  iintro ⟨HΦ, ⟨%W, HO⟩, ⟨H0, ⟨H1, H2⟩, ⟨H3, H4⟩, H5, H6⟩, H7⟩
  isplitl [HΦ]; · iexact HΦ
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body: the device's number, then the program at it. -/
def full : PR F PUnit := Prog.lift .deviceId >>= fun d => prog (printed d)

theorem body_full (c : Dev nD) : bodyPre m ρ c ⊢ wp frame (wpE (defs₀ (F := F)) 𝒱₀ (c : Thread nD τ) none) Set.univ
      full (fun _ => bodyPost m ρ c) := by
  iintro H
  ihave H := (pre_open m ρ c) $$ H
  icases H with ⟨%Y, H⟩
  ihave Hr := (body_run m c Y) $$ H
  unfold full
  iapply (body_wp c (fun d => prog (printed d)) (fun _ => bodyPost m ρ c))
  unfold WP
  iapply wp_wand $$ Hr
  iintro %u H
  iapply (post_close m ρ c); iexact H

set_option maxRecDepth 8000 in
/-- The call at the one point is the printed body. -/
theorem call_eq : (defs₀ (F := F)) .tc cfg0.body (cfg0.bodyArgs t0_0 (cfg0.slots t0_0)) = full :=
  Eq.trans rfl body_eq

theorem pre_eq (c : Dev nD) : iprop((dats (F := F) m ρ 0 c).Φ t0_0.castSucc ∗ (dats (F := F) m ρ 0 c).owesAt 0 t0_0.castSucc
        ∗ bigSep Finset.univ fun w : Fin cfg0.W => iprop(∃ d, owns (c : Thread nD τ) ((cfg0.win w).stage (cfg0.slots t0_0 w)) fullShare ((dats m ρ 0 c).before w t0_0 d)))
      = bodyPre m ρ c := by
  rw [bigSep_W0]; rfl

theorem body_pre (c : Dev nD) (Q : sProp 𝕄) (hQ : bodyPost m ρ c = Q) :
    iprop((dats (F := F) m ρ 0 c).Φ t0_0.castSucc ∗ (dats (F := F) m ρ 0 c).owesAt 0 t0_0.castSucc
        ∗ bigSep Finset.univ fun w : Fin cfg0.W => iprop(∃ d, owns (c : Thread nD τ) ((cfg0.win w).stage (cfg0.slots t0_0 w)) fullShare ((dats m ρ 0 c).before w t0_0 d)))
      ⊢ wp frame (wpE (defs₀ (F := F)) 𝒱₀ (c : Thread nD τ) none) Set.univ
          ((defs₀ (F := F)) .tc cfg0.body (cfg0.bodyArgs t0_0 (cfg0.slots t0_0))) (fun _ => Q) := by
  subst hQ
  rw [pre_eq, call_eq]
  convert body_full m ρ c using 1

/-- The library's body obligation on a device. -/
theorem body_obligation (c : Dev nD) : BodyObligation (dats (F := F) m ρ 0 c) (defs₀ (F := F)) 𝒱₀ 0 Set.univ := fun t => by
  rw [fin_N0 t]
  refine body_pre m ρ c _ ?_
  rw [bigSep_W0]
  rfl

/-! ## The launch theorem's side conditions -/

theorem share_eq (c : Dev nD) (w : Fin cfg0.W) : (dats m ρ 0 c).share w = fullShare := by unfold Dat.share; split <;> rfl

theorem LL_off (g : GSem nD τ sig) (h : g.1.2 ≠ .tc) : LL g = ∅ := if_neg h

theorem start_intro (c : Dev nD) :
    iprop(Pipeline.unscopedRestP Pipeline.Prefetch.none cfg0.spec c (fun b => m ((c : Thread nD τ).loc b)) ∗ levAts LL lvv
        ∗ Pipeline.launchCred (fun d => OT d 2) c ∗ prngReg c (ρ c) ∗ G' (insOf m) c)
      ⊢ |={Set.univ}=> iprop(start m c ∗ emp) := by
  iintro ⟨-, Hlev, Hcr, -, HG⟩
  imodintro
  unfold start
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scr
  iintro ⟨Hz, Hr⟩
  ihave Hz := (Entails.of_eq (sems0_eq (F := F) c)) $$ Hz
  unfold ownS
  icases Hz with ⟨Hb, Ho⟩
  isplitl [Hb]; · iexact Hb
  isplitl [Ho]; · iexact Ho
  iexact Hr

theorem waits (c : Dev nD) : (levAts LL lvv : sProp 𝕄) ⊢ Pipeline.cellsWaits cfgs (dats m ρ) 0 0 c :=
  Pipeline.cellsWaits_intro cfgs (dats m ρ) 0 0 c fun w s t => by
    rcases t with ⟨_ | _, ht⟩
    · exact mayOwe (F := F) c 2 {(_, 0)} (fun x hx => by rw [Finset.mem_singleton.mp hx]; exact Nat.succ_pos 1) (Nat.succ_pos 1) (by decide)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- At the mesh of 32 devices, for any float values, from any memory with zero counters: every weakly fair execution of
    the program ends, with the arguments as they were, the result at its value and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => OT d 2) (howed₀ := fun _ => rfl) (howedN := fun _ => rfl)
    (L := LL) (lv := lvv) (hL := LL_off) (hwaits := waits m ρ)
    (G := G (insOf m)) (G' := G' (insOf m)) (u₀ := u₀)
    (hu₀ := by
      unfold u₀
      iintro Hu
      ihave H := (ownU_pair _ _) $$ Hu
      icases H with ⟨HP, HX⟩
      ihave HX' := (own_pair_emb embR _ _) $$ HX
      imod (fund_ring (insOf m)) $$ HX' with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pf

end
-- ==== Proof.Ideal.Final.lean ====
/-
# The run read off: the arguments, the result and the semaphores at the end

The launch's windows are whole arrays, so the windows' contents are the arrays' contents.
-/
module

public import proofs.«01_k».proof.Proof.Ideal.Launch
public import Idealize.ShloMosaic.Lib.Pipeline.Value

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F) (K : Dev nD × Knd → ℕ) (KS : KK → ℕ)
open Idealize.ShloMosaic.Pipeline (Dat BodyObligation)
omit I K KS

variable [hne : ∀ e, Nonempty (Elt F e)]
variable (m : (ℓ : Loc nD τ sig) → Buf (Elt F) ℓ) (ρ : Dev nD → PrngReg)

/-! ## The windows' contents -/

omit hne in
theorem x_eq (c : Dev nD) : (insOf m).x c = m ((c : Thread nD τ).loc main_arg0) :=
  funext fun y => congrArg (m ((c : Thread nD τ).loc main_arg0)) (funext fun a => Fin.ext (Pipeline.Window.rect_emb_val_of_index_zero win0_0 t0_0 a rfl y))
omit hne in
theorem wi0_eq (c : Dev nD) : (insOf m).wi 0 c = m ((c : Thread nD τ).loc main_arg1) :=
  funext fun y => congrArg (m ((c : Thread nD τ).loc main_arg1)) (funext fun a => Fin.ext (Pipeline.Window.rect_emb_val_of_index_zero win0_1 t0_0 a rfl y))
omit hne in
theorem wo0_eq (c : Dev nD) : (insOf m).wo 0 c = m ((c : Thread nD τ).loc main_arg2) :=
  funext fun y => congrArg (m ((c : Thread nD τ).loc main_arg2)) (funext fun a => Fin.ext (Pipeline.Window.rect_emb_val_of_index_zero win0_2 t0_0 a rfl y))
omit hne in
theorem wi1_eq (c : Dev nD) : (insOf m).wi 1 c = m ((c : Thread nD τ).loc main_arg3) :=
  funext fun y => congrArg (m ((c : Thread nD τ).loc main_arg3)) (funext fun a => Fin.ext (Pipeline.Window.rect_emb_val_of_index_zero win0_3 t0_0 a rfl y))
omit hne in
theorem wo1_eq (c : Dev nD) : (insOf m).wo 1 c = m ((c : Thread nD τ).loc main_arg4) :=
  funext fun y => congrArg (m ((c : Thread nD τ).loc main_arg4)) (funext fun a => Fin.ext (Pipeline.Window.rect_emb_val_of_index_zero win0_4 t0_0 a rfl y))
omit hne in
theorem wi2_eq (c : Dev nD) : (insOf m).wi 2 c = m ((c : Thread nD τ).loc main_arg5) :=
  funext fun y => congrArg (m ((c : Thread nD τ).loc main_arg5)) (funext fun a => Fin.ext (Pipeline.Window.rect_emb_val_of_index_zero win0_5 t0_0 a rfl y))
omit hne in
theorem wo2_eq (c : Dev nD) : (insOf m).wo 2 c = m ((c : Thread nD τ).loc main_arg6) :=
  funext fun y => congrArg (m ((c : Thread nD τ).loc main_arg6)) (funext fun a => Fin.ext (Pipeline.Window.rect_emb_val_of_index_zero win0_6 t0_0 a rfl y))

/-- The one point's block of the result is the whole result. -/
theorem out_emb (y : S8192x256.Idx) : ((cfg0.win (7 : Fin 8)).blk t0_0).view.emb y = y :=
  funext fun a => Fin.ext (Pipeline.Window.rect_emb_val_of_index_zero win0_7 t0_0 a rfl y)

/-- The result array ends holding the blocks after the third layer. -/
theorem out_eq (c : Dev nD) : finalA m ρ c (7 : Fin 8) = outOf m c :=
  (dats (F := F) m ρ 0 c).arrAt_eq_of_cover (7 : Fin 8) (outOf m c)
    (fun t _ => by
      rw [fin_N0 t]
      exact funext fun y => (congrArg (outOf m c) (out_emb y)).symm)
    (fun i => ⟨t0_0, flush0_7 _, Finset.mem_map.mpr ⟨i, Finset.mem_univ _, out_emb i⟩⟩)

/-! ## The end -/

/-- A final memory with the arguments as they were. -/
def Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

theorem kept_of (r : PUnit × MemSt nD τ sig (Elt F)) (h : QC m ρ r) (c : Dev nD) : Kept m r.2 c :=
  ⟨(h c (0 : Fin 8)).trans ((dats (F := F) m ρ 0 c).arrAt_in (0 : Fin 8) rfl _),
   (h c (1 : Fin 8)).trans ((dats (F := F) m ρ 0 c).arrAt_in (1 : Fin 8) rfl _),
   (h c (2 : Fin 8)).trans ((dats (F := F) m ρ 0 c).arrAt_in (2 : Fin 8) rfl _),
   (h c (3 : Fin 8)).trans ((dats (F := F) m ρ 0 c).arrAt_in (3 : Fin 8) rfl _),
   (h c (4 : Fin 8)).trans ((dats (F := F) m ρ 0 c).arrAt_in (4 : Fin 8) rfl _),
   (h c (5 : Fin 8)).trans ((dats (F := F) m ρ 0 c).arrAt_in (5 : Fin 8) rfl _),
   (h c (6 : Fin 8)).trans ((dats (F := F) m ρ 0 c).arrAt_in (6 : Fin 8) rfl _)⟩

/-- The program's runs end, with the arguments kept, the result at its value and every counter at zero. -/
theorem run_full : θ_run defs (onTc (τ := τ) (main (F := F))) (s₀ m ρ)
    (fun r => (∀ c : Dev nD, Kept m r.2 c ∧ r.2.mem ((c.tc : Thread nD τ).loc main_v1) = outOf m c) ∧ r.2.sem = fun _ => 0) :=
  (θ_run defs (onTc (τ := τ) (main (F := F))) (s₀ m ρ)).mono (fun r h => ⟨fun c => ⟨kept_of m ρ r h.1 c, (h.1 c (7 : Fin 8)).trans (out_eq m ρ c)⟩, h.2⟩) (run_main m ρ)

end Cert.KernelIdeal.Pf

end
-- ==== Proof.Ideal.Value.lean ====
/-
# The value: what the devices hold at the end is the reference's result

A reduce-scatter sums the partial products of the 32 devices, and a layer's product over the hidden width is the sum
over the devices of the products over their parts of it.
-/
module

public import proofs.«01_k».proof.Proof.Ideal.Final
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.PureOps.Ideal.Laws

@[expose] public section

noncomputable section

namespace Cert.KernelIdeal.Pf

open Cert.KernelIdeal Cert.KernelIdeal.Gen
open Idealize.ShloMosaic
open Idealize.ShloMosaic.TcCoe
open Idealize.ShloMosaic.ValueIdx Idealize.ShloMosaic.StackMember

/-! ## What a reduce-scatter sums -/

theorem addf_at {s : Shape} (x y : FVec Ideal s .f32) (i : s.Idx) : addf x y i = (x i + y i : EReal) := rfl

theorem sentOf_sum (P : Dev nD → Dev nD → Blk Ideal) (dir : Bool) (y : S256x256.Idx) : ∀ (h : ℕ) (c : Dev nD), h ≤ nh dir →
    (sentOf P dir h c y : EReal) = ∑ i ∈ Finset.range (h + 1), (P (pos dir c i) (rsPos dir c h) y : EReal)
  | 0, c, _ => by rw [Finset.sum_range_one, pos_zero]; rfl
  | h + 1, c, hh => by
    rw [Finset.sum_range_succ', pos_zero]
    show (addf (P c (rsPos dir c (h + 1))) (sentOf P dir h (back dir c)) y : EReal) = _
    rw [addf_at, sentOf_sum P dir y h (back dir c) (by omega), add_comm]
    congr 1
    refine Finset.sum_congr rfl fun i _ => ?_
    rw [pos_back, rsPos_back dir c h hh]

/-- The last thing received is the sum, over the devices on that side, of what they computed of the own block. -/
theorem sent_last (P : Dev nD → Dev nD → Blk Ideal) (dir : Bool) (n : ℕ) (hn : n + 1 = nh dir) (c : Dev nD) (y : S256x256.Idx) :
    (sentOf P dir n (back dir c) y : EReal) = ∑ i ∈ Finset.range (n + 1), (P (pos dir c (i + 1)) c y : EReal) := by
  rw [sentOf_sum P dir y n (back dir c) (by omega), rsPos_back dir c n (by omega), hn, rsPos_last]
  refine Finset.sum_congr rfl fun i _ => ?_
  rw [pos_back]

/-- The devices, from `c`: itself, the 15 on the one side and the 16 on the other. -/
theorem sum_around (f : Dev nD → EReal) (c : Dev nD) :
    f c + ∑ i ∈ Finset.range 15, f (pos false c (i + 1)) + ∑ i ∈ Finset.range 16, f (pos true c (i + 1)) = ∑ e : Dev nD, f e := by
  have h1 : ∑ e : Dev nD, f e = ∑ k ∈ Finset.range 32, f (pos false c k) := by
    refine (Finset.sum_bij (fun (k : ℕ) (_ : k ∈ Finset.range 32) => pos false c k) (fun _ _ => Finset.mem_univ _) ?_ ?_ (fun _ _ => rfl)).symm
    · intro a ha b hb hab
      have ha := Finset.mem_range.mp ha
      have hb := Finset.mem_range.mp hb
      have hv : (pos false c a).val = (pos false c b).val := congrArg Fin.val hab
      have hc : c.val < 32 := c.isLt
      simp only [pos] at hv
      simp at hv
      omega
    · intro e _
      have hc : c.val < 32 := c.isLt
      have he : e.val < 32 := e.isLt
      refine ⟨(e.val + 32 - c.val) % 32, Finset.mem_range.mpr (Nat.mod_lt _ (by decide)), ?_⟩
      apply Fin.ext
      simp only [pos]
      simp
      omega
  have h2 : ∑ k ∈ Finset.range 32, f (pos false c k) =
      ∑ k ∈ Finset.range 16, f (pos false c k) + ∑ k ∈ Finset.range 16, f (pos false c (16 + k)) :=
    Finset.sum_range_add (fun k => f (pos false c k)) 16 16
  have h3 : ∑ k ∈ Finset.range 16, f (pos false c k) = f c + ∑ i ∈ Finset.range 15, f (pos false c (i + 1)) := by
    rw [Finset.sum_range_succ', pos_zero, add_comm]
  have h4 : ∑ k ∈ Finset.range 16, f (pos false c (16 + k)) = ∑ i ∈ Finset.range 16, f (pos true c (i + 1)) := by
    rw [← Finset.sum_range_reflect (fun k => f (pos false c (16 + k))) 16]
    refine Finset.sum_congr rfl fun i hi => congrArg f (Fin.ext ?_)
    have hi := Finset.mem_range.mp hi
    have hc : c.val < 32 := c.isLt
    simp only [pos]
    simp
    omega
  rw [h1, h2, h3, h4]

theorem redOf_sum (P : Dev nD → Dev nD → Blk Ideal) (c : Dev nD) (y : S256x256.Idx) :
    (redOf P c y : EReal) = ∑ e : Dev nD, (P e c y : EReal) := by
  show (addf (addf (P c c) (sentOf P false 14 (back false c))) (sentOf P true 15 (back true c)) y : EReal) = _
  rw [addf_at, addf_at, sent_last P false 14 rfl, sent_last P true 15 rfl]
  exact sum_around (fun e => (P e c y : EReal)) c

/-! ## A device's part of a layer, and the whole layer -/

theorem zero_bits : (Scalar.ofBits (F := Ideal) .f32 0x00000000#32 : EReal) = 0 := Ideal.ofBits_zero_f32

theorem part_at (wi : FVec Ideal S256x512 .f32) (wo : FVec Ideal S512x256 .f32) (x : FVec Ideal S256x256 .f32) (r q : Fin 256) :
    (part wi wo x (ix2 r q) : EReal) =
      ∑ k : Fin 512, max (∑ a : Fin 256, (x (ix2 r a) * wi (ix2 a k) : EReal)) 0 * (wo (ix2 k q) : EReal) := by
  unfold part
  refine (Ideal.matmul_plain_apply (M := 256) (K := 512) (N := 256) none _ wo _ r q).trans ?_
  rw [show (constant (F := Ideal) S256x256 .f32 0x00000000#32 (ix2 r q) : EReal) = 0 from zero_bits, zero_add]
  refine Finset.sum_congr rfl fun k _ => congrArg (· * (wo (ix2 k q) : EReal)) ?_
  refine congrArg₂ (max : EReal → EReal → EReal) ?_ zero_bits
  refine (Ideal.matmul_plain_apply (M := 256) (K := 256) (N := 512) none x wi _ r k).trans ?_
  rw [show (constant (F := Ideal) S256x512 .f32 0x00000000#32 (ix2 r k) : EReal) = 0 from zero_bits, zero_add]

/-- A layer as the reference computes it. -/
def whole (Y : FVec Ideal S8192x256 .f32) (Wi : FVec Ideal Cert.ReferenceIdeal.S256x16384 .f32) (Wo : FVec Ideal Cert.ReferenceIdeal.S16384x256 .f32) :
    FVec Ideal S8192x256 .f32 :=
  Host.dotGeneral Cert.ReferenceIdeal.dot_S8192x16384_S16384x256_S8192x256_1_0_0_1_n_n none
    (maximumf (Host.dotGeneral Cert.ReferenceIdeal.dot_S8192x256_S256x16384_S8192x16384_1_0_0_1_n_n none Y Wi)
      (broadcastInDim Cert.ReferenceIdeal.S8192x16384 ![] Cert.ReferenceIdeal.Gen.bcast_S_S8192x16384
        (constant Cert.ReferenceIdeal.S_ .f32 0x00000000#32))) Wo

theorem whole_at (Y : FVec Ideal S8192x256 .f32) (Wi : FVec Ideal Cert.ReferenceIdeal.S256x16384 .f32) (Wo : FVec Ideal Cert.ReferenceIdeal.S16384x256 .f32)
    (r : Fin 8192) (q : Fin 256) :
    (whole Y Wi Wo (ix2 r q) : EReal) =
      ∑ k : Fin 16384, max (∑ a : Fin 256, (Y (ix2 r a) * Wi (ix2 a k) : EReal)) 0 * (Wo (ix2 k q) : EReal) := by
  unfold whole
  refine (dotGeneral_plain_apply (m := 8192) (k := 16384) (n := 256) none _ Wo r q).trans ?_
  refine Finset.sum_congr rfl fun k _ => congrArg (· * (Wo (ix2 k q) : EReal)) ?_
  refine congrArg₂ (max : EReal → EReal → EReal) ?_ zero_bits
  exact dotGeneral_plain_apply (m := 8192) (k := 256) (n := 16384) none Y Wi r k

/-- A sum over the hidden width, device by device. -/
theorem sum_hidden (f : Fin 16384 → EReal) :
    ∑ k : Fin 16384, f k = ∑ c : Dev nD, ∑ k : Fin 512, f ⟨c.val * 512 + k.val, by have : c.val < 32 := c.isLt; omega⟩ := by
  have h := Equiv.sum_comp (finProdFinEquiv (m := 32) (n := 512)) (fun k : Fin (32 * 512) => f k)
  refine h.symm.trans ((Fintype.sum_prod_type _).trans ?_)
  refine Finset.sum_congr rfl fun c _ => Finset.sum_congr rfl fun k _ => congrArg f (Fin.ext ?_)
  show k.val + 512 * c.val = c.val * 512 + k.val
  omega

abbrev blkX (j : Dev nD) (Y : FVec Ideal S8192x256 .f32) : Blk Ideal := Layout.block ⟨2, ![256, 256]⟩ ⟨2, ![8192, 256]⟩ 0 32 j Y
abbrev blkI (j : Dev nD) (W : FVec Ideal Cert.ReferenceIdeal.S256x16384 .f32) : FVec Ideal S256x512 .f32 :=
  Layout.block ⟨2, ![256, 512]⟩ ⟨2, ![256, 16384]⟩ 1 32 j W
abbrev blkO (j : Dev nD) (W : FVec Ideal Cert.ReferenceIdeal.S16384x256 .f32) : FVec Ideal S512x256 .f32 :=
  Layout.block ⟨2, ![512, 256]⟩ ⟨2, ![16384, 256]⟩ 0 32 j W

theorem blkX_at (j : Dev nD) (Y : FVec Ideal S8192x256 .f32) (r q : Fin 256) :
    blkX j Y (ix2 r q) = Y (ix2 ⟨j.val * 256 + r.val, by have : j.val < 32 := j.isLt; omega⟩ q) :=
  congrArg Y (funext fun a => match a with | ⟨0, _⟩ => rfl | ⟨1, _⟩ => rfl)
theorem blkI_at (j : Dev nD) (W : FVec Ideal Cert.ReferenceIdeal.S256x16384 .f32) (r : Fin 256) (q : Fin 512) :
    blkI j W (ix2 r q) = W (ix2 r ⟨j.val * 512 + q.val, by have : j.val < 32 := j.isLt; omega⟩) :=
  congrArg W (funext fun a => match a with | ⟨0, _⟩ => rfl | ⟨1, _⟩ => rfl)
theorem blkO_at (j : Dev nD) (W : FVec Ideal Cert.ReferenceIdeal.S16384x256 .f32) (r : Fin 512) (q : Fin 256) :
    blkO j W (ix2 r q) = W (ix2 ⟨j.val * 512 + r.val, by have : j.val < 32 := j.isLt; omega⟩ q) :=
  congrArg W (funext fun a => match a with | ⟨0, _⟩ => rfl | ⟨1, _⟩ => rfl)

/-- A layer of the kernel, block by block, is the reference's layer. -/
theorem layer_eq (Y : FVec Ideal S8192x256 .f32) (Wi : FVec Ideal Cert.ReferenceIdeal.S256x16384 .f32) (Wo : FVec Ideal Cert.ReferenceIdeal.S16384x256 .f32)
    (X : Dev nD → Blk Ideal) (wi : Dev nD → FVec Ideal S256x512 .f32) (wo : Dev nD → FVec Ideal S512x256 .f32)
    (hX : ∀ j, X j = blkX j Y) (hi : ∀ c, wi c = blkI c Wi) (ho : ∀ c, wo c = blkO c Wo) (j : Dev nD) :
    redOf (fun c i => part (wi c) (wo c) (X i)) j = blkX j (whole Y Wi Wo) := by
  funext y
  obtain ⟨r, q, rfl⟩ : ∃ (r q : Fin 256), y = ix2 r q := ⟨y 0, y 1, eq_ix2 y⟩
  refine (redOf_sum _ j _).trans (Eq.trans ?_ ((blkX_at j _ r q).trans (whole_at Y Wi Wo _ q)).symm)
  rw [sum_hidden]
  refine Finset.sum_congr rfl fun c _ => ?_
  rw [hX, hi, ho]
  refine (part_at _ _ _ _ _).trans (Finset.sum_congr rfl fun k _ => ?_)
  rw [blkO_at]
  refine congrArg (fun z : EReal => max z 0 * _) (Finset.sum_congr rfl fun a _ => ?_)
  rw [blkX_at, blkI_at]

/-! ## The whole result -/

theorem rb_idx (j : Dev nD) (y : S256x256.Idx) :
    (rb j).emb y = Layout.Tiles.idx (by decide : Layout.Tiles ⟨2, ![256, 256]⟩ ⟨2, ![8192, 256]⟩ 0 32) j y := by
  funext a
  apply Fin.ext
  match a with
  | ⟨0, _⟩ => show 256 * j.val + 1 * (y 0).val = j.val * 256 + (y 0).val; omega
  | ⟨1, _⟩ => show 0 + 1 * (y 1).val = (y 1).val; omega

theorem join_blocks (Z : FVec Ideal S8192x256 .f32) (X : Dev nD → Blk Ideal) (h : ∀ j, X j = blkX j Z) :
    joinAt (A := Ideal .f32) rb X = Z := by
  funext i
  have hi : i ∈ (Finset.univ : Finset (Dev nD)).biUnion (fun j => (rb j).set) := by rw [rb_cover]; exact Finset.mem_univ _
  obtain ⟨j, -, hj⟩ := Finset.mem_biUnion.mp hi
  rw [← Rect.map_emb_univ] at hj
  obtain ⟨y, -, rfl⟩ := Finset.mem_map.mp hj
  refine (joinAt_emb rb rb_disj X j y).trans ?_
  rw [h j, rb_idx]
  rfl

section

variable (m : (ℓ : Loc nD τ sig) → Buf (Elt Ideal) ℓ)

theorem out_whole (Y : FVec Ideal S8192x256 .f32) (A0 A1 A2 : FVec Ideal Cert.ReferenceIdeal.S256x16384 .f32)
    (B0 B1 B2 : FVec Ideal Cert.ReferenceIdeal.S16384x256 .f32)
    (h0 : ∀ c : Dev nD, m ((c.tc : Thread nD τ).loc main_arg0) = blkX c Y)
    (h1 : ∀ c : Dev nD, m ((c.tc : Thread nD τ).loc main_arg1) = blkI c A0)
    (h2 : ∀ c : Dev nD, m ((c.tc : Thread nD τ).loc main_arg2) = blkO c B0)
    (h3 : ∀ c : Dev nD, m ((c.tc : Thread nD τ).loc main_arg3) = blkI c A1)
    (h4 : ∀ c : Dev nD, m ((c.tc : Thread nD τ).loc main_arg4) = blkO c B1)
    (h5 : ∀ c : Dev nD, m ((c.tc : Thread nD τ).loc main_arg5) = blkI c A2)
    (h6 : ∀ c : Dev nD, m ((c.tc : Thread nD τ).loc main_arg6) = blkO c B2) (c : Dev nD) :
    outOf m c = whole (whole (whole Y A0 B0) A1 B1) A2 B2 := by
  refine join_blocks _ _ fun j => ?_
  refine layer_eq _ A2 B2 _ _ _ (fun j => ?_) (fun c => (wi2_eq m c).trans (h5 c)) (fun c => (wo2_eq m c).trans (h6 c)) j
  refine layer_eq _ A1 B1 _ _ _ (fun j => ?_) (fun c => (wi1_eq m c).trans (h3 c)) (fun c => (wo1_eq m c).trans (h4 c)) j
  exact layer_eq _ A0 B0 _ _ _ (fun j => (x_eq m j).trans (h0 j)) (fun c => (wi0_eq m c).trans (h1 c)) (fun c => (wo0_eq m c).trans (h2 c)) j

end

end Cert.KernelIdeal.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Ideal.Final
public import proofs.«01_k».proof.Proof.Ideal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem kernel_quiescent : quiescent_Kernel (hKernel := Cert.Kernel.Gen.facts) := fun m g _ =>
  (θ_run _ _ _).mono (fun _ h => ⟨fun c => (h.1 c).1, h.2⟩) (Cert.Kernel.Pf.run_full (F := Bits) m g)

theorem ideal_quiescent : quiescent_KernelIdeal (hKernelIdeal := Cert.KernelIdeal.Gen.facts) := fun m g _ =>
  (θ_run _ _ _).mono (fun _ h => ⟨fun c => (h.1 c).1, h.2⟩) (Cert.KernelIdeal.Pf.run_full (F := Ideal) m g)

theorem reference_quiescent : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The kernel's result, on each device, is the reference's. -/
theorem algebraic : algebraic_KernelIdeal_ReferenceIdeal (hKernelIdeal := Cert.KernelIdeal.Gen.facts) (hReferenceIdeal := Cert.ReferenceIdeal.Gen.facts) :=
  fun m g m' g' _ hm =>
  ⟨_, (θ_run _ _ _).mono (fun r h c => ⟨(h.1 c).2.trans (Cert.KernelIdeal.Pf.out_whole m _ _ _ _ _ _ _ (fun c => (hm c).1) (fun c => (hm c).2.1)
        (fun c => (hm c).2.2.1) (fun c => (hm c).2.2.2.1) (fun c => (hm c).2.2.2.2.1) (fun c => (hm c).2.2.2.2.2.1) (fun c => (hm c).2.2.2.2.2.2) c),
        (h.1 c).1⟩) (Cert.KernelIdeal.Pf.run_full (F := Ideal) m g),
    (θ_run _ _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  kernel_quiescent, ideal_quiescent, reference_quiescent, trivial, algebraic⟩

end Cert.Proof

end
